-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))).1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))).2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))).2.2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))).2.2.2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))).2.2.2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))).1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))).2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))).2.2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))).2.2.2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))).2.2.2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v28) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v74) = v1 c
          ∧ r.2.mem ((c.tc : Thread Cert.Reference12Ideal.nD Cert.Reference12Ideal.τ).loc Cert.Reference12Ideal.main_v22) = v2 c
          ∧ r.2.mem ((c.tc : Thread Cert.Reference12Ideal.nD Cert.Reference12Ideal.τ).loc Cert.Reference12Ideal.main_v57) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v33) = v0 c
          ∧ r.2.mem ((c.tc : Thread Cert.Reference13Ideal.nD Cert.Reference13Ideal.τ).loc Cert.Reference13Ideal.main_v53) = v1 c
          ∧ r.2.mem ((c.tc : Thread Cert.Reference13Ideal.nD Cert.Reference13Ideal.τ).loc Cert.Reference13Ideal.main_v36) = v2 c
          ∧ r.2.mem ((c.tc : Thread Cert.Reference13Ideal.nD Cert.Reference13Ideal.τ).loc Cert.Reference13Ideal.main_v54) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v46) = v0 c
          ∧ r.2.mem ((c.tc : Thread Cert.Reference15Ideal.nD Cert.Reference15Ideal.τ).loc Cert.Reference15Ideal.main_v45) = v1 c
          ∧ r.2.mem ((c.tc : Thread Cert.Reference15Ideal.nD Cert.Reference15Ideal.τ).loc Cert.Reference15Ideal.main_v47) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v55) = v0 c
          ∧ r.2.mem ((c.tc : Thread Cert.Reference16Ideal.nD Cert.Reference16Ideal.τ).loc Cert.Reference16Ideal.main_v53) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v68) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v6)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v6) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v22) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S2048x3840 : Shape := ⟨2, ![2048, 3840]⟩
abbrev S4x1536 : Shape := ⟨2, ![4, 1536]⟩
abbrev S3x2048x512 : Shape := ⟨3, ![3, 2048, 512]⟩
abbrev S2048x1536 : Shape := ⟨2, ![2048, 1536]⟩
abbrev S_ : Shape := ⟨0, ![]⟩

class Facts : Prop where
  slices_S2048x3840_S2048x1536_0_1536 : S2048x3840.Slices ![0, 1536] S2048x1536
  bcast_S_S2048x1536 : S_.BroadcastsInDim S2048x1536 (![] : Fin 0 → Fin S2048x1536.rank)
  bcast_S_S4x1536 : S_.BroadcastsInDim S4x1536 (![] : Fin 0 → Fin S4x1536.rank)
  bcast_S_S3x2048x512 : S_.BroadcastsInDim S3x2048x512 (![] : Fin 0 → Fin S3x2048x512.rank)

variable [Facts]

def fn {F : FTy → Type} [FloatOps F] (main_arg0 : FVec F S2048x3840 .f32) (main_arg1 : FVec F S4x1536 .f32) (main_arg2 : FVec F S3x2048x512 .f32) (main_arg3 : FVec F S2048x3840 .bf16) : IVec S2048x1536 1 × IVec S4x1536 1 × IVec S3x2048x512 1 :=
  let main_v0 : FVec F S2048x1536 .f32 := (extractStridedSlice S2048x1536 ![0, 1536] · slices_S2048x3840_S2048x1536_0_1536) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_v4 : FVec F S4x1536 .f32 := Host.absf main_arg1
  let main_cst_0 : FVec F S_ .f32 := constant S_ .f32 0x7F800000#32
  let main_v5 : FVec F S4x1536 .f32 := broadcastInDim S4x1536 ![] bcast_S_S4x1536 main_cst_0
  let main_v6 : IVec S4x1536 1 := cmpf .olt main_v4 main_v5
  let main_v7 : FVec F S3x2048x512 .f32 := Host.absf main_arg2
  let main_cst_1 : FVec F S_ .f32 := constant S_ .f32 0x7F800000#32
  let main_v8 : FVec F S3x2048x512 .f32 := broadcastInDim S3x2048x512 ![] bcast_S_S3x2048x512 main_cst_1
  let main_v9 : IVec S3x2048x512 1 := cmpf .olt main_v7 main_v8
  (main_v3, main_v6, main_v9)
-- ==== Pre_finite16.lean ====
abbrev S2048x3840 : Shape := ⟨2, ![2048, 3840]⟩
abbrev S1x8 : Shape := ⟨2, ![1, 8]⟩
abbrev S1x4 : Shape := ⟨2, ![1, 4]⟩
abbrev S2048x128 : Shape := ⟨2, ![2048, 128]⟩
abbrev S2048x4 : Shape := ⟨2, ![2048, 4]⟩
abbrev S_ : Shape := ⟨0, ![]⟩

class Facts : Prop where
  slices_S2048x3840_S2048x4_0_3596 : S2048x3840.Slices ![0, 3596] S2048x4
  bcast_S_S2048x4 : S_.BroadcastsInDim S2048x4 (![] : Fin 0 → Fin S2048x4.rank)
  bcast_S_S1x4 : S_.BroadcastsInDim S1x4 (![] : Fin 0 → Fin S1x4.rank)
  slices_S2048x128_S2048x4_0_12 : S2048x128.Slices ![0, 12] S2048x4

variable [Facts]

def fn {F : FTy → Type} [FloatOps F] (main_arg0 : FVec F S2048x3840 .f32) (main_arg1 : FVec F S1x8 .f32) (main_arg2 : FVec F S1x4 .f32) (main_arg3 : FVec F S1x4 .f32) (main_arg4 : FVec F S2048x128 .f32) (main_arg5 : FVec F S2048x128 .f32) (main_arg6 : FVec F S2048x3840 .bf16) : IVec S2048x4 1 × IVec S1x4 1 × IVec S1x4 1 × IVec S2048x4 1 × IVec S2048x4 1 :=
  let main_v0 : FVec F S2048x4 .f32 := (extractStridedSlice S2048x4 ![0, 3596] · slices_S2048x3840_S2048x4_0_3596) main_arg0
  let main_v1 : FVec F S2048x4 .f32 := Host.absf main_v0
  let main_cst : FVec F S_ .f32 := constant S_ .f32 0x7F800000#32
  let main_v2 : FVec F S2048x4 .f32 := broadcastInDim S2048x4 ![] bcast_S_S2048x4 main_cst
  let main_v3 : IVec S2048x4 1 := cmpf .olt main_v1 main_v2
  let main_v4 : FVec F S1x4 .f32 := Host.absf main_arg2
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_v7 : FVec F S1x4 .f32 := Host.absf main_arg3
  let main_cst_1 : FVec F S_ .f32 := constant S_ .f32 0x7F800000#32
  let main_v8 : FVec F S1x4 .f32 := broadcastInDim S1x4 ![] bcast_S_S1x4 main_cst_1
  let main_v9 : IVec S1x4 1 := cmpf .olt main_v7 main_v8
  let main_v10 : FVec F S2048x4 .f32 := (extractStridedSlice S2048x4 ![0, 12] · slices_S2048x128_S2048x4_0_12) main_arg4
  let main_v11 : FVec F S2048x4 .f32 := Host.absf main_v10
  let main_cst_2 : FVec F S_ .f32 := constant S_ .f32 0x7F800000#32
  let main_v12 : FVec F S2048x4 .f32 := broadcastInDim S2048x4 ![] bcast_S_S2048x4 main_cst_2
  let main_v13 : IVec S2048x4 1 := cmpf .olt main_v11 main_v12
  let main_v14 : FVec F S2048x4 .f32 := (extractStridedSlice S2048x4 ![0, 12] · slices_S2048x128_S2048x4_0_12) main_arg5
  let main_v15 : FVec F S2048x4 .f32 := Host.absf main_v14
  let main_cst_3 : FVec F S_ .f32 := constant S_ .f32 0x7F800000#32
  let main_v16 : FVec F S2048x4 .f32 := broadcastInDim S2048x4 ![] bcast_S_S2048x4 main_cst_3
  let main_v17 : IVec S2048x4 1 := cmpf .olt main_v15 main_v16
  (main_v3, main_v6, main_v9, main_v13, main_v17)
-- ==== Kernel.lean ====
abbrev S2048x3840 : Shape := ⟨2, ![2048, 3840]⟩
abbrev S4x1536 : Shape := ⟨2, ![4, 1536]⟩
abbrev S3x2048x512 : Shape := ⟨3, ![3, 2048, 512]⟩
abbrev S2048x128 : Shape := ⟨2, ![2048, 128]⟩
abbrev S4x128 : Shape := ⟨2, ![4, 128]⟩
abbrev S1x2048x128 : Shape := ⟨3, ![1, 2048, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S3x2048x512, .f32⟩
  | .hbm, ⟨3, _⟩ => ⟨S2048x3840, .bf16⟩
  | .hbm, ⟨4, _⟩ => ⟨S2048x3840, .bf16⟩
  | .hbm, ⟨5, _⟩ => ⟨S4x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x3840 : Shape := ⟨2, ![2048, 3840]⟩
abbrev S4x1536 : Shape := ⟨2, ![4, 1536]⟩
abbrev S3x2048x512 : Shape := ⟨3, ![3, 2048, 512]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩
abbrev S1x2048x512 : Shape := ⟨3, ![1, 2048, 512]⟩

abbrev nBuf : Space → Nat
  | .hbm => 205
  | .vmem => 0
  | .smem => 0
  | _ => 0

abbrev hbmTy0_0 (i : Nat) : BufTy := match i % 128 with
  | 0 => ⟨S2048x3840, .f32⟩
  | 1 => ⟨S4x1536, .f32⟩
  | 2 => ⟨S3x2048x512, .f32⟩
  | 3 => ⟨S2048x3840, .bf16⟩
  | 4 => ⟨S2048x1536, .f32⟩
  | 5 => ⟨S_, .f32⟩
  | 6 => ⟨S3x1536, .f32⟩
  | 7 => ⟨S2051x1536, .f32⟩
  | 8 => ⟨S_, .f32⟩
  | 9 => ⟨S3x1536, .f32⟩
  | 10 => ⟨S2048x1536, .f32⟩
  | 11 => ⟨S1x1536, .f32⟩
  | 12 => ⟨S1536, .f32⟩
  | 13 => ⟨S1x1536, .f32⟩
  | 14 => ⟨S2048x1536, .f32⟩
  | 15 => ⟨S2048x1536, .f32⟩
  | 16 => ⟨S_, .f32⟩
  | 17 => ⟨S2048x1536, .f32⟩
  | 18 => ⟨S2048x1536, .f32⟩
  | 19 => ⟨S2048x1536, .f32⟩
  | 20 => ⟨S1x1536, .f32⟩
  | 21 => ⟨S1536, .f32⟩
  | 22 => ⟨S1x1536, .f32⟩
  | 23 => ⟨S2048x1536, .f32⟩
  | 24 => ⟨S2048x1536, .f32⟩
  | 25 => ⟨S2048x1536, .f32⟩
  | 26 => ⟨S2048x1536, .f32⟩
  | 27 => ⟨S1x1536, .f32⟩
  | 28 => ⟨S1536, .f32⟩
  | 29 => ⟨S1x1536, .f32⟩
  | 30 => ⟨S2048x1536, .f32⟩
  | 31 => ⟨S2048x1536, .f32⟩
  | 32 => ⟨S2048x1536, .f32⟩
  | 33 => ⟨S2048x1536, .f32⟩
  | 34 => ⟨S1x1536, .f32⟩
  | 35 => ⟨S1536, .f32⟩
  | 36 => ⟨S1x1536, .f32⟩
  | 37 => ⟨S2048x1536, .f32⟩
  | 38 => ⟨S2048x1536, .f32⟩
  | 39 => ⟨S2048x1536, .f32⟩
  | 40 => ⟨S2048x1536, .f32⟩
  | 41 => ⟨S2048x1536, .f32⟩
  | 42 => ⟨S_, .f32⟩
  | 43 => ⟨S2048x1536, .f32⟩
  | 44 => ⟨S2048x1536, .f32⟩
  | 45 => ⟨S_, .f32⟩
  | 46 => ⟨S2048x1536, .f32⟩
  | 47 => ⟨S2048x1536, .f32⟩
  | 48 => ⟨S_, .f32⟩
  | 49 => ⟨S2048x1536, .f32⟩
  | 50 => ⟨S2048x1536, .f32⟩
  | 51 => ⟨S2048x1536, .f32⟩
  | 52 => ⟨S2048x1536, .f32⟩
  | 53 => ⟨S2048x512, .f32⟩
  | 54 => ⟨S2048x512, .f32⟩
  | 55 => ⟨S2048x512, .f32⟩
  | 56 => ⟨S2048x4x128, .f32⟩
  | 57 => ⟨S2048x4x128, .f32⟩
  | 58 => ⟨S2048x4x128, .f32⟩
  | 59 => ⟨S_, .f32⟩
  | 60 => ⟨S2048x4, .f32⟩
  | 61 => ⟨S2048x4x1, .f32⟩
  | 62 => ⟨S_, .f32⟩
  | 63 => ⟨S2048x4x1, .f32⟩
  | 64 => ⟨S2048x4x1, .f32⟩
  | 65 => ⟨S2048x4x1, .f32⟩
  | 66 => ⟨S2048x4x1, .f32⟩
  | 67 => ⟨S_, .f32⟩
  | 68 => ⟨S2048x4x1, .f32⟩
  | 69 => ⟨S2048x4x1, .f32⟩
  | 70 => ⟨S2048x4x128, .f32⟩
  | 71 => ⟨S2048x4x128, .f32⟩
  | 72 => ⟨S_, .f32⟩
  | 73 => ⟨S2048x4x128, .f32⟩
  | 74 => ⟨S2048x4x128, .f32⟩
  | 75 => ⟨S2048x4x128, .f32⟩
  | 76 => ⟨S_, .f32⟩
  | 77 => ⟨S2048x4, .f32⟩
  | 78 => ⟨S2048x4x1, .f32⟩
  | 79 => ⟨S_, .f32⟩
  | 80 => ⟨S2048x4x1, .f32⟩
  | 81 => ⟨S2048x4x1, .f32⟩
  | 82 => ⟨S2048x4x1, .f32⟩
  | 83 => ⟨S2048x4x1, .f32⟩
  | 84 => ⟨S_, .f32⟩
  | 85 => ⟨S2048x4x1, .f32⟩
  | 86 => ⟨S2048x4x1, .f32⟩
  | 87 => ⟨S2048x4x128, .f32⟩
  | 88 => ⟨S2048x4x128, .f32⟩
  | 89 => ⟨S2048x512, .f32⟩
  | 90 => ⟨S2048x512, .f32⟩
  | 91 => ⟨S1x2048x512, .f32⟩
  | 92 => ⟨S1x2048x512, .f32⟩
  | 93 => ⟨S1x2048x512, .f32⟩
  | 94 => ⟨S3x2048x512, .f32⟩
  | 95 => ⟨S1x2048x512, .f32⟩
  | 96 => ⟨S2048x512, .f32⟩
  | 97 => ⟨S1x2048x512, .f32⟩
  | 98 => ⟨S2048x512, .f32⟩
  | 99 => ⟨S1x2048x512, .f32⟩
  | 100 => ⟨S2048x512, .f32⟩
  | 101 => ⟨S2048x4x128, .f32⟩
  | 102 => ⟨S2048x4x128, .f32⟩
  | 103 => ⟨S2048x4x128, .f32⟩
  | 104 => ⟨S_, .f32⟩
  | 105 => ⟨S2048x4, .f32⟩
  | 106 => ⟨S2048x4x1, .f32⟩
  | 107 => ⟨S2048x4x128, .f32⟩
  | 108 => ⟨S2048x4x128, .f32⟩
  | 109 => ⟨S2048x4x1, .f32⟩
  | 110 => ⟨S_, .f32⟩
  | 111 => ⟨S2048x4, .f32⟩
  | 112 => ⟨S2048x4x128, .f32⟩
  | 113 => ⟨S2048x4x128, .f32⟩
  | 114 => ⟨S2048x4x128, .f32⟩
  | 115 => ⟨S2048x4x128, .f32⟩
  | 116 => ⟨S2048x4x128, .f32⟩
  | 117 => ⟨S_, .f32⟩
  | 118 => ⟨S2048x4x128, .f32⟩
  | 119 => ⟨S2048x4x128, .f32⟩
  | 120 => ⟨S2048x4x128, .f32⟩
  | 121 => ⟨S_, .f32⟩
  | 122 => ⟨S2048x4, .f32⟩
  | 123 => ⟨S2048x4x1, .f32⟩
  | 124 => ⟨S2048x4x128, .f32⟩
  | 125 => ⟨S2048x4x128, .f32⟩
  | 126 => ⟨S2048x4x1, .f32⟩
  | 127 => ⟨S_, .f32⟩
  | _ => ⟨S2048x3840, .f32⟩

abbrev hbmTy0_1 (i : Nat) : BufTy := match i % 128 with
  | 0 => ⟨S2048x4, .f32⟩
  | 1 => ⟨S2048x4x128, .f32⟩
  | 2 => ⟨S2048x4x128, .f32⟩
  | 3 => ⟨S2048x4x128, .f32⟩
  | 4 => ⟨S2048x4x128, .f32⟩
  | 5 => ⟨S2048x4x128, .f32⟩
  | 6 => ⟨S2048x512, .f32⟩
  | 7 => ⟨S2048x512, .f32⟩
  | 8 => ⟨S2048x1536, .f32⟩
  | 9 => ⟨S2048x1536, .f32⟩
  | 10 => ⟨S2048x1536, .f32⟩
  | 11 => ⟨S2048x1536, .f32⟩
  | 12 => ⟨S2048x1536, .f32⟩
  | 13 => ⟨S2048x1536, .f32⟩
  | 14 => ⟨S_, .f32⟩
  | 15 => ⟨S1536, .f32⟩
  | 16 => ⟨S1x1536, .f32⟩
  | 17 => ⟨S2048x1536, .f32⟩
  | 18 => ⟨S2048x1536, .f32⟩
  | 19 => ⟨S_, .f32⟩
  | 20 => ⟨S1536, .f32⟩
  | 21 => ⟨S1x1536, .f32⟩
  | 22 => ⟨S_, .f32⟩
  | 23 => ⟨S4x1536, .f32⟩
  | 24 => ⟨S_, .f32⟩
  | 25 => ⟨S2051x1536, .f32⟩
  | 26 => ⟨S2048x1536, .f32⟩
  | 27 => ⟨S_, .f32⟩
  | 28 => ⟨S1536, .f32⟩
  | 29 => ⟨S1x1536, .f32⟩
  | 30 => ⟨S2048x1536, .f32⟩
  | 31 => ⟨S2048x1536, .f32⟩
  | 32 => ⟨S_, .f32⟩
  | 33 => ⟨S1536, .f32⟩
  | 34 => ⟨S1x1536, .f32⟩
  | 35 => ⟨S_, .f32⟩
  | 36 => ⟨S4x1536, .f32⟩
  | 37 => ⟨S4x1536, .f32⟩
  | 38 => ⟨S_, .f32⟩
  | 39 => ⟨S2051x1536, .f32⟩
  | 40 => ⟨S2051x1536, .f32⟩
  | 41 => ⟨S2048x1536, .f32⟩
  | 42 => ⟨S_, .f32⟩
  | 43 => ⟨S1536, .f32⟩
  | 44 => ⟨S1x1536, .f32⟩
  | 45 => ⟨S2048x1536, .f32⟩
  | 46 => ⟨S2048x1536, .f32⟩
  | 47 => ⟨S_, .f32⟩
  | 48 => ⟨S1536, .f32⟩
  | 49 => ⟨S1x1536, .f32⟩
  | 50 => ⟨S_, .f32⟩
  | 51 => ⟨S4x1536, .f32⟩
  | 52 => ⟨S4x1536, .f32⟩
  | 53 => ⟨S_, .f32⟩
  | 54 => ⟨S2051x1536, .f32⟩
  | 55 => ⟨S2051x1536, .f32⟩
  | 56 => ⟨S2048x1536, .f32⟩
  | 57 => ⟨S_, .f32⟩
  | 58 => ⟨S1536, .f32⟩
  | 59 => ⟨S1x1536, .f32⟩
  | 60 => ⟨S2048x1536, .f32⟩
  | 61 => ⟨S2048x1536, .f32⟩
  | 62 => ⟨S_, .f32⟩
  | 63 => ⟨S1536, .f32⟩
  | 64 => ⟨S1x1536, .f32⟩
  | 65 => ⟨S_, .f32⟩
  | 66 => ⟨S4x1536, .f32⟩
  | 67 => ⟨S4x1536, .f32⟩
  | 68 => ⟨S_, .f32⟩
  | 69 => ⟨S2051x1536, .f32⟩
  | 70 => ⟨S2051x1536, .f32⟩
  | 71 => ⟨S3x1536, .f32⟩
  | 72 => ⟨S2048x1536, .f32⟩
  | 73 => ⟨S2048x1536, .bf16⟩
  | 74 => ⟨S_, .i32⟩
  | 75 => ⟨S_, .i32⟩
  | 76 => ⟨S2048x3840, .bf16⟩
  | _ => ⟨S2048x3840, .f32⟩

abbrev hbmTy (i : Nat) : BufTy := match i / 128 with
  | 0 => hbmTy0_0 i
  | 1 => hbmTy0_1 i
  | _ => ⟨S2048x3840, .f32⟩

abbrev bufTy : (tb : Table) → Fin (tcTables nBuf tb) → BufTy
  | .hbm, ⟨i, _⟩ => hbmTy i
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_9 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_10 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_11 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_12 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_13 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_v106 : Ref sig .tc := ⟨.hbm, 140, rfl⟩
abbrev main_v107 : Ref sig .tc := ⟨.hbm, 141, rfl⟩
abbrev main_cst_14 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_15 : Ref sig .tc := ⟨.hbm, 147, rfl⟩
abbrev main_v112 : Ref sig .tc := ⟨.hbm, 148, rfl⟩
abbrev main_v113 : Ref sig .tc := ⟨.hbm, 149, rfl⟩
abbrev main_cst_16 : Ref sig .tc := ⟨.hbm, 150, rfl⟩
abbrev main_v114 : Ref sig .tc := ⟨.hbm, 151, rfl⟩
abbrev main_cst_17 : Ref sig .tc := ⟨.hbm, 152, rfl⟩
abbrev main_v115 : Ref sig .tc := ⟨.hbm, 153, rfl⟩
abbrev main_v116 : Ref sig .tc := ⟨.hbm, 154, rfl⟩
abbrev main_cst_18 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_19 : Ref sig .tc := ⟨.hbm, 160, rfl⟩
abbrev main_v121 : Ref sig .tc := ⟨.hbm, 161, rfl⟩
abbrev main_v122 : Ref sig .tc := ⟨.hbm, 162, rfl⟩
abbrev main_cst_20 : Ref sig .tc := ⟨.hbm, 163, rfl⟩
abbrev main_v123 : Ref sig .tc := ⟨.hbm, 164, rfl⟩
abbrev main_v124 : Ref sig .tc := ⟨.hbm, 165, rfl⟩
abbrev main_cst_21 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_22 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_23 : Ref sig .tc := ⟨.hbm, 175, rfl⟩
abbrev main_v132 : Ref sig .tc := ⟨.hbm, 176, rfl⟩
abbrev main_v133 : Ref sig .tc := ⟨.hbm, 177, rfl⟩
abbrev main_cst_24 : Ref sig .tc := ⟨.hbm, 178, rfl⟩
abbrev main_v134 : Ref sig .tc := ⟨.hbm, 179, rfl⟩
abbrev main_v135 : Ref sig .tc := ⟨.hbm, 180, rfl⟩
abbrev main_cst_25 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_26 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_27 : Ref sig .tc := ⟨.hbm, 190, rfl⟩
abbrev main_v143 : Ref sig .tc := ⟨.hbm, 191, rfl⟩
abbrev main_v144 : Ref sig .tc := ⟨.hbm, 192, rfl⟩
abbrev main_cst_28 : Ref sig .tc := ⟨.hbm, 193, rfl⟩
abbrev main_v145 : Ref sig .tc := ⟨.hbm, 194, rfl⟩
abbrev main_v146 : Ref sig .tc := ⟨.hbm, 195, rfl⟩
abbrev main_cst_29 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_c : Ref sig .tc := ⟨.hbm, 202, rfl⟩
abbrev main_c_30 : Ref sig .tc := ⟨.hbm, 203, rfl⟩
abbrev main_v152 : Ref sig .tc := ⟨.hbm, 204, rfl⟩

abbrev nD : Nat := 1
abbrev τ : Topo := Topo.v7x

variable {F : FTy → Type} [FloatOps F]
-- ==== Kernel2.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4096x1024, .bf16⟩
  | .hbm, ⟨2, _⟩ => ⟨S2048x1024, .bf16⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x3840 : Shape := ⟨2, ![2048, 3840]⟩
abbrev S2048x1024 : Shape := ⟨2, ![2048, 1024]⟩
abbrev S3840x1024 : Shape := ⟨2, ![3840, 1024]⟩
abbrev S2048x1280 : Shape := ⟨2, ![2048, 1280]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3840, .bf16⟩
  | .hbm, ⟨1, _⟩ => ⟨S2048x1024, .bf16⟩
  | .hbm, ⟨2, _⟩ => ⟨S3840x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S1280x1024, .bf16⟩
  | .local _ .vmem, ⟨4, _⟩ => ⟨S1280x1024, .bf16⟩
  | _, _ => ⟨S2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x3840 : Shape := ⟨2, ![2048, 3840]⟩
abbrev S2048x1024 : Shape := ⟨2, ![2048, 1024]⟩
abbrev S_ : Shape := ⟨0, ![]⟩
abbrev S1024x3840 : Shape := ⟨2, ![1024, 3840]⟩
abbrev S3840x1024 : Shape := ⟨2, ![3840, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x3840, .bf16⟩
  | .hbm, ⟨1, _⟩ => ⟨S2048x1024, .bf16⟩
  | .hbm, ⟨2, _⟩ => ⟨S_, .f32⟩
  | .hbm, ⟨3, _⟩ => ⟨S1024x3840, .f32⟩
  | .hbm, ⟨4, _⟩ => ⟨S2048x1024, .f32⟩
  | .hbm, ⟨5, _⟩ => ⟨S2048x3840, .f32⟩
  | .hbm, ⟨6, _⟩ => ⟨S2048x3840, .f32⟩
  | .hbm, ⟨7, _⟩ => ⟨S3840x1024, .f32⟩
  | .hbm, ⟨8, _⟩ => ⟨S1024x3840, .f32⟩
  | .hbm, ⟨9, _⟩ => ⟨S3840x1024, .f32⟩
  | .hbm, ⟨10, _⟩ => ⟨S3840x1024, .bf16⟩
  | _, _ => ⟨S2048x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x3840 : Shape := ⟨2, ![2048, 3840]⟩
abbrev S3840x1024 : Shape := ⟨2, ![3840, 1024]⟩
abbrev S2048x1024 : Shape := ⟨2, ![2048, 1024]⟩
abbrev S1024x3840 : Shape := ⟨2, ![1024, 3840]⟩
abbrev S3840x512 : Shape := ⟨2, ![3840, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3840, .bf16⟩
  | .hbm, ⟨1, _⟩ => ⟨S3840x1024, .bf16⟩
  | .hbm, ⟨2, _⟩ => ⟨S2048x1024, .f32⟩
  | .local _ .vmem, ⟨0, _⟩ => ⟨S1024x3840, .bf16⟩
  | .local _ .vmem, ⟨1, _⟩ => ⟨S1024x3840, .bf16⟩
  | .local _ .vmem, ⟨2, _⟩ => ⟨S3840x512, .bf16⟩
  | .local _ .vmem, ⟨3, _⟩ => ⟨S3840x512, .bf16⟩
  | .local _ .vmem, ⟨4, _⟩ => ⟨S1024x512, .f32⟩
  | .local _ .vmem, ⟨5, _⟩ => ⟨S1024x512, .f32⟩
  | _, _ => ⟨S2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3840x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x3840 : Shape := ⟨2, ![2048, 3840]⟩
abbrev S3840x1024 : Shape := ⟨2, ![3840, 1024]⟩
abbrev S1024x3840 : Shape := ⟨2, ![1024, 3840]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x3840, .bf16⟩
  | .hbm, ⟨1, _⟩ => ⟨S3840x1024, .bf16⟩
  | .hbm, ⟨2, _⟩ => ⟨S1024x3840, .bf16⟩
  | .hbm, ⟨3, _⟩ => ⟨S_, .f32⟩
  | .hbm, ⟨4, _⟩ => ⟨S2048x1024, .f32⟩
  | .hbm, ⟨5, _⟩ => ⟨S1024x3840, .f32⟩
  | .hbm, ⟨6, _⟩ => ⟨S2048x3840, .f32⟩
  | .hbm, ⟨7, _⟩ => ⟨S2048x3840, .f32⟩
  | .hbm, ⟨8, _⟩ => ⟨S2048x1024, .f32⟩
  | _, _ => ⟨S2048x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S2048x4096, .bf16⟩
  | .hbm, ⟨5, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S2048x4096, .f32⟩
  | .hbm, ⟨10, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S2048x1024 : Shape := ⟨2, ![2048, 1024]⟩
abbrev S3840x1024 : Shape := ⟨2, ![3840, 1024]⟩
abbrev S2048x3840 : Shape := ⟨2, ![2048, 3840]⟩
abbrev S768x1024 : Shape := ⟨2, ![768, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S3840x1024, .bf16⟩
  | .hbm, ⟨2, _⟩ => ⟨S2048x3840, .f32⟩
  | .local _ .vmem, ⟨0, _⟩ => ⟨S2048x1024, .bf16⟩
  | .local _ .vmem, ⟨1, _⟩ => ⟨S768x1024, .bf16⟩
  | .local _ .vmem, ⟨2, _⟩ => ⟨S768x1024, .bf16⟩
  | .local _ .vmem, ⟨3, _⟩ => ⟨S2048x768, .f32⟩
  | .local _ .vmem, ⟨4, _⟩ => ⟨S2048x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S3840x1024 : Shape := ⟨2, ![3840, 1024]⟩
abbrev S1024x3840 : Shape := ⟨2, ![1024, 3840]⟩
abbrev S2048x3840 : Shape := ⟨2, ![2048, 3840]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3840x1024, .bf16⟩
  | .hbm, ⟨2, _⟩ => ⟨S2048x1024, .f32⟩
  | .hbm, ⟨3, _⟩ => ⟨S1024x3840, .bf16⟩
  | .hbm, ⟨4, _⟩ => ⟨S1024x3840, .f32⟩
  | .hbm, ⟨5, _⟩ => ⟨S2048x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference11Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel12.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S1024x4x1024, .bf16⟩
  | .hbm, ⟨8, _⟩ => ⟨S4x1024x1024, .bf16⟩
  | .hbm, ⟨9, _⟩ => ⟨S2048x1024, .f32⟩
  | .hbm, ⟨10, _⟩ => ⟨S2048x1024, .bf16⟩
  | .hbm, ⟨11, _⟩ => ⟨S1x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_42 : BitVec 32 := 0#32
  let v88 : BitVec 1 := Scalar.cmpi .ne v87 c0_i32_42
  v88

def k0_cond2 (i : grid0.Coords) : BitVec 1 :=
  let arg0 : BitVec 32 := BitVec.ofNat 32 (i 0).val
  let c0_i32_43 : BitVec 32 := 0#32
  let v89 : BitVec 1 := Scalar.cmpi .sgt arg0 c0_i32_43
  let v90 : BitVec 32 := Scalar.extui v89
  let c0_i32_44 : BitVec 32 := 0#32
  let v91 : BitVec 1 := Scalar.cmpi .ne v90 c0_i32_44
  v91

def k0_cond3 (i : grid0.Coords) : BitVec 1 :=
  let arg0 : BitVec 32 := BitVec.ofNat 32 (i 0).val
  let c0_i32_45 : BitVec 32 := 0#32
  let v92 : BitVec 1 := Scalar.cmpi .eq arg0 c0_i32_45
  let v93 : BitVec 32 := Scalar.extui v92
  let c0_i32_46 : BitVec 32 := 0#32
  let v94 : BitVec 1 := Scalar.cmpi .ne v93 c0_i32_46
  v94

def k0_cond4 (i : grid0.Coords) : BitVec 1 :=
  let arg0 : BitVec 32 := BitVec.ofNat 32 (i 0).val
  let c0_i32_47 : BitVec 32 := 0#32
  let v95 : BitVec 1 := Scalar.cmpi .sgt arg0 c0_i32_47
  let v96 : BitVec 32 := Scalar.extui v95
  let c0_i32_48 : BitVec 32 := 0#32
  let v97 : BitVec 1 := Scalar.cmpi .ne v96 c0_i32_48
  v97

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference12Ideal.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S2048x1024, .f32⟩
  | .hbm, ⟨9, _⟩ => ⟨S1024x4096, .f32⟩
  | .hbm, ⟨10, _⟩ => ⟨S2048x4096, .f32⟩
  | .hbm, ⟨11, _⟩ => ⟨S2048x4096, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S2048x1024, .f32⟩
  | .hbm, ⟨86, _⟩ => ⟨S2048x1024, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Kernel13.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_27 : BitVec 32 := 0#32
  let v67 : BitVec 1 := Scalar.cmpi .ne v66 c0_i32_27
  v67

def k0_cond2 (i : grid0.Coords) : BitVec 1 :=
  let arg0 : BitVec 32 := BitVec.ofNat 32 (i 0).val
  let c0_i32_28 : BitVec 32 := 0#32
  let v68 : BitVec 1 := Scalar.cmpi .sgt arg0 c0_i32_28
  let v69 : BitVec 32 := Scalar.extui v68
  let c0_i32_29 : BitVec 32 := 0#32
  let v70 : BitVec 1 := Scalar.cmpi .ne v69 c0_i32_29
  v70

def k0_cond3 (i : grid0.Coords) : BitVec 1 :=
  let arg0 : BitVec 32 := BitVec.ofNat 32 (i 0).val
  let c0_i32_30 : BitVec 32 := 0#32
  let v71 : BitVec 1 := Scalar.cmpi .eq arg0 c0_i32_30
  let v72 : BitVec 32 := Scalar.extui v71
  let c0_i32_31 : BitVec 32 := 0#32
  let v73 : BitVec 1 := Scalar.cmpi .ne v72 c0_i32_31
  v73

def k0_cond4 (i : grid0.Coords) : BitVec 1 :=
  let arg0 : BitVec 32 := BitVec.ofNat 32 (i 0).val
  let c0_i32_32 : BitVec 32 := 0#32
  let v74 : BitVec 1 := Scalar.cmpi .sgt arg0 c0_i32_32
  let v75 : BitVec 32 := Scalar.extui v74
  let c0_i32_33 : BitVec 32 := 0#32
  let v76 : BitVec 1 := Scalar.cmpi .ne v75 c0_i32_33
  v76

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference13Ideal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x4096, .f32⟩
  | .hbm, ⟨6, _⟩ => ⟨S4096x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .bf16⟩
  | .hbm, ⟨75, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel14.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel15.lean ====
abbrev S2048x512 : Shape := ⟨2, ![2048, 512]⟩
abbrev S2048x1024 : Shape := ⟨2, ![2048, 1024]⟩
abbrev S1x64 : Shape := ⟨2, ![1, 64]⟩
abbrev S1x128 : Shape := ⟨2, ![1, 128]⟩
abbrev S4x2048x2 : Shape := ⟨3, ![4, 2048, 2]⟩
abbrev S512x128 : Shape := ⟨2, ![512, 128]⟩
abbrev S1x512x2 : Shape := ⟨3, ![1, 512, 2]⟩
abbrev S512 : Shape := ⟨1, ![512]⟩
abbrev S512x1 : Shape := ⟨2, ![512, 1]⟩
abbrev S512x2 : Shape := ⟨2, ![512, 2]⟩
abbrev S128 : Shape := ⟨1, ![128]⟩

abbrev nBuf : Space → Nat
  | .hbm => 7
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S1x64, .f32⟩
  | .hbm, ⟨3, _⟩ => ⟨S1x128, .f32⟩
  | .hbm, ⟨4, _⟩ => ⟨S2048x512, .bf16⟩
  | .hbm, ⟨5, _⟩ => ⟨S4x2048x2, .f32⟩
  | .hbm, ⟨6, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | .local _ .vmem, ⟨7, _⟩ => ⟨S1x512x2, .f32⟩
  | .local _ .vmem, ⟨8, _⟩ => ⟨S1x512x2, .f32⟩
  | .local _ .vmem, ⟨9, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference15Ideal.lean ====
abbrev S2048x512 : Shape := ⟨2, ![2048, 512]⟩
abbrev S2048x1024 : Shape := ⟨2, ![2048, 1024]⟩
abbrev S1x64 : Shape := ⟨2, ![1, 64]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S64 : Shape := ⟨1, ![64]⟩
abbrev S2048x4x2x64 : Shape := ⟨4, ![2048, 4, 2, 64]⟩
abbrev S2048x4x2 : Shape := ⟨3, ![2048, 4, 2]⟩
abbrev S4x2048x2 : Shape := ⟨3, ![4, 2048, 2]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S1x64, .f32⟩
  | .hbm, ⟨3, _⟩ => ⟨S2048x8x64, .f32⟩
  | .hbm, ⟨4, _⟩ => ⟨S2048x8x64, .f32⟩
  | .hbm, ⟨5, _⟩ => ⟨S_, .f32⟩
  | .hbm, ⟨6, _⟩ => ⟨S2048x8, .f32⟩
  | .hbm, ⟨7, _⟩ => ⟨S2048x8x1, .f32⟩
  | .hbm, ⟨8, _⟩ => ⟨S_, .f32⟩
  | .hbm, ⟨9, _⟩ => ⟨S2048x8x1, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S2048x8x1, .f32⟩
  | .hbm, ⟨15, _⟩ => ⟨S2048x8x1, .f32⟩
  | .hbm, ⟨16, _⟩ => ⟨S_, .f32⟩
  | .hbm, ⟨17, _⟩ => ⟨S2048x8x1, .f32⟩
  | .hbm, ⟨18, _⟩ => ⟨S2048x8x1, .f32⟩
  | .hbm, ⟨19, _⟩ => ⟨S2048x8x64, .f32⟩
  | .hbm, ⟨20, _⟩ => ⟨S2048x8x64, .f32⟩
  | .hbm, ⟨21, _⟩ => ⟨S1x1x64, .f32⟩
  | .hbm, ⟨22, _⟩ => ⟨S2048x8x64, .f32⟩
  | .hbm, ⟨23, _⟩ => ⟨S2048x8x64, .f32⟩
  | .hbm, ⟨24, _⟩ => ⟨S2048x512, .f32⟩
  | .hbm, ⟨25, _⟩ => ⟨S2048x512, .f32⟩
  | .hbm, ⟨26, _⟩ => ⟨S2048x8x64, .f32⟩
  | .hbm, ⟨27, _⟩ => ⟨S2048x8x64, .f32⟩
  | .hbm, ⟨28, _⟩ => ⟨S_, .f32⟩
  | .hbm, ⟨29, _⟩ => ⟨S64, .f32⟩
  | .hbm, ⟨30, _⟩ => ⟨S1x1x64, .f32⟩
  | .hbm, ⟨31, _⟩ => ⟨S2048x8x64, .f32⟩
  | .hbm, ⟨32, _⟩ => ⟨S2048x8x64, .f32⟩
  | .hbm, ⟨33, _⟩ => ⟨S_, .f32⟩
  | .hbm, ⟨34, _⟩ => ⟨S64, .f32⟩
  | .hbm, ⟨35, _⟩ => ⟨S1x64, .f32⟩
  | .hbm, ⟨36, _⟩ => ⟨S2048x8x64, .f32⟩
  | .hbm, ⟨37, _⟩ => ⟨S_, .f32⟩
  | .hbm, ⟨38, _⟩ => ⟨S2048x8, .f32⟩
  | .hbm, ⟨39, _⟩ => ⟨S2048x8x1, .f32⟩
  | .hbm, ⟨40, _⟩ => ⟨S2048x8x64, .f32⟩
  | .hbm, ⟨41, _⟩ => ⟨S2048x8x64, .f32⟩
  | .hbm, ⟨42, _⟩ => ⟨S2048x8x1, .f32⟩
  | .hbm, ⟨43, _⟩ => ⟨S_, .f32⟩
  | .hbm, ⟨44, _⟩ => ⟨S2048x8x1, .f32⟩
  | .hbm, ⟨45, _⟩ => ⟨S2048x8x1, .f32⟩
  | .hbm, ⟨46, _⟩ => ⟨S_, .f32⟩
  | .hbm, ⟨47, _⟩ => ⟨S2048x8, .f32⟩
  | .hbm, ⟨48, _⟩ => ⟨S2048x8x64, .f32⟩
  | .hbm, ⟨49, _⟩ => ⟨S2048x8x64, .f32⟩
  | .hbm, ⟨50, _⟩ => ⟨S2048x8x64, .f32⟩
  | .hbm, ⟨51, _⟩ => ⟨S2048x8x64, .f32⟩
  | .hbm, ⟨52, _⟩ => ⟨S2048x8x64, .f32⟩
  | .hbm, ⟨53, _⟩ => ⟨S2048x512, .f32⟩
  | .hbm, ⟨54, _⟩ => ⟨S2048x512, .f32⟩
  | .hbm, ⟨55, _⟩ => ⟨S2048x4x2x64, .f32⟩
  | .hbm, ⟨56, _⟩ => ⟨S_, .f32⟩
  | .hbm, ⟨57, _⟩ => ⟨S2048x4x2, .f32⟩
  | .hbm, ⟨58, _⟩ => ⟨S4x2048x2, .f32⟩
  | .hbm, ⟨59, _⟩ => ⟨S2048x512, .bf16⟩
  | .hbm, ⟨60, _⟩ => ⟨S1x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel16.lean ====
abbrev S2048x3840 : Shape := ⟨2, ![2048, 3840]⟩
abbrev S1x8 : Shape := ⟨2, ![1, 8]⟩
abbrev S1x4 : Shape := ⟨2, ![1, 4]⟩
abbrev S2048x128 : Shape := ⟨2, ![2048, 128]⟩
abbrev S_ : Shape := ⟨0, ![]⟩
abbrev S1x112 : Shape := ⟨2, ![1, 112]⟩
abbrev S1x128 : Shape := ⟨2, ![1, 128]⟩
abbrev S1x12 : Shape := ⟨2, ![1, 12]⟩
abbrev S8x128 : Shape := ⟨2, ![8, 128]⟩
abbrev S512x128 : Shape := ⟨2, ![512, 128]⟩
abbrev S512x256 : Shape := ⟨2, ![512, 256]⟩
abbrev S512x512 : Shape := ⟨2, ![512, 512]⟩
abbrev S128 : Shape := ⟨1, ![128]⟩

abbrev nBuf : Space → Nat
  | .hbm => 19
  | .vmem => 12
  | .smem => 0
  | _ => 0

abbrev bufTy : (tb : Table) → Fin (tcTables nBuf tb) → BufTy
  | .hbm, ⟨0, _⟩ => ⟨S2048x3840, .f32⟩
  | .hbm, ⟨1, _⟩ => ⟨S1x8, .f32⟩
  | .hbm, ⟨2, _⟩ => ⟨S1x4, .f32⟩
  | .hbm, ⟨3, _⟩ => ⟨S1x4, .f32⟩
  | .hbm, ⟨4, _⟩ => ⟨S2048x128, .f32⟩
  | .hbm, ⟨5, _⟩ => ⟨S2048x128, .f32⟩
  | .hbm, ⟨6, _⟩ => ⟨S2048x3840, .bf16⟩
  | .hbm, ⟨7, _⟩ => ⟨S_, .f32⟩
  | .hbm, ⟨8, _⟩ => ⟨S1x4, .f32⟩
  | .hbm, ⟨9, _⟩ => ⟨S_, .f32⟩
  | .hbm, ⟨10, _⟩ => ⟨S1x112, .f32⟩
  | .hbm, ⟨11, _⟩ => ⟨S1x128, .f32⟩
  | .hbm, ⟨12, _⟩ => ⟨S_, .f32⟩
  | .hbm, ⟨13, _⟩ => ⟨S1x12, .f32⟩
  | .hbm, ⟨14, _⟩ => ⟨S_, .f32⟩
  | .hbm, ⟨15, _⟩ => ⟨S1x112, .f32⟩
  | .hbm, ⟨16, _⟩ => ⟨S1x128, .f32⟩
  | .hbm, ⟨17, _⟩ => ⟨S2048x3840, .bf16⟩
  | .hbm, ⟨18, _⟩ => ⟨S8x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x256, .bf16⟩
  | .local _ .vmem, ⟨9, _⟩ => ⟨S512x256, .bf16⟩
  | .local _ .vmem, ⟨10, _⟩ => ⟨S8x128, .f32⟩
  | .local _ .vmem, ⟨11, _⟩ => ⟨S1x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c28_i32 : BitVec 32 := 28#32
  let c0_i32 : BitVec 32 := 0#32
  ![v0.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.subi c3_i32 arg0
  let c14_i32 : BitVec 32 := 14#32
  let c0_i32 : BitVec 32 := 0#32
  ![v0.toNat, c14_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S2048x3840 : Shape := ⟨2, ![2048, 3840]⟩
abbrev S1x8 : Shape := ⟨2, ![1, 8]⟩
abbrev S1x4 : Shape := ⟨2, ![1, 4]⟩
abbrev S2048x128 : Shape := ⟨2, ![2048, 128]⟩
abbrev S2048x256 : Shape := ⟨2, ![2048, 256]⟩
abbrev S2048x8 : Shape := ⟨2, ![2048, 8]⟩
abbrev S2048x4 : Shape := ⟨2, ![2048, 4]⟩
abbrev S_ : Shape := ⟨0, ![]⟩
abbrev S4 : Shape := ⟨1, ![4]⟩
abbrev S8 : Shape := ⟨1, ![8]⟩
abbrev S2048x240 : Shape := ⟨2, ![2048, 240]⟩
abbrev S1x120 : Shape := ⟨2, ![1, 120]⟩
abbrev S1x128 : Shape := ⟨2, ![1, 128]⟩
abbrev S1x124 : Shape := ⟨2, ![1, 124]⟩
abbrev S5x128 : Shape := ⟨2, ![5, 128]⟩
abbrev S8x128 : Shape := ⟨2, ![8, 128]⟩
abbrev S2048x3584 : Shape := ⟨2, ![2048, 3584]⟩

abbrev nBuf : Space → Nat
  | .hbm => 172
  | .vmem => 0
  | .smem => 0
  | _ => 0

abbrev hbmTy0_0 (i : Nat) : BufTy := match i % 128 with
  | 0 => ⟨S2048x3840, .f32⟩
  | 1 => ⟨S1x8, .f32⟩
  | 2 => ⟨S1x4, .f32⟩
  | 3 => ⟨S1x4, .f32⟩
  | 4 => ⟨S2048x128, .f32⟩
  | 5 => ⟨S2048x128, .f32⟩
  | 6 => ⟨S2048x3840, .bf16⟩
  | 7 => ⟨S2048x256, .f32⟩
  | 8 => ⟨S2048x128, .f32⟩
  | 9 => ⟨S2048x8, .f32⟩
  | 10 => ⟨S2048x4, .f32⟩
  | 11 => ⟨S2048x4, .f32⟩
  | 12 => ⟨S2048x8, .f32⟩
  | 13 => ⟨S2048x8, .f32⟩
  | 14 => ⟨S2048x8, .f32⟩
  | 15 => ⟨S_, .f32⟩
  | 16 => ⟨S2048x8, .f32⟩
  | 17 => ⟨S2048x8, .f32⟩
  | 18 => ⟨S2048x8, .f32⟩
  | 19 => ⟨S2048x8, .f32⟩
  | 20 => ⟨S2048x8, .i1⟩
  | 21 => ⟨S2048x8, .f32⟩
  | 22 => ⟨S2048x8, .f32⟩
  | 23 => ⟨S2048x8, .f32⟩
  | 24 => ⟨S2048x8, .f32⟩
  | 25 => ⟨S2048x8, .f32⟩
  | 26 => ⟨S2048x8, .f32⟩
  | 27 => ⟨S2048x8, .f32⟩
  | 28 => ⟨S2048x8, .f32⟩
  | 29 => ⟨S_, .f32⟩
  | 30 => ⟨S2048x8, .f32⟩
  | 31 => ⟨S2048x8, .i1⟩
  | 32 => ⟨S_, .f32⟩
  | 33 => ⟨S2048x8, .f32⟩
  | 34 => ⟨S2048x8, .f32⟩
  | 35 => ⟨S_, .f32⟩
  | 36 => ⟨S2048x8, .f32⟩
  | 37 => ⟨S2048x8, .i1⟩
  | 38 => ⟨S_, .f32⟩
  | 39 => ⟨S2048x8, .f32⟩
  | 40 => ⟨S2048x8, .f32⟩
  | 41 => ⟨S2048x8, .f32⟩
  | 42 => ⟨S2048x8, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S2048x8, .f32⟩
  | 51 => ⟨S2048x8, .i1⟩
  | 52 => ⟨S_, .f32⟩
  | 53 => ⟨S2048x8, .f32⟩
  | 54 => ⟨S2048x8, .f32⟩
  | 55 => ⟨S2048x8, .f32⟩
  | 56 => ⟨S2048x8, .f32⟩
  | 57 => ⟨S2048x8, .f32⟩
  | 58 => ⟨S_, .f32⟩
  | 59 => ⟨S2048x8, .f32⟩
  | 60 => ⟨S2048x8, .f32⟩
  | 61 => ⟨S2048x8, .f32⟩
  | 62 => ⟨S_, .f32⟩
  | 63 => ⟨S_, .f32⟩
  | 64 => ⟨S2048x8, .f32⟩
  | 65 => ⟨S2048x4, .f32⟩
  | 66 => ⟨S2048x4, .f32⟩
  | 67 => ⟨S_, .f32⟩
  | 68 => ⟨S2048x4, .f32⟩
  | 69 => ⟨S2048x4, .f32⟩
  | 70 => ⟨S_, .f32⟩
  | 71 => ⟨S2048x4, .f32⟩
  | 72 => ⟨S2048x4, .f32⟩
  | 73 => ⟨S_, .f32⟩
  | 74 => ⟨S2048x4, .f32⟩
  | 75 => ⟨S2048x4, .f32⟩
  | 76 => ⟨S2048x4, .f32⟩
  | 77 => ⟨S1x4, .f32⟩
  | 78 => ⟨S1x4, .f32⟩
  | 79 => ⟨S2048x4, .f32⟩
  | 80 => ⟨S2048x4, .f32⟩
  | 81 => ⟨S_, .f32⟩
  | 82 => ⟨S2048x4, .f32⟩
  | 83 => ⟨S2048x4, .f32⟩
  | 84 => ⟨S2048x4, .f32⟩
  | 85 => ⟨S2048x4, .f32⟩
  | 86 => ⟨S2048x4, .i1⟩
  | 87 => ⟨S2048x4, .f32⟩
  | 88 => ⟨S2048x4, .f32⟩
  | 89 => ⟨S2048x4, .f32⟩
  | 90 => ⟨S2048x4, .f32⟩
  | 91 => ⟨S2048x4, .f32⟩
  | 92 => ⟨S2048x4, .f32⟩
  | 93 => ⟨S2048x4, .f32⟩
  | 94 => ⟨S2048x4, .f32⟩
  | 95 => ⟨S_, .f32⟩
  | 96 => ⟨S2048x4, .f32⟩
  | 97 => ⟨S2048x4, .i1⟩
  | 98 => ⟨S_, .f32⟩
  | 99 => ⟨S2048x4, .f32⟩
  | 100 => ⟨S2048x4, .f32⟩
  | 101 => ⟨S_, .f32⟩
  | 102 => ⟨S2048x4, .f32⟩
  | 103 => ⟨S2048x4, .i1⟩
  | 104 => ⟨S_, .f32⟩
  | 105 => ⟨S2048x4, .f32⟩
  | 106 => ⟨S2048x4, .f32⟩
  | 107 => ⟨S2048x4, .f32⟩
  | 108 => ⟨S2048x4, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S2048x4, .f32⟩
  | 117 => ⟨S2048x4, .i1⟩
  | 118 => ⟨S_, .f32⟩
  | 119 => ⟨S2048x4, .f32⟩
  | 120 => ⟨S2048x4, .f32⟩
  | 121 => ⟨S2048x4, .f32⟩
  | 122 => ⟨S2048x4, .f32⟩
  | 123 => ⟨S2048x4, .f32⟩
  | 124 => ⟨S_, .f32⟩
  | 125 => ⟨S2048x4, .f32⟩
  | 126 => ⟨S2048x4, .f32⟩
  | 127 => ⟨S2048x4, .f32⟩
  | _ => ⟨S2048x3840, .f32⟩

abbrev hbmTy0_1 (i : Nat) : BufTy := match i % 128 with
  | 0 => ⟨S2048x4, .f32⟩
  | 1 => ⟨S2048x8, .f32⟩
  | 2 => ⟨S2048x4, .f32⟩
  | 3 => ⟨S2048x4, .f32⟩
  | 4 => ⟨S2048x4, .f32⟩
  | 5 => ⟨S2048x4, .f32⟩
  | 6 => ⟨S2048x4, .f32⟩
  | 7 => ⟨S_, .f32⟩
  | 8 => ⟨S4, .f32⟩
  | 9 => ⟨S1x4, .f32⟩
  | 10 => ⟨S2048x4, .f32⟩
  | 11 => ⟨S_, .f32⟩
  | 12 => ⟨S4, .f32⟩
  | 13 => ⟨S1x4, .f32⟩
  | 14 => ⟨S1x4, .f32⟩
  | 15 => ⟨S1x4, .f32⟩
  | 16 => ⟨S2048x4, .f32⟩
  | 17 => ⟨S_, .f32⟩
  | 18 => ⟨S_, .f32⟩
  | 19 => ⟨S2048x8, .f32⟩
  | 20 => ⟨S2048x8, .f32⟩
  | 21 => ⟨S2048x8, .f32⟩
  | 22 => ⟨S2048x8, .f32⟩
  | 23 => ⟨S_, .f32⟩
  | 24 => ⟨S8, .f32⟩
  | 25 => ⟨S1x8, .f32⟩
  | 26 => ⟨S_, .f32⟩
  | 27 => ⟨S2048x240, .f32⟩
  | 28 => ⟨S2048x256, .f32⟩
  | 29 => ⟨S2048x256, .bf16⟩
  | 30 => ⟨S_, .f32⟩
  | 31 => ⟨S1x120, .f32⟩
  | 32 => ⟨S1x128, .f32⟩
  | 33 => ⟨S_, .f32⟩
  | 34 => ⟨S1x124, .f32⟩
  | 35 => ⟨S1x128, .f32⟩
  | 36 => ⟨S_, .f32⟩
  | 37 => ⟨S1x124, .f32⟩
  | 38 => ⟨S1x128, .f32⟩
  | 39 => ⟨S_, .f32⟩
  | 40 => ⟨S5x128, .f32⟩
  | 41 => ⟨S8x128, .f32⟩
  | 42 => ⟨S2048x3584, .bf16⟩
  | 43 => ⟨S2048x3840, .bf16⟩
  | _ => ⟨S2048x3840, .f32⟩

abbrev hbmTy (i : Nat) : BufTy := match i / 128 with
  | 0 => hbmTy0_0 i
  | 1 => hbmTy0_1 i
  | _ => ⟨S2048x3840, .f32⟩

abbrev bufTy : (tb : Table) → Fin (tcTables nBuf tb) → BufTy
  | .hbm, ⟨i, _⟩ => hbmTy i
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v7_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v7_2 : Ref sig .tc := ⟨.hbm, 60, rfl⟩
abbrev main_v7_0 : Ref sig .tc := ⟨.hbm, 61, rfl⟩
abbrev main_call1_call0_cst : Ref sig .tc := ⟨.hbm, 62, rfl⟩
abbrev main_call1_call0_v0 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst : Ref sig .tc := ⟨.hbm, 67, rfl⟩
abbrev main_v11 : Ref sig .tc := ⟨.hbm, 68, rfl⟩
abbrev main_v12 : Ref sig .tc := ⟨.hbm, 69, rfl⟩
abbrev main_cst_0 : Ref sig .tc := ⟨.hbm, 70, rfl⟩
abbrev main_v13 : Ref sig .tc := ⟨.hbm, 71, rfl⟩
abbrev main_v14 : Ref sig .tc := ⟨.hbm, 72, rfl⟩
abbrev main_cst_1 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_v22_0 : Ref sig .tc := ⟨.hbm, 94, rfl⟩
abbrev main_call2_cst_0 : Ref sig .tc := ⟨.hbm, 95, rfl⟩
abbrev main_call2_v13 : Ref sig .tc := ⟨.hbm, 96, rfl⟩
abbrev main_call2_v14 : Ref sig .tc := ⟨.hbm, 97, rfl⟩
abbrev main_call2_cst_1 : Ref sig .tc := ⟨.hbm, 98, rfl⟩
abbrev main_call2_v15 : Ref sig .tc := ⟨.hbm, 99, rfl⟩
abbrev main_call2_v16 : Ref sig .tc := ⟨.hbm, 100, rfl⟩
abbrev main_call2_cst_2 : Ref sig .tc := ⟨.hbm, 101, rfl⟩
abbrev main_call2_v17 : Ref sig .tc := ⟨.hbm, 102, rfl⟩
abbrev main_call2_v18 : Ref sig .tc := ⟨.hbm, 103, rfl⟩
abbrev main_call2_cst_3 : Ref sig .tc := ⟨.hbm, 104, rfl⟩
abbrev main_call2_v19 : Ref sig .tc := ⟨.hbm, 105, rfl⟩
abbrev main_call2_v20 : Ref sig .tc := ⟨.hbm, 106, rfl⟩
abbrev main_call2_v21 : Ref sig .tc := ⟨.hbm, 107, rfl⟩
abbrev main_v22_1 : Ref sig .tc := ⟨.hbm, 108, rfl⟩
abbrev main_call2_cst_4 : Ref sig .tc := ⟨.hbm, 109, rfl⟩
abbrev main_call2_cst_5 : Ref sig .tc := ⟨.hbm, 110, rfl⟩
abbrev main_call2_v23 : Ref sig .tc := ⟨.hbm, 111, rfl⟩
abbrev main_call2_cst_6 : Ref sig .tc := ⟨.hbm, 112, rfl⟩
abbrev main_call2_cst_7 : Ref sig .tc := ⟨.hbm, 113, rfl⟩
abbrev main_call2_v24 : Ref sig .tc := ⟨.hbm, 114, rfl⟩
abbrev main_call2_cst_8 : Ref sig .tc := ⟨.hbm, 115, rfl⟩
abbrev main_call2_v25 : Ref sig .tc := ⟨.hbm, 116, rfl⟩
abbrev main_call2_v26 : Ref sig .tc := ⟨.hbm, 117, rfl⟩
abbrev main_call2_cst_9 : Ref sig .tc := ⟨.hbm, 118, rfl⟩
abbrev main_call2_v27 : Ref sig .tc := ⟨.hbm, 119, rfl⟩
abbrev main_call2_v28 : Ref sig .tc := ⟨.hbm, 120, rfl⟩
abbrev main_call2_v29 : Ref sig .tc := ⟨.hbm, 121, rfl⟩
abbrev main_call2_v30 : Ref sig .tc := ⟨.hbm, 122, rfl⟩
abbrev main_call2_v31 : Ref sig .tc := ⟨.hbm, 123, rfl⟩
abbrev main_call2_cst_10 : Ref sig .tc := ⟨.hbm, 124, rfl⟩
abbrev main_call2_v32 : Ref sig .tc := ⟨.hbm, 125, rfl⟩
abbrev main_v22_2 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_cst_2 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_cst_3 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_call4_call0_cst : Ref sig .tc := ⟨.hbm, 145, rfl⟩
abbrev main_call4_call0_v0 : Ref sig .tc := ⟨.hbm, 146, rfl⟩
abbrev main_v39 : Ref sig .tc := ⟨.hbm, 147, rfl⟩
abbrev main_call5_v0 : Ref sig .tc := ⟨.hbm, 148, rfl⟩
abbrev main_call5_v1 : Ref sig .tc := ⟨.hbm, 149, rfl⟩
abbrev main_v40 : Ref sig .tc := ⟨.hbm, 150, rfl⟩
abbrev main_cst_4 : Ref sig .tc := ⟨.hbm, 151, rfl⟩
abbrev main_v41 : Ref sig .tc := ⟨.hbm, 152, rfl⟩
abbrev main_v42 : Ref sig .tc := ⟨.hbm, 153, rfl⟩
abbrev main_cst_5 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_cst_6 : Ref sig .tc := ⟨.hbm, 158, rfl⟩
abbrev main_v46 : Ref sig .tc := ⟨.hbm, 159, rfl⟩
abbrev main_v47 : Ref sig .tc := ⟨.hbm, 160, rfl⟩
abbrev main_cst_7 : Ref sig .tc := ⟨.hbm, 161, rfl⟩
abbrev main_v48 : Ref sig .tc := ⟨.hbm, 162, rfl⟩
abbrev main_v49 : Ref sig .tc := ⟨.hbm, 163, rfl⟩
abbrev main_cst_8 : Ref sig .tc := ⟨.hbm, 164, rfl⟩
abbrev main_v50 : Ref sig .tc := ⟨.hbm, 165, rfl⟩
abbrev main_v51 : Ref sig .tc := ⟨.hbm, 166, rfl⟩
abbrev main_cst_9 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩

abbrev nD : Nat := 1
abbrev τ : Topo := Topo.v7x

variable {F : FTy → Type} [FloatOps F]
-- ==== Kernel17.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel18.lean ====
abbrev S2048x3840 : Shape := ⟨2, ![2048, 3840]⟩
abbrev S4x1536 : Shape := ⟨2, ![4, 1536]⟩
abbrev S2048x1536 : Shape := ⟨2, ![2048, 1536]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S2048x3840 : Shape := ⟨2, ![2048, 3840]⟩
abbrev S4x1536 : Shape := ⟨2, ![4, 1536]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩
abbrev S1x2048x512 : Shape := ⟨3, ![1, 2048, 512]⟩
abbrev S3x2048x512 : Shape := ⟨3, ![3, 2048, 512]⟩

abbrev nBuf : Space → Nat
  | .hbm => 86
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .hbm, ⟨3, _⟩ => ⟨S_, .f32⟩
  | .hbm, ⟨4, _⟩ => ⟨S3x1536, .f32⟩
  | .hbm, ⟨5, _⟩ => ⟨S2051x1536, .f32⟩
  | .hbm, ⟨6, _⟩ => ⟨S2048x1536, .f32⟩
  | .hbm, ⟨7, _⟩ => ⟨S1x1536, .f32⟩
  | .hbm, ⟨8, _⟩ => ⟨S1536, .f32⟩
  | .hbm, ⟨9, _⟩ => ⟨S1x1536, .f32⟩
  | .hbm, ⟨10, _⟩ => ⟨S2048x1536, .f32⟩
  | .hbm, ⟨11, _⟩ => ⟨S2048x1536, .f32⟩
  | .hbm, ⟨12, _⟩ => ⟨S_, .f32⟩
  | .hbm, ⟨13, _⟩ => ⟨S2048x1536, .f32⟩
  | .hbm, ⟨14, _⟩ => ⟨S2048x1536, .f32⟩
  | .hbm, ⟨15, _⟩ => ⟨S2048x1536, .f32⟩
  | .hbm, ⟨16, _⟩ => ⟨S1x1536, .f32⟩
  | .hbm, ⟨17, _⟩ => ⟨S1536, .f32⟩
  | .hbm, ⟨18, _⟩ => ⟨S1x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S1x1536, .f32⟩
  | .hbm, ⟨24, _⟩ => ⟨S1536, .f32⟩
  | .hbm, ⟨25, _⟩ => ⟨S1x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | .hbm, ⟨44, _⟩ => ⟨S2048x1536, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x4x128, .f32⟩
  | .hbm, ⟨49, _⟩ => ⟨S2048x4x128, .f32⟩
  | .hbm, ⟨50, _⟩ => ⟨S2048x4x128, .f32⟩
  | .hbm, ⟨51, _⟩ => ⟨S_, .f32⟩
  | .hbm, ⟨52, _⟩ => ⟨S2048x4, .f32⟩
  | .hbm, ⟨53, _⟩ => ⟨S2048x4x1, .f32⟩
  | .hbm, ⟨54, _⟩ => ⟨S_, .f32⟩
  | .hbm, ⟨55, _⟩ => ⟨S2048x4x1, .f32⟩
  | .hbm, ⟨56, _⟩ => ⟨S2048x4x1, .f32⟩
  | .hbm, ⟨57, _⟩ => ⟨S2048x4x1, .f32⟩
  | .hbm, ⟨58, _⟩ => ⟨S2048x4x128, .f32⟩
  | .hbm, ⟨59, _⟩ => ⟨S2048x4x128, .f32⟩
  | .hbm, ⟨60, _⟩ => ⟨S_, .f32⟩
  | .hbm, ⟨61, _⟩ => ⟨S2048x4x128, .f32⟩
  | .hbm, ⟨62, _⟩ => ⟨S2048x4x128, .f32⟩
  | .hbm, ⟨63, _⟩ => ⟨S2048x4x128, .f32⟩
  | .hbm, ⟨64, _⟩ => ⟨S_, .f32⟩
  | .hbm, ⟨65, _⟩ => ⟨S2048x4, .f32⟩
  | .hbm, ⟨66, _⟩ => ⟨S2048x4x1, .f32⟩
  | .hbm, ⟨67, _⟩ => ⟨S_, .f32⟩
  | .hbm, ⟨68, _⟩ => ⟨S2048x4x1, .f32⟩
  | .hbm, ⟨69, _⟩ => ⟨S2048x4x1, .f32⟩
  | .hbm, ⟨70, _⟩ => ⟨S2048x4x1, .f32⟩
  | .hbm, ⟨71, _⟩ => ⟨S2048x4x128, .f32⟩
  | .hbm, ⟨72, _⟩ => ⟨S2048x4x128, .f32⟩
  | .hbm, ⟨73, _⟩ => ⟨S2048x512, .f32⟩
  | .hbm, ⟨74, _⟩ => ⟨S2048x512, .f32⟩
  | .hbm, ⟨75, _⟩ => ⟨S1x2048x512, .f32⟩
  | .hbm, ⟨76, _⟩ => ⟨S1x2048x512, .f32⟩
  | .hbm, ⟨77, _⟩ => ⟨S1x2048x512, .f32⟩
  | .hbm, ⟨78, _⟩ => ⟨S3x2048x512, .f32⟩
  | .hbm, ⟨79, _⟩ => ⟨S1x2048x512, .f32⟩
  | .hbm, ⟨80, _⟩ => ⟨S2048x512, .f32⟩
  | .hbm, ⟨81, _⟩ => ⟨S1x2048x512, .f32⟩
  | .hbm, ⟨82, _⟩ => ⟨S2048x512, .f32⟩
  | .hbm, ⟨83, _⟩ => ⟨S1x2048x512, .f32⟩
  | .hbm, ⟨84, _⟩ => ⟨S2048x512, .f32⟩
  | .hbm, ⟨85, _⟩ => ⟨S2048x1536, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel19.lean ====
abbrev S2048x3840 : Shape := ⟨2, ![2048, 3840]⟩
abbrev S1x8 : Shape := ⟨2, ![1, 8]⟩
abbrev S1x4 : Shape := ⟨2, ![1, 4]⟩
abbrev S_ : Shape := ⟨0, ![]⟩
abbrev S1x112 : Shape := ⟨2, ![1, 112]⟩
abbrev S1x128 : Shape := ⟨2, ![1, 128]⟩
abbrev S1x12 : Shape := ⟨2, ![1, 12]⟩
abbrev S2048x128 : Shape := ⟨2, ![2048, 128]⟩
abbrev S512x128 : Shape := ⟨2, ![512, 128]⟩
abbrev S512x512 : Shape := ⟨2, ![512, 512]⟩

abbrev nBuf : Space → Nat
  | .hbm => 15
  | .vmem => 7
  | .smem => 0
  | _ => 0

abbrev bufTy : (tb : Table) → Fin (tcTables nBuf tb) → BufTy
  | .hbm, ⟨0, _⟩ => ⟨S2048x3840, .f32⟩
  | .hbm, ⟨1, _⟩ => ⟨S1x8, .f32⟩
  | .hbm, ⟨2, _⟩ => ⟨S1x4, .f32⟩
  | .hbm, ⟨3, _⟩ => ⟨S1x4, .f32⟩
  | .hbm, ⟨4, _⟩ => ⟨S_, .f32⟩
  | .hbm, ⟨5, _⟩ => ⟨S1x4, .f32⟩
  | .hbm, ⟨6, _⟩ => ⟨S_, .f32⟩
  | .hbm, ⟨7, _⟩ => ⟨S1x112, .f32⟩
  | .hbm, ⟨8, _⟩ => ⟨S1x128, .f32⟩
  | .hbm, ⟨9, _⟩ => ⟨S_, .f32⟩
  | .hbm, ⟨10, _⟩ => ⟨S1x12, .f32⟩
  | .hbm, ⟨11, _⟩ => ⟨S_, .f32⟩
  | .hbm, ⟨12, _⟩ => ⟨S1x112, .f32⟩
  | .hbm, ⟨13, _⟩ => ⟨S1x128, .f32⟩
  | .hbm, ⟨14, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S2048x3840 : Shape := ⟨2, ![2048, 3840]⟩
abbrev S1x8 : Shape := ⟨2, ![1, 8]⟩
abbrev S1x4 : Shape := ⟨2, ![1, 4]⟩
abbrev S2048x256 : Shape := ⟨2, ![2048, 256]⟩
abbrev S2048x8 : Shape := ⟨2, ![2048, 8]⟩
abbrev S2048x4 : Shape := ⟨2, ![2048, 4]⟩
abbrev S_ : Shape := ⟨0, ![]⟩
abbrev S2048x112 : Shape := ⟨2, ![2048, 112]⟩
abbrev S2048x128 : Shape := ⟨2, ![2048, 128]⟩

abbrev nBuf : Space → Nat
  | .hbm => 60
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S1x8, .f32⟩
  | .hbm, ⟨2, _⟩ => ⟨S1x4, .f32⟩
  | .hbm, ⟨3, _⟩ => ⟨S1x4, .f32⟩
  | .hbm, ⟨4, _⟩ => ⟨S2048x256, .f32⟩
  | .hbm, ⟨5, _⟩ => ⟨S2048x8, .f32⟩
  | .hbm, ⟨6, _⟩ => ⟨S2048x4, .f32⟩
  | .hbm, ⟨7, _⟩ => ⟨S2048x4, .f32⟩
  | .hbm, ⟨8, _⟩ => ⟨S2048x8, .f32⟩
  | .hbm, ⟨9, _⟩ => ⟨S2048x8, .f32⟩
  | .hbm, ⟨10, _⟩ => ⟨S2048x8, .f32⟩
  | .hbm, ⟨11, _⟩ => ⟨S_, .f32⟩
  | .hbm, ⟨12, _⟩ => ⟨S2048x8, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S2048x8, .i1⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S_, .f32⟩
  | .hbm, ⟨27, _⟩ => ⟨S_, .f32⟩
  | .hbm, ⟨28, _⟩ => ⟨S2048x8, .f32⟩
  | .hbm, ⟨29, _⟩ => ⟨S2048x4, .f32⟩
  | .hbm, ⟨30, _⟩ => ⟨S2048x4, .f32⟩
  | .hbm, ⟨31, _⟩ => ⟨S_, .f32⟩
  | .hbm, ⟨32, _⟩ => ⟨S2048x4, .f32⟩
  | .hbm, ⟨33, _⟩ => ⟨S2048x4, .f32⟩
  | .hbm, ⟨34, _⟩ => ⟨S_, .f32⟩
  | .hbm, ⟨35, _⟩ => ⟨S2048x4, .f32⟩
  | .hbm, ⟨36, _⟩ => ⟨S2048x4, .f32⟩
  | .hbm, ⟨37, _⟩ => ⟨S1x4, .f32⟩
  | .hbm, ⟨38, _⟩ => ⟨S1x4, .f32⟩
  | .hbm, ⟨39, _⟩ => ⟨S2048x4, .f32⟩
  | .hbm, ⟨40, _⟩ => ⟨S2048x4, .f32⟩
  | .hbm, ⟨41, _⟩ => ⟨S_, .f32⟩
  | .hbm, ⟨42, _⟩ => ⟨S2048x4, .f32⟩
  | .hbm, ⟨43, _⟩ => ⟨S2048x4, .f32⟩
  | .hbm, ⟨44, _⟩ => ⟨S2048x4, .f32⟩
  | .hbm, ⟨45, _⟩ => ⟨S2048x4, .f32⟩
  | .hbm, ⟨46, _⟩ => ⟨S2048x4, .i1⟩
  | .hbm, ⟨47, _⟩ => ⟨S2048x4, .f32⟩
  | .hbm, ⟨48, _⟩ => ⟨S2048x4, .f32⟩
  | .hbm, ⟨49, _⟩ => ⟨S2048x4, .f32⟩
  | .hbm, ⟨50, _⟩ => ⟨S2048x4, .f32⟩
  | .hbm, ⟨51, _⟩ => ⟨S2048x4, .f32⟩
  | .hbm, ⟨52, _⟩ => ⟨S2048x4, .f32⟩
  | .hbm, ⟨53, _⟩ => ⟨S2048x4, .f32⟩
  | .hbm, ⟨54, _⟩ => ⟨S2048x4, .f32⟩
  | .hbm, ⟨55, _⟩ => ⟨S2048x4, .f32⟩
  | .hbm, ⟨56, _⟩ => ⟨S2048x4, .f32⟩
  | .hbm, ⟨57, _⟩ => ⟨S_, .f32⟩
  | .hbm, ⟨58, _⟩ => ⟨S2048x112, .f32⟩
  | .hbm, ⟨59, _⟩ => ⟨S2048x128, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v6 : Ref sig .tc := ⟨.hbm, 25, rfl⟩
abbrev main_call1_call0_cst : Ref sig .tc := ⟨.hbm, 26, rfl⟩
abbrev main_call1_call0_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_1 : Ref sig .tc := ⟨.hbm, 57, rfl⟩
abbrev main_v21 : Ref sig .tc := ⟨.hbm, 58, rfl⟩
abbrev main_v22 : Ref sig .tc := ⟨.hbm, 59, rfl⟩

abbrev nD : Nat := 1
abbrev τ : Topo := Topo.v7x

variable {F : FTy → Type} [FloatOps F]
-- ==== Kernel20.lean ====
abbrev S900x1024 : Shape := ⟨2, ![900, 1024]⟩
abbrev S512x1024 : Shape := ⟨2, ![512, 1024]⟩
abbrev S900x256 : Shape := ⟨2, ![900, 256]⟩
abbrev S512x256 : Shape := ⟨2, ![512, 256]⟩
abbrev S1024x256 : Shape := ⟨2, ![1024, 256]⟩

abbrev nBuf : Space → Nat
  | .hbm => 9
  | .vmem => 19
  | .smem => 0
  | _ => 0

abbrev bufTy : (tb : Table) → Fin (tcTables nBuf tb) → BufTy
  | .hbm, ⟨0, _⟩ => ⟨S900x1024, .f32⟩
  | .hbm, ⟨1, _⟩ => ⟨S512x1024, .f32⟩
  | .hbm, ⟨2, _⟩ => ⟨S512x1024, .f32⟩
  | .hbm, ⟨3, _⟩ => ⟨S900x1024, .f32⟩
  | .hbm, ⟨4, _⟩ => ⟨S900x1024, .f32⟩
  | .hbm, ⟨5, _⟩ => ⟨S900x1024, .f32⟩
  | .hbm, ⟨6, _⟩ => ⟨S900x1024, .f32⟩
  | .hbm, ⟨7, _⟩ => ⟨S900x1024, .f32⟩
  | .hbm, ⟨8, _⟩ => ⟨S900x1024, .f32⟩
  | .local _ .vmem, ⟨0, _⟩ => ⟨S900x256, .f32⟩
  | .local _ .vmem, ⟨1, _⟩ => ⟨S900x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S900x256, .f32⟩
  | .local _ .vmem, ⟨7, _⟩ => ⟨S900x256, .f32⟩
  | .local _ .vmem, ⟨8, _⟩ => ⟨S900x256, .f32⟩
  | .local _ .vmem, ⟨9, _⟩ => ⟨S900x256, .f32⟩
  | .local _ .vmem, ⟨10, _⟩ => ⟨S900x256, .f32⟩
  | .local _ .vmem, ⟨11, _⟩ => ⟨S900x256, .f32⟩
  | .local _ .vmem, ⟨12, _⟩ => ⟨S900x256, .f32⟩
  | .local _ .vmem, ⟨13, _⟩ => ⟨S900x256, .f32⟩
  | .local _ .vmem, ⟨14, _⟩ => ⟨S900x256, .f32⟩
  | .local _ .vmem, ⟨15, _⟩ => ⟨S900x256, .f32⟩
  | .local _ .vmem, ⟨16, _⟩ => ⟨S900x256, .f32⟩
  | .local _ .vmem, ⟨17, _⟩ => ⟨S900x256, .f32⟩
  | .local _ .vmem, ⟨18, _⟩ => ⟨S1024x256, .f32⟩
  | _, _ => ⟨S900x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S900x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S900x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S900x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S900x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S900x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S900x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S900x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S900x1024 : Shape := ⟨2, ![900, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S900x1024, .f32⟩
  | .hbm, ⟨1, _⟩ => ⟨S512x1024, .f32⟩
  | .hbm, ⟨2, _⟩ => ⟨S512x1024, .f32⟩
  | .hbm, ⟨3, _⟩ => ⟨S900x1024, .f32⟩
  | .hbm, ⟨4, _⟩ => ⟨S900x1024, .f32⟩
  | .hbm, ⟨5, _⟩ => ⟨S1024x1024, .f32⟩
  | .hbm, ⟨6, _⟩ => ⟨S900x1024, .f32⟩
  | .hbm, ⟨7, _⟩ => ⟨S_, .f32⟩
  | .hbm, ⟨8, _⟩ => ⟨S900x1024, .f32⟩
  | .hbm, ⟨9, _⟩ => ⟨S900x1024, .f32⟩
  | .hbm, ⟨10, _⟩ => ⟨S_, .f32⟩
  | .hbm, ⟨11, _⟩ => ⟨S900x1024, .f32⟩
  | .hbm, ⟨12, _⟩ => ⟨S900x1024, .f32⟩
  | .hbm, ⟨13, _⟩ => ⟨S900x1024, .f32⟩
  | .hbm, ⟨14, _⟩ => ⟨S_, .f32⟩
  | .hbm, ⟨15, _⟩ => ⟨S900x1024, .f32⟩
  | .hbm, ⟨16, _⟩ => ⟨S900x1024, .f32⟩
  | .hbm, ⟨17, _⟩ => ⟨S900x1024, .f32⟩
  | .hbm, ⟨18, _⟩ => ⟨S_, .f32⟩
  | .hbm, ⟨19, _⟩ => ⟨S900x1024, .f32⟩
  | .hbm, ⟨20, _⟩ => ⟨S900x1024, .f32⟩
  | .hbm, ⟨21, _⟩ => ⟨S900x1024, .f32⟩
  | .hbm, ⟨22, _⟩ => ⟨S_, .f32⟩
  | .hbm, ⟨23, _⟩ => ⟨S900x1024, .f32⟩
  | .hbm, ⟨24, _⟩ => ⟨S900x1024, .f32⟩
  | .hbm, ⟨25, _⟩ => ⟨S_, .f32⟩
  | .hbm, ⟨26, _⟩ => ⟨S900x1024, .f32⟩
  | .hbm, ⟨27, _⟩ => ⟨S900x1024, .f32⟩
  | .hbm, ⟨28, _⟩ => ⟨S900x1024, .f32⟩
  | .hbm, ⟨29, _⟩ => ⟨S_, .f32⟩
  | .hbm, ⟨30, _⟩ => ⟨S900x1024, .f32⟩
  | .hbm, ⟨31, _⟩ => ⟨S900x1024, .f32⟩
  | .hbm, ⟨32, _⟩ => ⟨S900x1024, .f32⟩
  | .hbm, ⟨33, _⟩ => ⟨S_, .f32⟩
  | .hbm, ⟨34, _⟩ => ⟨S900x1024, .f32⟩
  | .hbm, ⟨35, _⟩ => ⟨S900x1024, .f32⟩
  | .hbm, ⟨36, _⟩ => ⟨S900x1024, .f32⟩
  | .hbm, ⟨37, _⟩ => ⟨S_, .f32⟩
  | .hbm, ⟨38, _⟩ => ⟨S900x1024, .f32⟩
  | .hbm, ⟨39, _⟩ => ⟨S900x1024, .f32⟩
  | _, _ => ⟨S900x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S900x1024 : Shape := ⟨2, ![900, 1024]⟩
abbrev S512x1024 : Shape := ⟨2, ![512, 1024]⟩
abbrev S900x256 : Shape := ⟨2, ![900, 256]⟩
abbrev S512x256 : Shape := ⟨2, ![512, 256]⟩
abbrev S1024x256 : Shape := ⟨2, ![1024, 256]⟩

abbrev nBuf : Space → Nat
  | .hbm => 9
  | .vmem => 19
  | .smem => 0
  | _ => 0

abbrev bufTy : (tb : Table) → Fin (tcTables nBuf tb) → BufTy
  | .hbm, ⟨0, _⟩ => ⟨S900x1024, .f32⟩
  | .hbm, ⟨1, _⟩ => ⟨S512x1024, .f32⟩
  | .hbm, ⟨2, _⟩ => ⟨S512x1024, .f32⟩
  | .hbm, ⟨3, _⟩ => ⟨S900x1024, .f32⟩
  | .hbm, ⟨4, _⟩ => ⟨S900x1024, .f32⟩
  | .hbm, ⟨5, _⟩ => ⟨S900x1024, .f32⟩
  | .hbm, ⟨6, _⟩ => ⟨S900x1024, .f32⟩
  | .hbm, ⟨7, _⟩ => ⟨S900x1024, .f32⟩
  | .hbm, ⟨8, _⟩ => ⟨S900x1024, .f32⟩
  | .local _ .vmem, ⟨0, _⟩ => ⟨S900x256, .f32⟩
  | .local _ .vmem, ⟨1, _⟩ => ⟨S900x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S900x256, .f32⟩
  | .local _ .vmem, ⟨7, _⟩ => ⟨S900x256, .f32⟩
  | .local _ .vmem, ⟨8, _⟩ => ⟨S900x256, .f32⟩
  | .local _ .vmem, ⟨9, _⟩ => ⟨S900x256, .f32⟩
  | .local _ .vmem, ⟨10, _⟩ => ⟨S900x256, .f32⟩
  | .local _ .vmem, ⟨11, _⟩ => ⟨S900x256, .f32⟩
  | .local _ .vmem, ⟨12, _⟩ => ⟨S900x256, .f32⟩
  | .local _ .vmem, ⟨13, _⟩ => ⟨S900x256, .f32⟩
  | .local _ .vmem, ⟨14, _⟩ => ⟨S900x256, .f32⟩
  | .local _ .vmem, ⟨15, _⟩ => ⟨S900x256, .f32⟩
  | .local _ .vmem, ⟨16, _⟩ => ⟨S900x256, .f32⟩
  | .local _ .vmem, ⟨17, _⟩ => ⟨S900x256, .f32⟩
  | .local _ .vmem, ⟨18, _⟩ => ⟨S1024x256, .f32⟩
  | _, _ => ⟨S900x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S900x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S900x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S900x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S900x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S900x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S900x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S900x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S900x1024 : Shape := ⟨2, ![900, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S900x1024, .f32⟩
  | .hbm, ⟨1, _⟩ => ⟨S512x1024, .f32⟩
  | .hbm, ⟨2, _⟩ => ⟨S512x1024, .f32⟩
  | .hbm, ⟨3, _⟩ => ⟨S900x1024, .f32⟩
  | .hbm, ⟨4, _⟩ => ⟨S900x1024, .f32⟩
  | .hbm, ⟨5, _⟩ => ⟨S1024x1024, .f32⟩
  | .hbm, ⟨6, _⟩ => ⟨S900x1024, .f32⟩
  | .hbm, ⟨7, _⟩ => ⟨S_, .f32⟩
  | .hbm, ⟨8, _⟩ => ⟨S900x1024, .f32⟩
  | .hbm, ⟨9, _⟩ => ⟨S900x1024, .f32⟩
  | .hbm, ⟨10, _⟩ => ⟨S_, .f32⟩
  | .hbm, ⟨11, _⟩ => ⟨S900x1024, .f32⟩
  | .hbm, ⟨12, _⟩ => ⟨S900x1024, .f32⟩
  | .hbm, ⟨13, _⟩ => ⟨S900x1024, .f32⟩
  | .hbm, ⟨14, _⟩ => ⟨S_, .f32⟩
  | .hbm, ⟨15, _⟩ => ⟨S900x1024, .f32⟩
  | .hbm, ⟨16, _⟩ => ⟨S900x1024, .f32⟩
  | .hbm, ⟨17, _⟩ => ⟨S900x1024, .f32⟩
  | .hbm, ⟨18, _⟩ => ⟨S_, .f32⟩
  | .hbm, ⟨19, _⟩ => ⟨S900x1024, .f32⟩
  | .hbm, ⟨20, _⟩ => ⟨S900x1024, .f32⟩
  | .hbm, ⟨21, _⟩ => ⟨S900x1024, .f32⟩
  | .hbm, ⟨22, _⟩ => ⟨S_, .f32⟩
  | .hbm, ⟨23, _⟩ => ⟨S900x1024, .f32⟩
  | .hbm, ⟨24, _⟩ => ⟨S900x1024, .f32⟩
  | .hbm, ⟨25, _⟩ => ⟨S_, .f32⟩
  | .hbm, ⟨26, _⟩ => ⟨S900x1024, .f32⟩
  | .hbm, ⟨27, _⟩ => ⟨S900x1024, .f32⟩
  | .hbm, ⟨28, _⟩ => ⟨S900x1024, .f32⟩
  | .hbm, ⟨29, _⟩ => ⟨S_, .f32⟩
  | .hbm, ⟨30, _⟩ => ⟨S900x1024, .f32⟩
  | .hbm, ⟨31, _⟩ => ⟨S900x1024, .f32⟩
  | .hbm, ⟨32, _⟩ => ⟨S900x1024, .f32⟩
  | .hbm, ⟨33, _⟩ => ⟨S_, .f32⟩
  | .hbm, ⟨34, _⟩ => ⟨S900x1024, .f32⟩
  | .hbm, ⟨35, _⟩ => ⟨S900x1024, .f32⟩
  | .hbm, ⟨36, _⟩ => ⟨S900x1024, .f32⟩
  | .hbm, ⟨37, _⟩ => ⟨S_, .f32⟩
  | .hbm, ⟨38, _⟩ => ⟨S900x1024, .f32⟩
  | .hbm, ⟨39, _⟩ => ⟨S900x1024, .f32⟩
  | _, _ => ⟨S900x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Reals.lean ====
/- Ideal values that are real numbers: how the ideal operations act on them, and the float literals the programs use. -/
module

public import Idealize.ShloMosaic.PureOps.Ideal.Laws
public import Idealize.ShloMosaic.Lib.Pointwise

@[expose] public section

noncomputable section

namespace Cert.Reals

open Idealize.ShloMosaic

/-- The literal 1e-6 as the float word holds it. -/
def eps : ℝ := 8796093 * (2 ^ 43)⁻¹

/-- The literal 128 ^ -0.5 as the float word holds it. -/
def qscale : ℝ := 11863283 * (2 ^ 27)⁻¹

theorem eps_eq : Ideal.ofBits .f32 0x358637BD#32 = ((eps : ℝ) : EReal) := by
  simp only [eps, EReal.coe_mul]; simp [Ideal.ofBits, Ideal.ieee]

theorem eps_pos : 0 < eps := by unfold eps; positivity

theorem qscale_eq : Ideal.ofBits .f32 0x3DB504F3#32 = ((qscale : ℝ) : EReal) := by
  simp only [qscale, EReal.coe_mul]; simp [Ideal.ofBits, Ideal.ieee]

theorem mhalf_eq : Ideal.ofBits .f32 0xBF000000#32 = ((-(1/2) : ℝ) : EReal) := by
  have h : (-(1/2) : ℝ) = -(8388608 * (2 ^ 24)⁻¹) := by norm_num
  rw [h, EReal.coe_neg, EReal.coe_mul]; simp [Ideal.ofBits, Ideal.ieee]

theorem two_eq : Ideal.ofBits .f32 0x40000000#32 = ((2 : ℝ) : EReal) := by
  have h : (2 : ℝ) = 8388608 * (2 ^ 22)⁻¹ := by norm_num
  rw [h, EReal.coe_mul]; simp [Ideal.ofBits, Ideal.ieee]

/-- A finite sum of real numbers is real. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers by a nonzero one is the real quotient. -/
theorem div_coe_coe (x y : ℝ) (h : y ≠ 0) : Ideal.div (x : EReal) (y : EReal) = ((x / y : ℝ) : EReal) := by
  rw [Ideal.div_coe h, ← EReal.coe_mul, mul_one_div]

theorem one_div_coe (y : ℝ) (h : y ≠ 0) : Ideal.div (1 : EReal) (y : EReal) = ((1 / y : ℝ) : EReal) :=
  div_coe_coe 1 y h

/-- The reciprocal square root of a positive number. -/
theorem rsqrt_pos (x : ℝ) (h : 0 < x) : Ideal.rsqrt (x : EReal) = (((Real.sqrt x)⁻¹ : ℝ) : EReal) := by
  rw [Ideal.rsqrt_coe, if_neg (not_lt.2 h.le), if_neg h.ne']

theorem zero_sub_coe (x : ℝ) : (0 : EReal) - (x : EReal) = ((-x : ℝ) : EReal) := by
  rw [zero_sub, EReal.coe_neg]

theorem one_add_coe (x : ℝ) : (1 : EReal) + (x : EReal) = ((1 + x : ℝ) : EReal) := by
  rw [EReal.coe_add, EReal.coe_one]

theorem one_sub_coe (x : ℝ) : (1 : EReal) - (x : EReal) = ((1 - x : ℝ) : EReal) := by
  rw [EReal.coe_sub, EReal.coe_one]

/-- A choice between a real number and zero. -/
theorem ite_coe_zero (p : Prop) [Decidable p] (x : ℝ) :
    (if p then (x : EReal) else 0) = ((if p then x else 0 : ℝ) : EReal) := by
  split <;> simp

/-- An extended real of finite absolute value is real. -/
theorem exists_real {a : EReal} (h : max a (-a) < ⊤) : ∃ r : ℝ, a = (r : EReal) := by
  induction a with
  | bot => simp at h
  | top => simp at h
  | coe r => exact ⟨r, rfl⟩

theorem inf_eq : Ideal.ofBits .f32 2139095040#32 = ⊤ := by
  simp [Ideal.ofBits, Ideal.ieee]

/-- What the comparison "the absolute value is below infinity" says of one number. -/
theorem real_of_cmp {a : Ideal .f32} (h : BitVec.ofBool (decide (FloatOps.absf a < Ideal.ofBits .f32 2139095040#32)) = 1#1) :
    ∃ r : ℝ, a = (r : EReal) := by
  refine exists_real (a := a) ?_
  rw [inf_eq] at h
  by_contra hn
  have : decide (FloatOps.absf a < (⊤ : EReal)) = false := decide_eq_false hn
  rw [this] at h
  exact absurd h (by decide)

/-- Two matrices are equal when their entries are. -/
theorem ext2 {a b : ℕ} {α : Type} {f g : (⟨2, ![a, b]⟩ : Shape).Idx → α} (h : ∀ r k, f (ix2 r k) = g (ix2 r k)) : f = g := by
  funext i
  have e : ix2 (n0 := a) (n1 := b) (i 0) (i 1) = i := ix2_eta i
  rw [← e]
  exact h _ _

end Cert.Reals

end
-- ==== Proof.Conv.Math.lean ====
/- The gradient of "short convolution, silu, l2 norm" for one block of 128 lanes, over the real numbers. -/
module

public import proofs.«01_k».proof.Proof.Reals

@[expose] public section

noncomputable section

namespace Cert.Conv

open Cert.Reals

/-- Block `b` of the 12 (4 of the queries, 4 of the keys, 4 of the values): `x` the block's rows of the projection,
    `w` the four taps, `g` the gradient of the block's result. -/
structure Block where
  b : ℕ
  x : ℕ → Fin 128 → ℝ
  w : Fin 4 → Fin 128 → ℝ
  g : ℕ → Fin 128 → ℝ

namespace Block

variable (B : Block)

/-- The rows moved down by `s`, zeros coming in. -/
def tap (s r : ℕ) (l : Fin 128) : ℝ := if s ≤ r then B.x (r - s) l else 0

/-- The convolution. -/
def pre (r : ℕ) (l : Fin 128) : ℝ :=
  B.x r l * B.w 3 l + B.tap 3 r l * B.w 0 l + B.tap 2 r l * B.w 1 l + B.tap 1 r l * B.w 2 l

/-- The logistic function of the convolution. -/
def sg (r : ℕ) (l : Fin 128) : ℝ := 1 / (1 + Real.exp (-B.pre r l))

/-- Silu of the convolution. -/
def c (r : ℕ) (l : Fin 128) : ℝ := B.pre r l * B.sg r l

/-- The sum of squares of a row, with the epsilon. -/
def ss (r : ℕ) : ℝ := (∑ l, B.c r l * B.c r l) + eps

/-- One over the norm of a row. -/
def rs (r : ℕ) : ℝ := (Real.sqrt (B.ss r))⁻¹

/-- The scale the queries are multiplied by. -/
def sc : ℝ := if B.b < 4 then qscale else 1

/-- The gradient before the norm. -/
def dc (r : ℕ) (l : Fin 128) : ℝ :=
  if B.b < 8 then
    B.rs r * (B.g r l * B.sc) - B.c r l * (B.rs r * B.rs r * B.rs r) * ∑ k, B.g r k * B.sc * B.c r k
  else B.g r l * B.sc

/-- The gradient before the silu. -/
def dpre (r : ℕ) (l : Fin 128) : ℝ := B.dc r l * B.sg r l * (1 + B.pre r l * (1 - B.sg r l))

/-- The gradient's rows moved up by `s`, zeros coming in. -/
def up (s r : ℕ) (l : Fin 128) : ℝ := if r < 2048 - s then B.dpre (r + s) l else 0

/-- The gradient of the projection. -/
def dx (r : ℕ) (l : Fin 128) : ℝ :=
  B.dpre r l * B.w 3 l + B.up 3 r l * B.w 0 l + B.up 2 r l * B.w 1 l + B.up 1 r l * B.w 2 l

/-- The gradient of the tap that reads `s` rows back. -/
def dw (s : ℕ) (l : Fin 128) : ℝ := ∑ r : Fin 2048, B.dpre r l * B.tap s r l

theorem one_add_exp_pos (y : ℝ) : 1 + Real.exp y ≠ 0 := by positivity

theorem ss_pos (r : ℕ) : 0 < B.ss r := by
  unfold ss
  have h : 0 ≤ ∑ l, B.c r l * B.c r l := Finset.sum_nonneg fun l _ => mul_self_nonneg _
  linarith [eps_pos]

theorem rs_div_ss (r : ℕ) : B.rs r / B.ss r = B.rs r * B.rs r * B.rs r := by
  have h := B.ss_pos r
  have e : B.rs r * B.rs r = (B.ss r)⁻¹ := by unfold rs; rw [← mul_inv, Real.mul_self_sqrt h.le]
  rw [e, div_eq_mul_inv, mul_comm]

/-- The derivative of a scaled normalised row, the way the product rule writes it. -/
theorem dc_norm (h : B.b < 8) (r : ℕ) (l : Fin 128) :
    B.g r l * B.sc * B.rs r + B.c r l * ((∑ k, B.c r k * (B.g r k * B.sc)) * (-(1/2) * (B.rs r / B.ss r)))
      + (∑ k, B.c r k * (B.g r k * B.sc)) * (-(1/2) * (B.rs r / B.ss r)) * B.c r l = B.dc r l := by
  have e : ∑ k, B.c r k * (B.g r k * B.sc) = ∑ k, B.g r k * B.sc * B.c r k :=
    Finset.sum_congr rfl fun k _ => mul_comm _ _
  rw [dc, if_pos h, rs_div_ss, e]
  ring

end Block

/-- The arrays of the whole call as real numbers: the 1536 columns of the projection, the taps, the three gradients. -/
structure Arrays where
  X : ℕ → ℕ → ℝ
  W : ℕ → ℕ → ℝ
  G : ℕ → ℕ → ℕ → ℝ

/-- Block `b` of the whole arrays. -/
def Arrays.blk (A : Arrays) (b : ℕ) : Block where
  b := b
  x r l := A.X r (128 * b + l)
  w j l := A.W j (128 * b + l)
  g r l := A.G (b / 4) r (128 * (b % 4) + l)

end Cert.Conv

end
-- ==== Proof.Conv.Kernel.lean ====
/- What the kernel's body computes on one block, read at an index, when its operands are real numbers. -/
module

public import proofs.«01_k».proof.Proof.Conv.Math
public import proofs.«01_k».proof.Proof.Gen.KernelIdeal.Skeleton
public import Idealize.ShloMosaic.Lib.Pointwise
public import Idealize.ShloMosaic.Lib.WordCmp

@[expose] public section

set_option maxRecDepth 16384

noncomputable section

namespace Cert.Conv

open Idealize.ShloMosaic Idealize.ShloMosaic.TcCoe Idealize.SL.Sem
open Cert.KernelIdeal Cert.KernelIdeal.Gen Cert.Reals

variable (B : Block)

section Front

variable {v0 : FVec Ideal S2048x128 .f32} {v19 : FVec Ideal S4x128 .f32}
  (hx : ∀ (r : Fin 2048) (l : Fin 128), v0 (ix2 r l) = (B.x r l : EReal))
  (hw : ∀ (r : Fin 4) (l : Fin 128), v19 (ix2 r l) = (B.w r l : EReal))

include hx

theorem pay1_apply (r : Fin 2048) (l : Fin 128) : k0_pay1 (F := Ideal) v0 (ix2 r l) = ((B.tap 3 r l : ℝ) : EReal) := by
  pointwise [k0_pay1, hx]
  simp (disch := word_cmp_side) only [hlo_ix]
  rw [ite_coe_zero, Block.tap]
  by_cases h : 3 ≤ (r : ℕ)
  · rw [if_pos h, if_pos h, show ((r : ℕ) + 2048 - 3) % 2048 = r - 3 by omega]
  · rw [if_neg h, if_neg h]

theorem pay2_apply (r : Fin 2048) (l : Fin 128) : k0_pay2 (F := Ideal) v0 (ix2 r l) = ((B.tap 2 r l : ℝ) : EReal) := by
  pointwise [k0_pay2, hx]
  simp (disch := word_cmp_side) only [hlo_ix]
  rw [ite_coe_zero, Block.tap]
  by_cases h : 2 ≤ (r : ℕ)
  · rw [if_pos h, if_pos h, show ((r : ℕ) + 2048 - 2) % 2048 = r - 2 by omega]
  · rw [if_neg h, if_neg h]

theorem pay3_apply (r : Fin 2048) (l : Fin 128) : k0_pay3 (F := Ideal) v0 (ix2 r l) = ((B.tap 1 r l : ℝ) : EReal) := by
  pointwise [k0_pay3, hx]
  simp (disch := word_cmp_side) only [hlo_ix]
  rw [ite_coe_zero, Block.tap]
  by_cases h : 1 ≤ (r : ℕ)
  · rw [if_pos h, if_pos h, show ((r : ℕ) + 2048 - 1) % 2048 = r - 1 by omega]
  · rw [if_neg h, if_neg h]

include hw

theorem pay4_apply (r : Fin 2048) (l : Fin 128) : k0_pay4 (F := Ideal) v0 v19 (ix2 r l) = ((B.pre r l : ℝ) : EReal) := by
  pointwise [k0_pay4, hx, hw, pay1_apply B hx, pay2_apply B hx, pay3_apply B hx]
  simp only [← EReal.coe_mul, ← EReal.coe_add]
  rfl

theorem pay5_apply (r : Fin 2048) (l : Fin 128) : k0_pay5 (F := Ideal) v0 v19 (ix2 r l) = ((B.sg r l : ℝ) : EReal) := by
  pointwise [k0_pay5, pay4_apply B hx hw]
  rw [zero_sub_coe, Ideal.exp_coe, one_add_coe, one_div_coe _ (Block.one_add_exp_pos _)]
  rfl

theorem pay6_apply (r : Fin 2048) (l : Fin 128) : k0_pay6 (F := Ideal) v0 v19 (ix2 r l) = ((B.c r l : ℝ) : EReal) := by
  pointwise [k0_pay6, pay4_apply B hx hw, pay5_apply B hx hw]
  rw [← EReal.coe_mul]
  rfl

end Front

section Back

variable {a : BitVec 32} {v0 : FVec Ideal S2048x128 .f32} {v19 : FVec Ideal S4x128 .f32} {v34 v41 v42 : FVec Ideal S2048x128 .f32} {v46 : FVec Ideal S1x2048x128 .f32}
  (hb : B.b < 12) (ha : a = BitVec.ofNat 32 B.b)
  (hw : ∀ (r : Fin 4) (l : Fin 128), v19 (ix2 r l) = (B.w r l : EReal))
  (h34 : ∀ (r : Fin 2048) (l : Fin 128), v34 (ix2 r l) = (B.pre r l : EReal))
  (h41 : ∀ (r : Fin 2048) (l : Fin 128), v41 (ix2 r l) = (B.sg r l : EReal))
  (h42 : ∀ (r : Fin 2048) (l : Fin 128), v42 (ix2 r l) = (B.c r l : EReal))
  (h46 : ∀ (r : Fin 2048) (l : Fin 128), v46 (ix3 0 r l) = (B.g r l : EReal))

include hb ha h34 h41 h42 h46

theorem pay7_apply (r : Fin 2048) (l : Fin 128) : k0_pay7 (F := Ideal) a v34 v41 v42 v46 (ix2 r l) = ((B.dpre r l : ℝ) : EReal) := by
  have h4 : Scalar.select (Scalar.cmpi .slt a 4#32) (qscale : EReal) 1 = ((B.sc : ℝ) : EReal) := by
    subst ha
    simp (disch := word_cmp_side) only [hlo_ix]
    unfold Block.sc
    split <;> simp
  pointwise [k0_pay7, h34, h41, h42, h46, eps_eq, qscale_eq, h4]
  simp only [← EReal.coe_mul, sum_coe, ← EReal.coe_add]
  rw [← Block.ss, rsqrt_pos _ (B.ss_pos r)]
  simp only [← EReal.coe_mul, sum_coe, ← EReal.coe_add, ← EReal.coe_sub, one_sub_coe, one_add_coe]
  subst ha
  simp (disch := word_cmp_side) only [hlo_ix]
  unfold Block.dpre Block.dc
  split <;> rfl

include hw

theorem pay8_apply (r : Fin 2048) (l : Fin 128) :
    k0_pay8 (F := Ideal) a v19 v34 v41 v42 v46 (ix2 r l) = ((B.dpre r l * B.w 3 l : ℝ) : EReal) := by
  pointwise [k0_pay8, hw, pay7_apply B hb ha h34 h41 h42 h46]
  rw [EReal.coe_mul]

theorem pay9_apply (r : Fin 2048) (l : Fin 128) :
    k0_pay9 (F := Ideal) a v19 v34 v41 v42 v46 (ix2 r l) = ((B.up 3 r l * B.w 0 l : ℝ) : EReal) := by
  pointwise [k0_pay9, hw, pay7_apply B hb ha h34 h41 h42 h46]
  simp (disch := word_cmp_side) only [hlo_ix]
  rw [← EReal.coe_mul, ite_coe_zero, Block.up]
  by_cases h : (r : ℕ) < 2045
  · rw [if_pos h, if_pos h, show ((r : ℕ) + 2048 - 2045) % 2048 = r + 3 by omega]
  · rw [if_neg h, if_neg h, zero_mul]

end Back

section Last

variable {v0 : FVec Ideal S2048x128 .f32} {v19 : FVec Ideal S4x128 .f32} {v75 v78 v87 t : FVec Ideal S2048x128 .f32}
  (hw : ∀ (r : Fin 4) (l : Fin 128), v19 (ix2 r l) = (B.w r l : EReal))
  (h75 : ∀ (r : Fin 2048) (l : Fin 128), v75 (ix2 r l) = (B.dpre r l : EReal))
  (h78 : ∀ (r : Fin 2048) (l : Fin 128), v78 (ix2 r l) = ((B.dpre r l * B.w 3 l : ℝ) : EReal))
  (h87 : ∀ (r : Fin 2048) (l : Fin 128), v87 (ix2 r l) = ((B.up 3 r l * B.w 0 l : ℝ) : EReal))

include hw h75 h78 h87 in
theorem pay10_apply (r : Fin 2048) (l : Fin 128) :
    k0_pay10 (F := Ideal) v19 v75 v78 v87 (ix2 r l) = ((B.dx r l : ℝ) : EReal) := by
  pointwise [k0_pay10, hw, h75, h78, h87]
  simp (disch := word_cmp_side) only [hlo_ix]
  simp only [← EReal.coe_mul, ite_coe_zero, ← EReal.coe_add]
  unfold Block.dx
  congr 2
  · congr 1
    by_cases h : (r : ℕ) < 2046
    · rw [Block.up, if_pos h, if_pos h, show ((r : ℕ) + 2048 - 2046) % 2048 = r + 2 by omega]
    · rw [Block.up, if_neg h, if_neg h, zero_mul]
  · by_cases h : (r : ℕ) < 2047
    · rw [Block.up, if_pos h, if_pos h, show ((r : ℕ) + 2048 - 2047) % 2048 = r + 1 by omega]
    · rw [Block.up, if_neg h, if_neg h, zero_mul]

variable (s : ℕ) (ht : ∀ (r : Fin 2048) (l : Fin 128), t (ix2 r l) = (B.tap s r l : EReal))

include h75 ht

theorem pay11_apply (l : Fin 128) : k0_pay11 (F := Ideal) t v75 (ix2 0 l) = ((B.dw s l : ℝ) : EReal) := by
  pointwise [k0_pay11, h75, ht]
  simp only [← EReal.coe_mul, sum_coe]
  rfl

theorem pay12_apply (l : Fin 128) : k0_pay12 (F := Ideal) t v75 (ix2 0 l) = ((B.dw s l : ℝ) : EReal) := by
  pointwise [k0_pay12, h75, ht]
  simp only [← EReal.coe_mul, sum_coe]
  rfl

theorem pay13_apply (l : Fin 128) : k0_pay13 (F := Ideal) t v75 (ix2 0 l) = ((B.dw s l : ℝ) : EReal) := by
  pointwise [k0_pay13, h75, ht]
  simp only [← EReal.coe_mul, sum_coe]
  rfl

theorem pay14_apply (l : Fin 128) : k0_pay14 (F := Ideal) t v75 (ix2 0 l) = ((B.dw s l : ℝ) : EReal) := by
  pointwise [k0_pay14, h75, ht]
  simp only [← EReal.coe_mul, sum_coe]
  rfl

end Last

end Cert.Conv

end
-- ==== Proof.Conv.Final.lean ====
/- The two arrays the kernel leaves, over the reals. -/
module

public import proofs.«01_k».proof.Proof.Conv.Kernel
public import proofs.«01_k».proof.Proof.Gen.KernelIdeal.Value
public import Idealize.ShloMosaic.Lib.Pipeline.ValueKit

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (A : Arrays)

theorem idx : ∀ t : Fin cfg0.N, win0_0.index t = ![0, 12 + t.val] ∧ win0_1.index t = ![0, t.val]
    ∧ win0_2.index t = ![t.val / 4, 0, t.val % 4] ∧ win0_3.index t = ![0, 12 + t.val] ∧ win0_4.index t = ![0, t.val]
    ∧ (grid0.coords t 0).val = t.val ∧ t.val < 12 :=
  (by decide +kernel : ∀ t : Fin grid0.N, _)

/-- The arguments are real numbers, the ones `A` names. -/
structure Reads (c : Dev nD) : Prop where
  x : ∀ (r : Fin 2048) (k : ℕ) (h : 1536 + k < 3840), k < 1536 →
    (m ((c : Thread nD τ).loc main_arg0) : FVec Ideal S2048x3840 .f32) (ix2 r ⟨1536 + k, h⟩) = (A.X r k : EReal)
  w : ∀ (j : Fin 4) (k : Fin 1536), (m ((c : Thread nD τ).loc main_arg1) : FVec Ideal S4x1536 .f32) (ix2 j k) = (A.W j k : EReal)
  g : ∀ (p : Fin 3) (r : Fin 2048) (k : Fin 512),
    (m ((c : Thread nD τ).loc main_arg2) : FVec Ideal S3x2048x512 .f32) (ix3 p r k) = (A.G p r k : EReal)

section Blocks

variable {m A} {c : Dev nD} (H : Reads m A c) (t : Fin cfg0.N)

include H

theorem blk0 (r : Fin 2048) (l : Fin 128) : (show FVec Ideal S2048x128 .f32 from iblk m c 0 t) (ix2 r l) = ((A.blk t.val).x r l : EReal) := by
  have h := (idx t).2.2.2.2.2.2
  refine Eq.trans ?_ (H.x r (128 * t.val + l) (by omega) (by omega))
  blk_ext [iblk, V, (idx t).1]

theorem blk1 (r : Fin 4) (l : Fin 128) : (show FVec Ideal S4x128 .f32 from iblk m c 1 t) (ix2 r l) = ((A.blk t.val).w r l : EReal) := by
  have h := (idx t).2.2.2.2.2.2
  refine Eq.trans ?_ (H.w r ⟨128 * t.val + l, by omega⟩)
  blk_ext [iblk, V, (idx t).2.1]

theorem blk2 (r : Fin 2048) (l : Fin 128) : (show FVec Ideal S1x2048x128 .f32 from iblk m c 2 t) (ix3 0 r l) = ((A.blk t.val).g r l : EReal) := by
  have h := (idx t).2.2.2.2.2.2
  refine Eq.trans ?_ (H.g ⟨t.val / 4, by omega⟩ r ⟨128 * (t.val % 4) + l, by omega⟩)
  blk_ext [iblk, V, (idx t).2.2.1]

theorem dpre1 (r : Fin 2048) (l : Fin 128) :
    k0_pay7 (F := Ideal) (BitVec.ofNat 32 (grid0.coords t 0).val) (k0_pay4 (iblk m c 0 t) (iblk m c 1 t)) (k0_pay5 (iblk m c 0 t) (iblk m c 1 t))
      (k0_pay6 (iblk m c 0 t) (iblk m c 1 t)) (iblk m c 2 t) (ix2 r l) = (((A.blk t.val).dpre r l : ℝ) : EReal) := by
  have h := (idx t).2.2.2.2.2.2
  exact pay7_apply (A.blk t.val) h (by rw [(idx t).2.2.2.2.2.1]; rfl) (pay4_apply _ (blk0 H t) (blk1 H t))
    (pay5_apply _ (blk0 H t) (blk1 H t)) (pay6_apply _ (blk0 H t) (blk1 H t)) (blk2 H t) r l

theorem point3 (r : Fin 2048) (l : Fin 128) :
    (show FVec Ideal S2048x128 .bf16 from (dats m 0 c).after 3 t) (ix2 r l) = (((A.blk t.val).dx r l : ℝ) : EReal) := by
  have h := (idx t).2.2.2.2.2.2
  have ha : BitVec.ofNat 32 (grid0.coords t 0).val = BitVec.ofNat 32 (A.blk t.val).b := by rw [(idx t).2.2.2.2.2.1]; rfl
  rw [after0_3]; frame_out
  exact pay10_apply (A.blk t.val) (blk1 H t) (dpre1 H t)
    (pay8_apply _ h ha (blk1 H t) (pay4_apply _ (blk0 H t) (blk1 H t)) (pay5_apply _ (blk0 H t) (blk1 H t)) (pay6_apply _ (blk0 H t) (blk1 H t)) (blk2 H t))
    (pay9_apply _ h ha (blk1 H t) (pay4_apply _ (blk0 H t) (blk1 H t)) (pay5_apply _ (blk0 H t) (blk1 H t)) (pay6_apply _ (blk0 H t) (blk1 H t)) (blk2 H t)) r l

theorem point4 (j : Fin 4) (l : Fin 128) :
    (show FVec Ideal S4x128 .f32 from (dats m 0 c).after 4 t) (ix2 j l) = (((A.blk t.val).dw (3 - j) l : ℝ) : EReal) := by
  rw [after0_4]; frame_out
  have h0 := blk0 H t
  have h1 := blk1 H t
  have hd := dpre1 H t
  canon_tiles x hx
  case piece0 =>
    have e : x = ix2 0 l := by funext a; fin_cases a <;> apply Fin.ext <;> simp_all
    have e3 : (j : ℕ) = 3 := by simp_all
    rw [e, e3]
    exact pay14_apply _ hd 0 (fun r l => (h0 r l).trans (by simp [Block.tap])) l
  case piece1 =>
    have e : x = ix2 0 l := by funext a; fin_cases a <;> apply Fin.ext <;> simp_all
    have e3 : (j : ℕ) = 2 := by simp_all
    rw [e, e3]
    exact pay13_apply _ hd 1 (pay3_apply _ h0) l
  case piece2 =>
    have e : x = ix2 0 l := by funext a; fin_cases a <;> apply Fin.ext <;> simp_all
    have e3 : (j : ℕ) = 1 := by simp_all
    rw [e, e3]
    exact pay12_apply _ hd 2 (pay2_apply _ h0) l
  case piece3 =>
    have e : x = ix2 0 l := by funext a; fin_cases a <;> apply Fin.ext <;> simp_all
    have e3 : (j : ℕ) = 0 := by simp_all
    rw [e, e3]
    exact pay11_apply _ hd 3 (pay1_apply _ h0) l

theorem final4 (j : Fin 4) (k : Fin 1536) :
    (show FVec Ideal S4x1536 .f32 from (dats m 0 c).arrAt 4 (cfgs 0).N) (ix2 j k) = (((A.blk (k / 128)).dw (3 - j) ⟨k % 128, by omega⟩ : ℝ) : EReal) := by
  have e : (dats m 0 c).arrAt 4 (cfgs 0).N = (show FVec Ideal S4x1536 .f32 from
      fun i => (((A.blk ((i 1 : ℕ) / 128)).dw (3 - (i 0 : ℕ)) ⟨(i 1 : ℕ) % 128, by omega⟩ : ℝ) : EReal)) := by
    refine (dats m 0 c).arrAt_eq_of_covers 4 _ (by decide +kernel) fun t _ y => ?_
    have h := idx t
    blk_simp
    obtain ⟨a, b, rfl⟩ : ∃ (a : Fin 4) (b : Fin 128), y = ix2 a b := ⟨y 0, y 1, by funext a; fin_cases a <;> rfl⟩
    refine (point4 H t a b).trans ?_
    have e0 : win0_4.index t 0 = 0 := by rw [h.2.2.2.2.1]; rfl
    have e1 : win0_4.index t 1 = t.val := by rw [h.2.2.2.2.1]; rfl
    simp only [e0, e1, ix2_0, ix2_1]
    have hb : (b : ℕ) < 128 := b.isLt
    congr 3
    · congr 1; omega
    · omega
    · apply Fin.ext; simp only; omega
  rw [e]; rfl

theorem final3 (r : Fin 2048) (k : Fin 3840) :
    (show FVec Ideal S2048x3840 .bf16 from (dats m 0 c).arrAt 3 (cfgs 0).N) (ix2 r k)
      = if 1536 ≤ (k : ℕ) ∧ (k : ℕ) < 3072 then (((A.blk ((k - 1536) / 128)).dx r ⟨(k - 1536) % 128, by omega⟩ : ℝ) : EReal)
        else (show FVec Ideal S2048x3840 .bf16 from V m c main_v0_0) (ix2 r k) := by
  have e : (dats m 0 c).arrAt 3 (cfgs 0).N = (show FVec Ideal S2048x3840 .bf16 from
      fun i => if 1536 ≤ (i 1 : ℕ) ∧ (i 1 : ℕ) < 3072 then
          (((A.blk (((i 1 : ℕ) - 1536) / 128)).dx (i 0) ⟨((i 1 : ℕ) - 1536) % 128, by omega⟩ : ℝ) : EReal)
        else (show FVec Ideal S2048x3840 .bf16 from V m c main_v0_0) i) := by
    refine (dats m 0 c).arrAt_eq_of_coversWhere 3 _ (fun β => 12 ≤ β 1 ∧ β 1 < 24) (by decide +kernel) (fun t hf y => ?_)
      (fun j => by blk_simp [Pipeline.Window.cell_apply]; omega)
    have h := idx t
    blk_simp
    obtain ⟨a, b, rfl⟩ : ∃ (a : Fin 2048) (b : Fin 128), y = ix2 a b := ⟨y 0, y 1, by funext a; fin_cases a <;> rfl⟩
    refine (point3 H t a b).trans ?_
    have e0 : win0_3.index t 0 = 0 := by rw [h.2.2.2.1]; rfl
    have e1 : win0_3.index t 1 = 12 + t.val := by rw [h.2.2.2.1]; rfl
    simp only [e0, e1, ix2_0, ix2_1]
    have hb : (b : ℕ) < 128 := b.isLt
    congr 3
    · congr 1; omega
    · omega
    · apply Fin.ext; simp only; omega
  rw [e]; rfl

end Blocks

end Cert.Conv

end
-- ==== Proof.Conv.Reference.lean ====
/- What the reference computes, read at an index, when the arrays are real numbers. -/
module

public import proofs.«01_k».proof.Proof.Conv.Math
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.Conv.Ref

open Idealize.ShloMosaic Idealize.ShloMosaic.TcCoe Idealize.SL.Sem
open Cert.ReferenceIdeal Cert.ReferenceIdeal.Gen Cert.ReferenceIdeal.Read Cert.Reals

variable {A : Arrays} {x0 : FVec Ideal S2048x3840 .f32} {x1 : FVec Ideal S4x1536 .f32} {x2 : FVec Ideal S3x2048x512 .f32}
  (hx : ∀ (r : Fin 2048) (k : ℕ) (h : 1536 + k < 3840), k < 1536 → x0 (ix2 r ⟨1536 + k, h⟩) = (A.X r k : EReal))
  (hw : ∀ (j : Fin 4) (k : Fin 1536), x1 (ix2 j k) = (A.W j k : EReal))
  (hg : ∀ (p : Fin 3) (r : Fin 2048) (k : Fin 512), x2 (ix3 p r k) = (A.G p r k : EReal))

section Front

include hx

theorem v26_apply (r : Fin 2048) (b : ℕ) (l : Fin 128) (h : 128 * b + l < 1536) :
    val_main_v26 (F := Ideal) x0 (ix2 r ⟨128 * b + l, h⟩) = (((A.blk b).tap 0 r l : ℝ) : EReal) := by
  pointwise [val_main_v26, val_main_v2, val_main_v1, val_main_v0, val_main_cst]
  rw [hx r (128 * b + l) (by omega) h]
  simp [Block.tap, Arrays.blk]

theorem v19_apply (r : Fin 2048) (b : ℕ) (l : Fin 128) (h : 128 * b + l < 1536) :
    val_main_v19 (F := Ideal) x0 (ix2 r ⟨128 * b + l, h⟩) = (((A.blk b).tap 1 r l : ℝ) : EReal) := by
  pointwise [val_main_v19, val_main_v2, val_main_v1, val_main_v0, val_main_cst]
  unfold Block.tap
  by_cases hr : 1 ≤ (r : ℕ)
  · rw [dif_neg (by omega), if_pos hr, hx _ (128 * b + l) (by omega) h]
    simp only [Arrays.blk, show 2 + (r : ℕ) - 3 = r - 1 by omega]
  · rw [dif_pos (by omega), if_neg hr, EReal.coe_zero]

theorem v12_apply (r : Fin 2048) (b : ℕ) (l : Fin 128) (h : 128 * b + l < 1536) :
    val_main_v12 (F := Ideal) x0 (ix2 r ⟨128 * b + l, h⟩) = (((A.blk b).tap 2 r l : ℝ) : EReal) := by
  pointwise [val_main_v12, val_main_v2, val_main_v1, val_main_v0, val_main_cst]
  unfold Block.tap
  by_cases hr : 2 ≤ (r : ℕ)
  · rw [dif_neg (by omega), if_pos hr, hx _ (128 * b + l) (by omega) h]
    simp only [Arrays.blk, show 1 + (r : ℕ) - 3 = r - 2 by omega]
  · rw [dif_pos (by omega), if_neg hr, EReal.coe_zero]

theorem v4_apply (r : Fin 2048) (b : ℕ) (l : Fin 128) (h : 128 * b + l < 1536) :
    val_main_v4 (F := Ideal) x0 (ix2 r ⟨128 * b + l, h⟩) = (((A.blk b).tap 3 r l : ℝ) : EReal) := by
  pointwise [val_main_v4, val_main_v2, val_main_v1, val_main_v0, val_main_cst]
  unfold Block.tap
  by_cases hr : 3 ≤ (r : ℕ)
  · rw [dif_neg (by omega), if_pos hr, hx _ (128 * b + l) (by omega) h]
    simp only [Arrays.blk]
  · rw [dif_pos (by omega), if_neg hr, EReal.coe_zero]

include hw

theorem v32_apply (r : Fin 2048) (b : ℕ) (l : Fin 128) (h : 128 * b + l < 1536) :
    val_main_v32 (F := Ideal) x0 x1 (ix2 r ⟨128 * b + l, h⟩) = (((A.blk b).pre r l : ℝ) : EReal) := by
  pointwise [val_main_v32, val_main_v25, val_main_v18, val_main_v11, val_main_v31, val_main_v24, val_main_v17, val_main_v9, val_main_v10,
    val_main_cst_1, val_main_v5, val_main_v6, val_main_v7, val_main_v8, val_main_v13, val_main_v14, val_main_v15, val_main_v16, val_main_v20, val_main_v21, val_main_v22, val_main_v23, val_main_v27, val_main_v28, val_main_v29, val_main_v30, v26_apply hx, v19_apply hx, v12_apply hx, v4_apply hx, hw]
  simp only [← EReal.coe_mul, ← EReal.coe_add, zero_add, EReal.coe_eq_coe_iff]
  unfold Block.pre
  simp only [Block.tap, Arrays.blk]
  simp only [if_pos (Nat.zero_le _), Nat.sub_zero]
  change _ + _ + _ + _ * A.W 3 _ = _ * A.W 3 _ + _ * A.W 0 _ + _ * A.W 1 _ + _ * A.W 2 _
  ring

theorem sg_apply (r : Fin 2048) (b : ℕ) (l : Fin 128) (h : 128 * b + l < 1536) :
    val_main_v33_2 (F := Ideal) x0 x1 (ix2 r ⟨128 * b + l, h⟩) = (((A.blk b).sg r l : ℝ) : EReal) := by
  pointwise [val_main_v33_2, val_main_call0_v0, val_main_call0_v1, val_main_call0_v2, val_main_call0_v3, val_main_call0_v4, val_main_call0_cst, val_main_call0_cst_0, v32_apply hx hw]
  rw [← EReal.coe_neg, Ideal.exp_coe, one_add_coe, one_div_coe _ (Block.one_add_exp_pos _)]; rfl

theorem c_apply (r : Fin 2048) (b : ℕ) (l : Fin 128) (h : 128 * b + l < 1536) :
    val_main_v33_0 (F := Ideal) x0 x1 (ix2 r ⟨128 * b + l, h⟩) = (((A.blk b).c r l : ℝ) : EReal) := by
  pointwise [val_main_v33_0, v32_apply hx hw, sg_apply hx hw]
  rw [← EReal.coe_mul]; rfl

theorem sg1_apply (r : Fin 2048) (b : ℕ) (l : Fin 128) (h : 128 * b + l < 1536) :
    val_main_v33_1 (F := Ideal) x0 x1 (ix2 r ⟨128 * b + l, h⟩) = (((A.blk b).sg r l * (1 - (A.blk b).sg r l) : ℝ) : EReal) := by
  pointwise [val_main_v33_1, val_main_call0_v7, val_main_call0_v6, val_main_call0_cst_1, sg_apply hx hw]
  rw [one_sub_coe, ← EReal.coe_mul]

theorem v37_apply (r : Fin 2048) (b : Fin 4) (l : Fin 128) :
    val_main_v37 (F := Ideal) x0 x1 (ix3 r b l) = (((A.blk b).c r l : ℝ) : EReal) := by
  pointwise [val_main_v37, val_main_v34]
  rw [← c_apply hx hw r b l (by omega)]
  congr 2; apply Fin.ext; simp only; omega

theorem v38_apply (r : Fin 2048) (b : Fin 4) (l : Fin 128) :
    val_main_v38 (F := Ideal) x0 x1 (ix3 r b l) = (((A.blk (4 + b)).c r l : ℝ) : EReal) := by
  pointwise [val_main_v38, val_main_v35]
  rw [← c_apply hx hw r (4 + b) l (by omega)]
  congr 2; apply Fin.ext; simp only; omega

theorem v43_apply (r : Fin 2048) (b : Fin 4) :
    val_main_v43 (F := Ideal) x0 x1 (ix3 r b 0) = (((A.blk b).ss r : ℝ) : EReal) := by
  pointwise [val_main_v43, val_main_v42, val_main_v41, val_main_v40, val_main_v39, val_main_cst_2, val_main_cst_3, v37_apply hx hw, eps_eq]
  simp only [← EReal.coe_mul, sum_coe, ← EReal.coe_add]; rfl

theorem v44_apply (r : Fin 2048) (b : Fin 4) :
    val_main_v44 (F := Ideal) x0 x1 (ix3 r b 0) = (((A.blk b).rs r : ℝ) : EReal) := by
  pointwise [val_main_v44, v43_apply hx hw]
  rw [rsqrt_pos _ (Block.ss_pos _ r)]; rfl

theorem v47_apply (r : Fin 2048) (b : Fin 4) :
    val_main_v47 (F := Ideal) x0 x1 (ix3 r b 0) = ((-(1/2) * ((A.blk b).rs r / (A.blk b).ss r) : ℝ) : EReal) := by
  pointwise [val_main_v47, val_main_v46, val_main_v45, val_main_cst_4, v43_apply hx hw, v44_apply hx hw, mhalf_eq]
  rw [div_coe_coe _ _ (Block.ss_pos _ r).ne', ← EReal.coe_mul]

theorem v56_apply (r : Fin 2048) (b : Fin 4) :
    val_main_v56 (F := Ideal) x0 x1 (ix3 r b 0) = (((A.blk (4 + b)).ss r : ℝ) : EReal) := by
  pointwise [val_main_v56, val_main_v55, val_main_v54, val_main_v53, val_main_v52, val_main_cst_6, val_main_cst_7, v38_apply hx hw, eps_eq]
  simp only [← EReal.coe_mul, sum_coe, ← EReal.coe_add]; rfl

theorem v57_apply (r : Fin 2048) (b : Fin 4) :
    val_main_v57 (F := Ideal) x0 x1 (ix3 r b 0) = (((A.blk (4 + b)).rs r : ℝ) : EReal) := by
  pointwise [val_main_v57, v56_apply hx hw]
  rw [rsqrt_pos _ (Block.ss_pos _ r)]; rfl

theorem v60_apply (r : Fin 2048) (b : Fin 4) :
    val_main_v60 (F := Ideal) x0 x1 (ix3 r b 0) = ((-(1/2) * ((A.blk (4 + b)).rs r / (A.blk (4 + b)).ss r) : ℝ) : EReal) := by
  pointwise [val_main_v60, val_main_v59, val_main_v58, val_main_cst_8, v56_apply hx hw, v57_apply hx hw, mhalf_eq]
  rw [div_coe_coe _ _ (Block.ss_pos _ r).ne', ← EReal.coe_mul]

include hg

theorem v76_apply (r : Fin 2048) (b : Fin 4) (l : Fin 128) :
    val_main_v76 (F := Ideal) x2 (ix3 r b l) = (((A.blk b).g r l : ℝ) : EReal) := by
  pointwise [val_main_v76, val_main_v70, val_main_v69, hg]
  simp only [Arrays.blk]
  rw [Nat.div_eq_of_lt b.isLt, Nat.mod_eq_of_lt b.isLt, mul_comm 128]

theorem v75_apply (r : Fin 2048) (b : Fin 4) (l : Fin 128) :
    val_main_v75 (F := Ideal) x2 (ix3 r b l) = (((A.blk (4 + b)).g r l : ℝ) : EReal) := by
  pointwise [val_main_v75, val_main_v72, val_main_v71, hg]
  simp only [Arrays.blk]
  rw [show (4 + (b : ℕ)) / 4 = 1 by omega, show 128 * ((4 + (b : ℕ)) % 4) = b * 128 by omega]

theorem v74_apply (r : Fin 2048) (k : Fin 512) : val_main_v74 (F := Ideal) x2 (ix2 r k) = (A.G 2 r k : EReal) := by
  pointwise [val_main_v74, val_main_v73, hg]

theorem v90_apply (r : Fin 2048) (b : Fin 4) (l : Fin 128) :
    val_main_v90 (F := Ideal) x2 (ix3 r b l) = (((A.blk b).g r l * (A.blk b).sc : ℝ) : EReal) := by
  pointwise [val_main_v90, val_main_v89, val_main_cst_11, v76_apply hx hw hg, qscale_eq]
  rw [← EReal.coe_mul, Block.sc, if_pos (show (A.blk b).b < 4 from b.isLt)]

theorem v98_apply (r : Fin 2048) (b : Fin 4) (l : Fin 128) :
    val_main_v98 (F := Ideal) x0 x1 x2 (ix3 r b l)
      = (((∑ k, (A.blk b).c r k * ((A.blk b).g r k * (A.blk b).sc)) * (-(1/2) * ((A.blk b).rs r / (A.blk b).ss r)) : ℝ) : EReal) := by
  pointwise [val_main_v98, val_main_v97, val_main_v96, val_main_v93, val_main_v92, val_main_v91, val_main_cst_12, val_main_cst_13,
    v37_apply hx hw, v90_apply hx hw hg, v47_apply hx hw]
  simp only [← EReal.coe_mul, sum_coe]
  rw [Fin.sum_univ_one, v47_apply hx hw, ← EReal.coe_mul]

theorem v102_apply (r : Fin 2048) (b : Fin 4) (l : Fin 128) :
    val_main_v102 (F := Ideal) x0 x1 x2 (ix3 r b l) = (((A.blk b).dc r l : ℝ) : EReal) := by
  pointwise [val_main_v102, val_main_v101, val_main_v100, val_main_v99, val_main_v95, val_main_v94, v98_apply hx hw hg, v37_apply hx hw,
    v90_apply hx hw hg, v44_apply hx hw]
  simp only [← EReal.coe_mul, ← EReal.coe_add]
  rw [(A.blk b).dc_norm (show (A.blk b).b < 8 from by have := b.isLt; simp only [Arrays.blk]; omega)]

theorem v84_apply (r : Fin 2048) (b : Fin 4) (l : Fin 128) :
    val_main_v84 (F := Ideal) x0 x1 x2 (ix3 r b l)
      = (((∑ k, (A.blk (4 + b)).c r k * (A.blk (4 + b)).g r k) * (-(1/2) * ((A.blk (4 + b)).rs r / (A.blk (4 + b)).ss r)) : ℝ) : EReal) := by
  pointwise [val_main_v84, val_main_v83, val_main_v82, val_main_v79, val_main_v78, val_main_v77, val_main_cst_9, val_main_cst_10,
    v38_apply hx hw, v75_apply hx hw hg, v60_apply hx hw]
  simp only [← EReal.coe_mul, sum_coe]
  rw [Fin.sum_univ_one, v60_apply hx hw, ← EReal.coe_mul]

theorem v88_apply (r : Fin 2048) (b : Fin 4) (l : Fin 128) :
    val_main_v88 (F := Ideal) x0 x1 x2 (ix3 r b l) = (((A.blk (4 + b)).dc r l : ℝ) : EReal) := by
  pointwise [val_main_v88, val_main_v87, val_main_v86, val_main_v85, val_main_v81, val_main_v80, v84_apply hx hw hg, v38_apply hx hw,
    v75_apply hx hw hg, v57_apply hx hw]
  simp only [← EReal.coe_mul, ← EReal.coe_add]
  have e : (A.blk (4 + b)).sc = 1 := by rw [Block.sc, if_neg (show ¬ (A.blk (4 + b)).b < 4 from by simp only [Arrays.blk]; omega)]
  have h := (A.blk (4 + b)).dc_norm (show (A.blk (4 + b)).b < 8 from by have := b.isLt; simp only [Arrays.blk]; omega) r l
  simp only [e, mul_one] at h
  rw [h]

theorem v105_apply (r : Fin 2048) (b : ℕ) (l : Fin 128) (h : 128 * b + l < 1536) :
    val_main_v105 (F := Ideal) x0 x1 x2 (ix2 r ⟨128 * b + l, h⟩) = (((A.blk b).dc r l : ℝ) : EReal) := by
  pointwise [val_main_v105, val_main_v104, val_main_v103]
  by_cases h1 : 128 * b + (l : ℕ) < 512
  · rw [dif_pos h1]
    have e : (128 * b + (l : ℕ)) / 128 = b := by omega
    simp only [v102_apply hx hw hg, e]
  rw [dif_neg h1]
  by_cases h2 : 128 * b + (l : ℕ) - 512 < 512
  · rw [dif_pos h2]
    have e : 4 + (128 * b + (l : ℕ) - 512) / 128 = b := by omega
    have e' : (⟨(128 * b + (l : ℕ) - 512) % 128, by omega⟩ : Fin 128) = l := by apply Fin.ext; simp only; omega
    simp only [v88_apply hx hw hg, e, e']
  · rw [dif_neg h2]
    have hb : ¬ (A.blk b).b < 8 := by simp only [Arrays.blk]; omega
    have hb' : ¬ (A.blk b).b < 4 := by simp only [Arrays.blk]; omega
    rw [v74_apply hx hw hg, Block.dc, if_neg hb, Block.sc, if_neg hb', mul_one]
    simp only [Arrays.blk]
    rw [show b / 4 = 2 by omega, show 128 * (b % 4) + (l : ℕ) = 128 * b + l - 512 - 512 by omega]

theorem v106_apply (r : Fin 2048) (b : ℕ) (l : Fin 128) (h : 128 * b + l < 1536) :
    val_main_v106 (F := Ideal) x0 x1 x2 (ix2 r ⟨128 * b + l, h⟩) = (((A.blk b).dpre r l : ℝ) : EReal) := by
  pointwise [val_main_v106, val_main_call1_v0, val_main_call1_v1, val_main_call1_v2, v105_apply hx hw hg, sg_apply hx hw, sg1_apply hx hw, v32_apply hx hw]
  simp only [← EReal.coe_mul, ← EReal.coe_add]
  congr 1
  unfold Block.dpre
  ring

theorem v113_apply (b : ℕ) (l : Fin 128) (h : 128 * b + l < 1536) :
    val_main_v113 (F := Ideal) x0 x1 x2 (ix2 0 ⟨128 * b + l, h⟩) = (((A.blk b).dw 0 l : ℝ) : EReal) := by
  pointwise [val_main_v113, val_main_v112, val_main_v109, val_main_v108, val_main_v107, val_main_cst_14, val_main_cst_15, v26_apply hx, v106_apply hx hw hg]
  simp only [← EReal.coe_mul, sum_coe, Fin.sum_univ_one]
  rw [Block.dw, Finset.sum_congr rfl fun (r : Fin 2048) _ => mul_comm ((A.blk b).dpre r l) _]

theorem v122_apply (b : ℕ) (l : Fin 128) (h : 128 * b + l < 1536) :
    val_main_v122 (F := Ideal) x0 x1 x2 (ix2 0 ⟨128 * b + l, h⟩) = (((A.blk b).dw 1 l : ℝ) : EReal) := by
  pointwise [val_main_v122, val_main_v121, val_main_v118, val_main_v117, val_main_v116, val_main_cst_18, val_main_cst_19, v19_apply hx, v106_apply hx hw hg]
  simp only [← EReal.coe_mul, sum_coe, Fin.sum_univ_one]
  rw [Block.dw, Finset.sum_congr rfl fun (r : Fin 2048) _ => mul_comm ((A.blk b).dpre r l) _]

theorem v133_apply (b : ℕ) (l : Fin 128) (h : 128 * b + l < 1536) :
    val_main_v133 (F := Ideal) x0 x1 x2 (ix2 0 ⟨128 * b + l, h⟩) = (((A.blk b).dw 2 l : ℝ) : EReal) := by
  pointwise [val_main_v133, val_main_v132, val_main_v129, val_main_v128, val_main_v127, val_main_cst_22, val_main_cst_23, v12_apply hx, v106_apply hx hw hg]
  simp only [← EReal.coe_mul, sum_coe, Fin.sum_univ_one]
  rw [Block.dw, Finset.sum_congr rfl fun (r : Fin 2048) _ => mul_comm ((A.blk b).dpre r l) _]

theorem v144_apply (b : ℕ) (l : Fin 128) (h : 128 * b + l < 1536) :
    val_main_v144 (F := Ideal) x0 x1 x2 (ix2 0 ⟨128 * b + l, h⟩) = (((A.blk b).dw 3 l : ℝ) : EReal) := by
  pointwise [val_main_v144, val_main_v143, val_main_v140, val_main_v139, val_main_v138, val_main_cst_26, val_main_cst_27, v4_apply hx, v106_apply hx hw hg]
  simp only [← EReal.coe_mul, sum_coe, Fin.sum_univ_one]
  rw [Block.dw, Finset.sum_congr rfl fun (r : Fin 2048) _ => mul_comm ((A.blk b).dpre r l) _]

theorem v146_apply (j : Fin 4) (b : ℕ) (l : Fin 128) (h : 128 * b + l < 1536) :
    val_main_v146 (F := Ideal) x0 x1 x2 (ix2 j ⟨128 * b + l, h⟩) = (((A.blk b).dw (3 - j) l : ℝ) : EReal) := by
  pointwise [val_main_v146, val_main_v145, val_main_v135, val_main_v134, val_main_v124, val_main_v123, val_main_v114, val_main_cst_16, val_main_cst_20, val_main_cst_24, val_main_cst_28]
  obtain ⟨j, hj⟩ := j
  interval_cases j <;> simp [h, v113_apply hx hw hg, v122_apply hx hw hg, v133_apply hx hw hg, v144_apply hx hw hg]

theorem v150_apply (r : Fin 2048) (b : ℕ) (l : Fin 128) (h : 128 * b + l < 1536) :
    val_main_v150 (F := Ideal) x0 x1 x2 (ix2 r ⟨128 * b + l, h⟩) = (((A.blk b).dx r l : ℝ) : EReal) := by
  pointwise [val_main_v150, val_main_v148, val_main_v147, val_main_v137, val_main_v136, val_main_v126, val_main_v125, val_main_v115,
    val_main_cst_17, val_main_cst_21, val_main_cst_25, val_main_cst_29, val_main_v111, val_main_v120, val_main_v131, val_main_v142,
    val_main_v110, val_main_v119, val_main_v130, val_main_v141, val_main_v29, val_main_v28, val_main_v27, val_main_v22, val_main_v21, val_main_v20,
    val_main_v15, val_main_v14, val_main_v13, val_main_v7, val_main_v6, val_main_v5, hw, v106_apply hx hw hg]
  unfold Block.dx Block.up
  simp only [h, dite_true, and_true, show (3 + (r : ℕ) - 2) = r + 1 by omega, show (3 + (r : ℕ) - 1) = r + 2 by omega, add_comm 3 (r : ℕ)]
  change _ = ((_ * A.W 3 _ + _ * A.W 0 _ + _ * A.W 1 _ + _ * A.W 2 _ : ℝ) : EReal)
  have e3 : (if (r : ℕ) < 2048 - 3 then (A.blk b).dpre (r + 3) l else 0) * A.W 0 (128 * b + l)
      = if (r : ℕ) + 3 < 2048 then (A.blk b).dpre (r + 3) l * A.W 0 (128 * b + l) else 0 := by
    rw [ite_mul, zero_mul]; exact if_congr (by omega) rfl rfl
  have e2 : (if (r : ℕ) < 2048 - 2 then (A.blk b).dpre (r + 2) l else 0) * A.W 1 (128 * b + l)
      = if 1 ≤ (r : ℕ) + 3 ∧ (r : ℕ) + 3 - 1 < 2048 then (A.blk b).dpre (r + 3 - 1) l * A.W 1 (128 * b + l) else 0 := by
    rw [ite_mul, zero_mul]; exact if_congr (by omega) rfl rfl
  have e1 : (if (r : ℕ) < 2048 - 1 then (A.blk b).dpre (r + 1) l else 0) * A.W 2 (128 * b + l)
      = if 2 ≤ (r : ℕ) + 3 ∧ (r : ℕ) + 3 - 2 < 2048 then (A.blk b).dpre (r + 3 - 2) l * A.W 2 (128 * b + l) else 0 := by
    rw [ite_mul, zero_mul]; exact if_congr (by omega) rfl rfl
  change _ = ((_ * A.W 3 (128 * b + l) + (if (r : ℕ) < 2048 - 3 then (A.blk b).dpre (r + 3) l else 0) * A.W 0 (128 * b + l)
    + (if (r : ℕ) < 2048 - 2 then (A.blk b).dpre (r + 2) l else 0) * A.W 1 (128 * b + l)
    + (if (r : ℕ) < 2048 - 1 then (A.blk b).dpre (r + 1) l else 0) * A.W 2 (128 * b + l) : ℝ) : EReal)
  rw [e1, e2, e3]
  simp only [dite_eq_ite, ← EReal.coe_mul, ite_coe_zero, ← EReal.coe_add]
  congr 1
  ring

theorem v152_apply (x3 : FVec Ideal S2048x3840 .bf16) (r : Fin 2048) (k : Fin 3840) :
    val_main_v152 (F := Ideal) x0 x1 x2 x3 (ix2 r k)
      = if 1536 ≤ (k : ℕ) ∧ (k : ℕ) < 3072 then (((A.blk ((k - 1536) / 128)).dx r ⟨(k - 1536) % 128, by omega⟩ : ℝ) : EReal) else x3 (ix2 r k) := by
  pointwise [val_main_v152, val_main_v151, val_main_c, val_main_c_30]
  have e0 : Host.clampedStart S2048x3840 S2048x1536 updateFits_S2048x3840_S2048x1536.1
      (fun k => BitVec.toInt ((![constantI S_ 32 0#32, constantI S_ 32 1536#32] : Fin 2 → (⟨S_, .i32⟩ : BufTy).Contents (Elt Ideal)) k (Shape.Idx.first h_S_))) 0 = 0 := by
    simp [Host.clampedStart]
  have e1 : Host.clampedStart S2048x3840 S2048x1536 updateFits_S2048x3840_S2048x1536.1
      (fun k => BitVec.toInt ((![constantI S_ 32 0#32, constantI S_ 32 1536#32] : Fin 2 → (⟨S_, .i32⟩ : BufTy).Contents (Elt Ideal)) k (Shape.Idx.first h_S_))) 1 = 1536 := by
    simp [Host.clampedStart, constantI]
  simp only [e0, e1]
  by_cases hk : 1536 ≤ (k : ℕ) ∧ (k : ℕ) < 3072
  · rw [dif_pos ⟨Nat.zero_le _, hk.1, hk.2⟩, if_pos hk]
    rw [← v150_apply hx hw hg r ((k - 1536) / 128) ⟨(k - 1536) % 128, by omega⟩ (by simp only; omega)]
    congr 2; apply Fin.ext; simp only; omega
  · rw [dif_neg (by omega), if_neg hk]

end Front

end Cert.Conv.Ref

end
-- ==== Proof.Conv.Claim.lean ====
/- The claim for the convolution's gradient: both programs, started on the same finite arrays, end with equal results. -/
module

public import proofs.«01_k».proof.Defs
public import proofs.«01_k».proof.Proof.Conv.Final
public import proofs.«01_k».proof.Proof.Conv.Reference
public import proofs.«01_k».proof.Proof.Gen.Pre_finite
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Conv

open Idealize.ShloMosaic Idealize.ShloMosaic.TcCoe Idealize.SL.Sem

open Cert.Reals Cert.KernelIdeal

/-- Finite arguments are real numbers. -/
theorem reads (m : (ℓ : Loc nD τ sig) → Buf (Elt Ideal) ℓ) (h : Cert.Pre_KernelIdeal_finite m) (c : Dev nD) : ∃ A, Reads m A c := by
  obtain ⟨h0, h1, h2⟩ := h c
  have r0 : ∀ (r : Fin 2048) (k : Fin 1536), ∃ y : ℝ, (m ((c : Thread nD τ).loc main_arg0) : FVec Ideal S2048x3840 .f32) (ix2 r ⟨1536 + k, by omega⟩) = (y : EReal) := fun r k => by
    have e := congrFun h0 (ix2 r k)
    pointwise [Cert.Pre_finite.fn] at e
    exact real_of_cmp e
  have r1 : ∀ (r : Fin 4) (k : Fin 1536), ∃ y : ℝ, (m ((c : Thread nD τ).loc main_arg1) : FVec Ideal S4x1536 .f32) (ix2 r k) = (y : EReal) := fun r k => by
    have e := congrFun h1 (ix2 r k)
    pointwise [Cert.Pre_finite.fn] at e
    exact real_of_cmp e
  have r2 : ∀ (p : Fin 3) (r : Fin 2048) (k : Fin 512), ∃ y : ℝ, (m ((c : Thread nD τ).loc main_arg2) : FVec Ideal S3x2048x512 .f32) (ix3 p r k) = (y : EReal) := fun p r k => by
    have e := congrFun h2 (ix3 p r k)
    pointwise [Cert.Pre_finite.fn] at e
    exact real_of_cmp e
  choose X hX using r0
  choose W hW using r1
  choose G hG using r2
  refine ⟨⟨fun r k => if h : r < 2048 ∧ k < 1536 then X ⟨r, h.1⟩ ⟨k, h.2⟩ else 0, fun j k => if h : j < 4 ∧ k < 1536 then W ⟨j, h.1⟩ ⟨k, h.2⟩ else 0,
    fun p r k => if h : p < 3 ∧ r < 2048 ∧ k < 512 then G ⟨p, h.1⟩ ⟨r, h.2.1⟩ ⟨k, h.2.2⟩ else 0⟩, ?_, ?_, ?_⟩
  · intro r k h hk
    simp only [dif_pos (show (r : ℕ) < 2048 ∧ k < 1536 from ⟨r.isLt, hk⟩)]
    exact hX r ⟨k, hk⟩
  · intro j k
    simp only [dif_pos (show (j : ℕ) < 4 ∧ (k : ℕ) < 1536 from ⟨j.isLt, k.isLt⟩)]
    exact hW j k
  · intro p r k
    simp only [dif_pos (show (p : ℕ) < 3 ∧ (r : ℕ) < 2048 ∧ (k : ℕ) < 512 from ⟨p.isLt, r.isLt, k.isLt⟩)]
    exact hG p r k

theorem entry (m : (ℓ : Loc nD τ sig) → Buf (Elt Ideal) ℓ) (c : Dev nD) : Cert.KernelIdeal.Gen.V m c main_v0_0 = m ((c : Thread nD τ).loc main_arg3) := by
  unfold Cert.KernelIdeal.Gen.V; after_results; try rfl

section Results

variable {m : (ℓ : Loc nD τ sig) → Buf (Elt Ideal) ℓ} {c : Dev nD} {A : Arrays} (H : Reads m A c)
  (x0 : FVec Ideal S2048x3840 .f32) (x1 : FVec Ideal S4x1536 .f32) (x2 : FVec Ideal S3x2048x512 .f32) (x3 : FVec Ideal S2048x3840 .bf16)
  (e0 : x0 = m ((c : Thread nD τ).loc main_arg0)) (e1 : x1 = m ((c : Thread nD τ).loc main_arg1)) (e2 : x2 = m ((c : Thread nD τ).loc main_arg2))
  (e3 : x3 = m ((c : Thread nD τ).loc main_arg3))

include H e0 e1 e2

/-- The reference's gradient of the taps is the array the kernel leaves. -/
theorem same_dw : Cert.ReferenceIdeal.Read.val_main_v146 (F := Ideal) x0 x1 x2 = (Cert.KernelIdeal.Gen.dats m 0 c).arrAt 4 cfg0.N := by
  subst e0 e1 e2
  refine ext2 (a := 4) (b := 1536) fun j k => ?_
  refine Eq.trans ?_ (final4 H j k).symm
  have e : k = ⟨128 * (k / 128) + k % 128, by omega⟩ := Fin.ext (by simp only; omega)
  refine Eq.trans ?_ (Ref.v146_apply H.x H.w H.g j (k / 128) ⟨k % 128, by omega⟩ (by simp only; omega))
  exact congrArg _ (congrArg (ix2 j) e)

include e3

/-- The reference's gradient of the projection, put in its place, is the array the kernel leaves. -/
theorem same_dx : Cert.ReferenceIdeal.Read.val_main_v152 (F := Ideal) x0 x1 x2 x3 = (Cert.KernelIdeal.Gen.dats m 0 c).arrAt 3 cfg0.N := by
  have e := (entry m c).trans e3.symm
  subst e0 e1 e2
  refine ext2 (a := 2048) (b := 3840) fun r k => ?_
  refine (Ref.v152_apply H.x H.w H.g x3 r k).trans ?_
  refine Eq.trans ?_ (final3 H r k).symm
  exact congrArg (fun y => if 1536 ≤ (k : ℕ) ∧ (k : ℕ) < 3072 then (((A.blk ((k - 1536) / 128)).dx r ⟨(k - 1536) % 128, by omega⟩ : ℝ) : EReal) else y)
    (congrFun e (ix2 r k)).symm

end Results

theorem algebraic : Cert.algebraic_KernelIdeal_ReferenceIdeal_pre_finite := by
  intro m g m' g' hm hargs
  choose A hA using reads m hm
  refine ⟨fun c => (Cert.KernelIdeal.Gen.dats m 0 c).arrAt 3 cfg0.N, fun c => (Cert.KernelIdeal.Gen.dats m 0 c).arrAt 4 cfg0.N,
    Cert.KernelIdeal.Value.run_blocks m g, (θ_run _ _ _).mono (fun r h c => ?_) (Cert.ReferenceIdeal.Value.run m' g')⟩
  obtain ⟨hd, hw, ha0, ha1, ha2, ha3⟩ := h c
  obtain ⟨e0, e1, e2, e3⟩ := hargs c
  exact ⟨(hd.trans (Cert.ReferenceIdeal.Read.val_main_v152_eq _)).trans (same_dx (hA c) _ _ _ _ e0 e1 e2 e3),
    (hw.trans (Cert.ReferenceIdeal.Read.val_main_v146_eq _)).trans (same_dw (hA c) _ _ _ e0 e1 e2), ha0, ha1, ha2, ha3⟩

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

end Cert.Conv

end
-- ==== Proof.Products.Dact.lean ====
/- The gradient through the MLP's second product and its squared relu: the kernel's eight blocks are the product with the transposed weight, times twice the relu. -/
module

public import proofs.«01_k».proof.Defs
public import proofs.«01_k».proof.Proof.Reals
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dact

open Idealize.ShloMosaic Idealize.ShloMosaic.TcCoe Idealize.SL.Sem
open Idealize.ShloMosaic.Pipeline (Dat)
open Cert.Reals Cert.Kernel2Ideal Cert.Kernel2Ideal.Gen

/-- The gradient of the squared relu's argument, the product over the 1024 columns of the model. -/
def val (u : FVec Ideal S2048x4096 .f32) (w : FVec Ideal S4096x1024 .bf16) (g : FVec Ideal S2048x1024 .bf16) (i : Fin 2048) (j : Fin 4096) : EReal :=
  (∑ k : Fin 1024, g (ix2 i k) * w (ix2 j k)) * 2 * max (u (ix2 i j)) 0

theorem two : Ideal.ofBits .f32 0x40000000#32 = (2 : EReal) := two_eq

/-- What the body stores, at an index of the block. -/
theorem pay (g : FVec Ideal S1024x1024 .bf16) (w : FVec Ideal S1024x1024 .bf16) (r : FVec Ideal S1024x1024 .bf16) (i j : Fin 1024) :
    (k0_pay1 g w r : FVec Ideal S1024x1024 .bf16) (ix2 i j) = (∑ k : Fin 1024, g (ix2 i k) * w (ix2 j k)) * 2 * r (ix2 i j) := by
  pointwise [k0_pay1]
  rw [two]

/-- The reference's result at an index. -/
theorem reference (u : FVec Ideal S2048x4096 .f32) (w : FVec Ideal S4096x1024 .bf16) (g : FVec Ideal S2048x1024 .bf16) (i : Fin 2048) (j : Fin 4096) :
    (Cert.Reference2Ideal.Read.val_main_v14 (F := Ideal) u w g : FVec Ideal S2048x4096 .bf16) (ix2 i j) = val u w g i j := by
  unfold val
  pointwise [Cert.Reference2Ideal.Read.val_main_v14, Cert.Reference2Ideal.Read.val_main_v13, Cert.Reference2Ideal.Read.val_main_v12,
    Cert.Reference2Ideal.Read.val_main_v11, Cert.Reference2Ideal.Read.val_main_v10, Cert.Reference2Ideal.Read.val_main_v9, Cert.Reference2Ideal.Read.val_main_v7,
    Cert.Reference2Ideal.Read.val_main_v6, Cert.Reference2Ideal.Read.val_main_v3, Cert.Reference2Ideal.Read.val_main_v2, Cert.Reference2Ideal.Read.val_main_v1,
    Cert.Reference2Ideal.Read.val_main_v0, Cert.Reference2Ideal.Read.val_main_call0_v0, Cert.Reference2Ideal.Read.val_main_call0_cst,
    Cert.Reference2Ideal.Read.val_main_cst, Cert.Reference2Ideal.Read.val_main_cst_1, Cert.Reference2Ideal.Read.val_main_cst_2]
  rw [two, mul_assoc]
  split_ifs with h
  · rfl
  · rw [max_eq_right (not_lt.1 h), mul_zero, mul_zero]

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4]
    ∧ win0_3.index t = ![t.val / 4, t.val % 4] ∧ t.val < 8 :=
  (by decide +kernel : ∀ t : Fin grid0.N, _)

/-- The array the region finds in its third window: the relu, taken on the host. -/
theorem entry (c : Dev nD) : (V m c main_v2 : FVec Ideal S2048x4096 .bf16) = fun y => max ((show FVec Ideal S2048x4096 .f32 from m ((c : Thread nD τ).loc main_arg0)) y : EReal) 0 := by
  unfold V; after_results
  refine ext2 (a := 2048) (b := 4096) fun i j => ?_
  pointwise

/-- The array the kernel leaves: each block is the product's block, and the blocks cover the array. -/
theorem final (c : Dev nD) (i : Fin 2048) (j : Fin 4096) :
    (show FVec Ideal S2048x4096 .bf16 from (dats m 0 c).arrAt 3 (cfgs 0).N) (ix2 i j)
      = val (m ((c : Thread nD τ).loc main_arg0)) (m ((c : Thread nD τ).loc main_arg1)) (m ((c : Thread nD τ).loc main_arg2)) i j := by
  have e : (dats m 0 c).arrAt 3 (cfgs 0).N = (show FVec Ideal S2048x4096 .bf16 from
      fun i => val (m ((c : Thread nD τ).loc main_arg0)) (m ((c : Thread nD τ).loc main_arg1)) (m ((c : Thread nD τ).loc main_arg2)) (i 0) (i 1)) := by
    refine (dats m 0 c).arrAt_eq_of_covers 3 _ (by decide +kernel) fun t _ y => ?_
    have h := idx t
    blk_simp
    obtain ⟨a, b, rfl⟩ : ∃ (a b : Fin 1024), y = ix2 a b := ⟨y 0, y 1, by funext a; fin_cases a <;> rfl⟩
    rw [after0_3]; frame_out
    refine (pay _ _ _ a b).trans ?_
    unfold val
    congr 1
    · congr 1
      refine Finset.sum_congr rfl fun k _ => ?_
      congr 1
      · blk_ext [iblk, V, h.1, h.2.2.2.1]
      · blk_ext [iblk, V, h.2.1, h.2.2.2.1]
    · refine Eq.trans ?_ (congrFun (entry m c) (ix2 _ _))
      blk_ext [iblk, h.2.2.1, h.2.2.2.1]
  exact congrFun e (ix2 i j)

theorem same (m : (ℓ : Loc nD τ sig) → Buf (Elt Ideal) ℓ) (c : Dev nD) (x0 : FVec Ideal S2048x4096 .f32) (x1 : FVec Ideal S4096x1024 .bf16)
    (x2 : FVec Ideal S2048x1024 .bf16)
    (e0 : x0 = m ((c : Thread nD τ).loc main_arg0)) (e1 : x1 = m ((c : Thread nD τ).loc main_arg1)) (e2 : x2 = m ((c : Thread nD τ).loc main_arg2)) :
    Cert.Reference2Ideal.Read.val_main_v14 (F := Ideal) x0 x1 x2 = (dats m 0 c).arrAt 3 cfg0.N := by
  subst e0 e1 e2
  exact ext2 (a := 2048) (b := 4096) fun i j => (reference _ _ _ i j).trans (final m c i j).symm

theorem algebraic : Cert.algebraic_Kernel2Ideal_Reference2Ideal := by
  intro m g m' g' hm hargs
  refine ⟨fun c => (dats m 0 c).arrAt 3 cfg0.N, Cert.Kernel2Ideal.Value.run_blocks m g,
    (θ_run _ _ _).mono (fun r h c => ?_) (Cert.Reference2Ideal.Value.run m' g')⟩
  obtain ⟨hd, ha⟩ := h c
  obtain ⟨e0, e1, e2⟩ := hargs c
  exact ⟨(hd.trans (Cert.Reference2Ideal.Read.val_main_v14_eq _ _ _)).trans (same m c _ _ _ e0 e1 e2), ha⟩

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

end Cert.Dact

end
-- ==== Proof.Products.Dwdown.lean ====
/- The gradient of the MLP's second weight: the kernel's four row blocks are the product of the transposed activations with the incoming gradient. -/
module

public import proofs.«01_k».proof.Defs
public import proofs.«01_k».proof.Proof.Reals
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dwdown

open Idealize.ShloMosaic Idealize.ShloMosaic.TcCoe Idealize.SL.Sem
open Idealize.ShloMosaic.Pipeline (Dat)
open Cert.Reals Cert.Kernel3Ideal Cert.Kernel3Ideal.Gen

/-- The product, over the 2048 rows of both operands. -/
def val (x : FVec Ideal S2048x4096 .bf16) (g : FVec Ideal S2048x1024 .bf16) (i : Fin 4096) (j : Fin 1024) : EReal :=
  ∑ k : Fin 2048, x (ix2 k i) * g (ix2 k j)

/-- What the body stores, at an index of the block. -/
theorem pay (x : FVec Ideal S2048x1024 .bf16) (g : FVec Ideal S2048x1024 .bf16) (i : Fin 1024) (j : Fin 1024) :
    (k0_pay1 x g : FVec Ideal S1024x1024 .bf16) (ix2 i j) = ∑ k : Fin 2048, x (ix2 k i) * g (ix2 k j) := by
  pointwise [k0_pay1]

/-- The reference's result at an index. -/
theorem reference (x : FVec Ideal S2048x4096 .bf16) (g : FVec Ideal S2048x1024 .bf16) (i : Fin 4096) (j : Fin 1024) :
    (Cert.Reference3Ideal.Read.val_main_v6 (F := Ideal) x g : FVec Ideal S4096x1024 .bf16) (ix2 i j) = val x g i j := by
  unfold val
  pointwise [Cert.Reference3Ideal.Read.val_main_v6, Cert.Reference3Ideal.Read.val_main_v5, Cert.Reference3Ideal.Read.val_main_v4, Cert.Reference3Ideal.Read.val_main_v3, Cert.Reference3Ideal.Read.val_main_v1]
  exact Finset.sum_congr rfl fun k _ => mul_comm _ _

variable (m : (ℓ : Loc nD τ sig) → Buf (Elt Ideal) ℓ)

theorem idx : ∀ t : Fin cfg0.N, win0_0.index t = ![0, t.val] ∧ win0_1.index t = ![0, 0] ∧ win0_2.index t = ![t.val, 0] ∧ t.val < 4 :=
  (by decide +kernel : ∀ t : Fin grid0.N, _)

/-- The array the kernel leaves: each block is the product's block, and the blocks cover the array. -/
theorem final (c : Dev nD) (i : Fin 4096) (j : Fin 1024) :
    (show FVec Ideal S4096x1024 .bf16 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S4096x1024 .bf16 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    blk_simp
    obtain ⟨a, b, rfl⟩ : ∃ (a : Fin 1024) (b : Fin 1024), y = ix2 a b := ⟨y 0, y 1, by funext a; fin_cases a <;> rfl⟩
    rw [after0_2]; frame_out
    refine (pay _ _ a b).trans ?_
    unfold val
    refine Finset.sum_congr rfl fun k _ => ?_
    congr 1
    · blk_ext [iblk, V, h.1, h.2.2.1]
    · blk_ext [iblk, V, h.2.1, h.2.2.1]
  exact congrFun e (ix2 i j)

theorem same (m : (ℓ : Loc nD τ sig) → Buf (Elt Ideal) ℓ) (c : Dev nD) (x0 : FVec Ideal S2048x4096 .bf16) (x1 : FVec Ideal S2048x1024 .bf16)
    (e0 : x0 = m ((c : Thread nD τ).loc main_arg0)) (e1 : x1 = m ((c : Thread nD τ).loc main_arg1)) :
    Cert.Reference3Ideal.Read.val_main_v6 (F := Ideal) x0 x1 = (dats m 0 c).arrAt 2 cfg0.N := by
  subst e0 e1
  exact ext2 (a := 4096) (b := 1024) fun i j => (reference _ _ i j).trans (final m c i j).symm

theorem algebraic : Cert.algebraic_Kernel3Ideal_Reference3Ideal := by
  intro m g m' g' hm hargs
  refine ⟨fun c => (dats m 0 c).arrAt 2 cfg0.N, Cert.Kernel3Ideal.Value.run_blocks m g,
    (θ_run _ _ _).mono (fun r h c => ?_) (Cert.Reference3Ideal.Value.run m' g')⟩
  obtain ⟨hd, ha⟩ := h c
  obtain ⟨e0, e1⟩ := hargs c
  exact ⟨(hd.trans (Cert.Reference3Ideal.Read.val_main_v6_eq _ _)).trans (same m c _ _ e0 e1), ha⟩

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

end Cert.Dwdown

end
-- ==== Proof.Products.Dwup.lean ====
/- The gradient of the MLP's first weight: the kernel writes it as four arrays of 1024 columns, each the product of the transposed input with the incoming gradient's columns. -/
module

public import proofs.«01_k».proof.Defs
public import proofs.«01_k».proof.Proof.Reals
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dwup

open Idealize.ShloMosaic Idealize.ShloMosaic.TcCoe Idealize.SL.Sem
open Idealize.ShloMosaic.Pipeline (Dat)
open Cert.Reals Cert.Kernel4Ideal Cert.Kernel4Ideal.Gen

/-- The product, over the 2048 rows of both operands, at column `j` of the `p`th block of 1024 columns. -/
def val (x : FVec Ideal S2048x1024 .bf16) (g : FVec Ideal S2048x4096 .bf16) (p : Fin 4) (i j : Fin 1024) : EReal :=
  ∑ k : Fin 2048, x (ix2 k i) * g (ix2 k ⟨1024 * p + j, by omega⟩)

/-- What the body stores, at an index of the block. -/
theorem pay (x : FVec Ideal S2048x1024 .bf16) (g : FVec Ideal S2048x1024 .bf16) (i j : Fin 1024) :
    (k0_pay1 x g : FVec Ideal S1x1024x1024 .bf16) (ix3 0 i j) = ∑ k : Fin 2048, x (ix2 k i) * g (ix2 k j) := by
  pointwise [k0_pay1]

/-- The reference's result at an index. -/
theorem reference (x : FVec Ideal S2048x1024 .bf16) (g : FVec Ideal S2048x4096 .bf16) (p : Fin 4) (i j : Fin 1024) :
    (Cert.Reference4Ideal.Read.val_main_v8 (F := Ideal) x g : FVec Ideal S4x1024x1024 .bf16) (ix3 p i j) = val x g p i j := by
  unfold val
  pointwise [Cert.Reference4Ideal.Read.val_main_v8, Cert.Reference4Ideal.Read.val_main_v7, Cert.Reference4Ideal.Read.val_main_v6,
    Cert.Reference4Ideal.Read.val_main_v5, Cert.Reference4Ideal.Read.val_main_v4, Cert.Reference4Ideal.Read.val_main_v3, Cert.Reference4Ideal.Read.val_main_v1]
  refine Finset.sum_congr rfl fun k _ => (mul_comm _ _).trans ?_
  congr 3
  exact Fin.ext (congrArg (· + (j : ℕ)) (mul_comm _ _))

variable (m : (ℓ : Loc nD τ sig) → Buf (Elt Ideal) ℓ)

theorem idx : ∀ t : Fin cfg0.N, win0_0.index t = ![0, 0] ∧ win0_1.index t = ![0, t.val] ∧ win0_2.index t = ![t.val, 0, 0] ∧ t.val < 4 :=
  (by decide +kernel : ∀ t : Fin grid0.N, _)

/-- The array the kernel leaves: each block is the product's block, and the blocks cover the array. -/
theorem final (c : Dev nD) (p : Fin 4) (i j : Fin 1024) :
    (show FVec Ideal S4x1024x1024 .bf16 from (dats m 0 c).arrAt 2 (cfgs 0).N) (ix3 p i j)
      = val (m ((c : Thread nD τ).loc main_arg0)) (m ((c : Thread nD τ).loc main_arg1)) p i j := by
  have e : (dats m 0 c).arrAt 2 (cfgs 0).N = (show FVec Ideal S4x1024x1024 .bf16 from
      fun i => val (m ((c : Thread nD τ).loc main_arg0)) (m ((c : Thread nD τ).loc main_arg1)) (i 0) (i 1) (i 2)) := by
    refine (dats m 0 c).arrAt_eq_of_covers 2 _ (by decide +kernel) fun t _ y => ?_
    have h := idx t
    blk_simp
    obtain ⟨a, b, rfl⟩ : ∃ (a b : Fin 1024), y = ix3 0 a b := ⟨y 1, y 2, by
      funext a; fin_cases a
      · exact Subsingleton.elim (α := Fin 1) _ _
      · rfl
      · rfl⟩
    rw [after0_2]; frame_out
    refine (pay _ _ a b).trans ?_
    unfold val
    refine Finset.sum_congr rfl fun k _ => ?_
    congr 1
    · blk_ext [iblk, V, h.1, h.2.2.1]
    · blk_ext [iblk, V, h.2.1, h.2.2.1]
  exact congrFun e (ix3 p i j)

theorem same (m : (ℓ : Loc nD τ sig) → Buf (Elt Ideal) ℓ) (c : Dev nD) (x0 : FVec Ideal S2048x1024 .bf16) (x1 : FVec Ideal S2048x4096 .bf16)
    (e0 : x0 = m ((c : Thread nD τ).loc main_arg0)) (e1 : x1 = m ((c : Thread nD τ).loc main_arg1)) :
    Cert.Reference4Ideal.Read.val_main_v8 (F := Ideal) x0 x1 = (dats m 0 c).arrAt 2 cfg0.N := by
  subst e0 e1
  funext y
  obtain ⟨p, i, j, rfl⟩ : ∃ (p : Fin 4) (i j : Fin 1024), y = ix3 p i j := ⟨y 0, y 1, y 2, by funext a; fin_cases a <;> rfl⟩
  exact (reference _ _ p i j).trans (final m c p i j).symm

theorem algebraic : Cert.algebraic_Kernel4Ideal_Reference4Ideal := by
  intro m g m' g' hm hargs
  refine ⟨fun c => (dats m 0 c).arrAt 2 cfg0.N, Cert.Kernel4Ideal.Value.run_blocks m g,
    (θ_run _ _ _).mono (fun r h c => ?_) (Cert.Reference4Ideal.Value.run m' g')⟩
  obtain ⟨hd, ha⟩ := h c
  obtain ⟨e0, e1⟩ := hargs c
  exact ⟨(hd.trans (Cert.Reference4Ideal.Read.val_main_v8_eq _ _)).trans (same m c _ _ e0 e1), ha⟩

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

end Cert.Dwup

end
-- ==== Proof.Products.Dwout.lean ====
/- The gradient of the mixer's output weight: the kernel's four row blocks are the product of the transposed mixer output with the incoming gradient. -/
module

public import proofs.«01_k».proof.Defs
public import proofs.«01_k».proof.Proof.Reals
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dwout

open Idealize.ShloMosaic Idealize.ShloMosaic.TcCoe Idealize.SL.Sem
open Idealize.ShloMosaic.Pipeline (Dat)
open Cert.Reals Cert.Kernel5Ideal Cert.Kernel5Ideal.Gen

/-- The product, over the 2048 rows of both operands. -/
def val (x : FVec Ideal S2048x1024 .bf16) (g : FVec Ideal S2048x1024 .bf16) (i : Fin 1024) (j : Fin 1024) : EReal :=
  ∑ k : Fin 2048, x (ix2 k i) * g (ix2 k j)

/-- What the body stores, at an index of the block. -/
theorem pay (x : FVec Ideal S2048x256 .bf16) (g : FVec Ideal S2048x1024 .bf16) (i : Fin 256) (j : Fin 1024) :
    (k0_pay1 x g : FVec Ideal S256x1024 .bf16) (ix2 i j) = ∑ k : Fin 2048, x (ix2 k i) * g (ix2 k j) := by
  pointwise [k0_pay1]

/-- The reference's result at an index. -/
theorem reference (x : FVec Ideal S2048x1024 .bf16) (g : FVec Ideal S2048x1024 .bf16) (i : Fin 1024) (j : Fin 1024) :
    (Cert.Reference5Ideal.Read.val_main_v6 (F := Ideal) x g : FVec Ideal S1024x1024 .bf16) (ix2 i j) = val x g i j := by
  unfold val
  pointwise [Cert.Reference5Ideal.Read.val_main_v6, Cert.Reference5Ideal.Read.val_main_v5, Cert.Reference5Ideal.Read.val_main_v4, Cert.Reference5Ideal.Read.val_main_v3, Cert.Reference5Ideal.Read.val_main_v1]
  exact Finset.sum_congr rfl fun k _ => mul_comm _ _

variable (m : (ℓ : Loc nD τ sig) → Buf (Elt Ideal) ℓ)

theorem idx : ∀ t : Fin cfg0.N, win0_0.index t = ![0, t.val] ∧ win0_1.index t = ![0, 0] ∧ win0_2.index t = ![t.val, 0] ∧ t.val < 4 :=
  (by decide +kernel : ∀ t : Fin grid0.N, _)

/-- The array the kernel leaves: each block is the product's block, and the blocks cover the array. -/
theorem final (c : Dev nD) (i : Fin 1024) (j : Fin 1024) :
    (show FVec Ideal S1024x1024 .bf16 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S1024x1024 .bf16 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    blk_simp
    obtain ⟨a, b, rfl⟩ : ∃ (a : Fin 256) (b : Fin 1024), y = ix2 a b := ⟨y 0, y 1, by funext a; fin_cases a <;> rfl⟩
    rw [after0_2]; frame_out
    refine (pay _ _ a b).trans ?_
    unfold val
    refine Finset.sum_congr rfl fun k _ => ?_
    congr 1
    · blk_ext [iblk, V, h.1, h.2.2.1]
    · blk_ext [iblk, V, h.2.1, h.2.2.1]
  exact congrFun e (ix2 i j)

theorem same (m : (ℓ : Loc nD τ sig) → Buf (Elt Ideal) ℓ) (c : Dev nD) (x0 : FVec Ideal S2048x1024 .bf16) (x1 : FVec Ideal S2048x1024 .bf16)
    (e0 : x0 = m ((c : Thread nD τ).loc main_arg0)) (e1 : x1 = m ((c : Thread nD τ).loc main_arg1)) :
    Cert.Reference5Ideal.Read.val_main_v6 (F := Ideal) x0 x1 = (dats m 0 c).arrAt 2 cfg0.N := by
  subst e0 e1
  exact ext2 (a := 1024) (b := 1024) fun i j => (reference _ _ i j).trans (final m c i j).symm

theorem algebraic : Cert.algebraic_Kernel5Ideal_Reference5Ideal := by
  intro m g m' g' hm hargs
  refine ⟨fun c => (dats m 0 c).arrAt 2 cfg0.N, Cert.Kernel5Ideal.Value.run_blocks m g,
    (θ_run _ _ _).mono (fun r h c => ?_) (Cert.Reference5Ideal.Value.run m' g')⟩
  obtain ⟨hd, ha⟩ := h c
  obtain ⟨e0, e1⟩ := hargs c
  exact ⟨(hd.trans (Cert.Reference5Ideal.Read.val_main_v6_eq _ _)).trans (same m c _ _ e0 e1), ha⟩

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

end Cert.Dwout

end
-- ==== Proof.Products.Dmix.lean ====
/- The gradient of the mixer's output: the kernel's four row blocks are the product of the incoming gradient with the transposed weight. -/
module

public import proofs.«01_k».proof.Defs
public import proofs.«01_k».proof.Proof.Reals
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dmix

open Idealize.ShloMosaic Idealize.ShloMosaic.TcCoe Idealize.SL.Sem
open Idealize.ShloMosaic.Pipeline (Dat)
open Cert.Reals Cert.Kernel6Ideal Cert.Kernel6Ideal.Gen

/-- The product, over the 1024 columns of both operands. -/
def val (x : FVec Ideal S2048x1024 .bf16) (g : FVec Ideal S1024x1024 .bf16) (i : Fin 2048) (j : Fin 1024) : EReal :=
  ∑ k : Fin 1024, x (ix2 i k) * g (ix2 j k)

/-- What the body stores, at an index of the block. -/
theorem pay (x : FVec Ideal S512x1024 .bf16) (g : FVec Ideal S1024x1024 .bf16) (i : Fin 512) (j : Fin 1024) :
    (k0_pay1 x g : FVec Ideal S512x1024 .f32) (ix2 i j) = ∑ k : Fin 1024, x (ix2 i k) * g (ix2 j k) := by
  pointwise [k0_pay1]

/-- The reference's result at an index. -/
theorem reference (x : FVec Ideal S2048x1024 .bf16) (g : FVec Ideal S1024x1024 .bf16) (i : Fin 2048) (j : Fin 1024) :
    (Cert.Reference6Ideal.Read.val_main_v4 (F := Ideal) x g : FVec Ideal S2048x1024 .f32) (ix2 i j) = val x g i j := by
  unfold val
  pointwise [Cert.Reference6Ideal.Read.val_main_v4, Cert.Reference6Ideal.Read.val_main_v3, Cert.Reference6Ideal.Read.val_main_v1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 4 :=
  (by decide +kernel : ∀ t : Fin grid0.N, _)

/-- The array the kernel leaves: each block is the product's block, and the blocks cover the array. -/
theorem final (c : Dev nD) (i : Fin 2048) (j : Fin 1024) :
    (show FVec Ideal S2048x1024 .f32 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S2048x1024 .f32 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    blk_simp
    obtain ⟨a, b, rfl⟩ : ∃ (a : Fin 512) (b : Fin 1024), y = ix2 a b := ⟨y 0, y 1, by funext a; fin_cases a <;> rfl⟩
    rw [after0_2]; frame_out
    refine (pay _ _ a b).trans ?_
    unfold val
    refine Finset.sum_congr rfl fun k _ => ?_
    congr 1
    · blk_ext [iblk, V, h.1, h.2.2.1]
    · blk_ext [iblk, V, h.2.1, h.2.2.1]
  exact congrFun e (ix2 i j)

theorem same (m : (ℓ : Loc nD τ sig) → Buf (Elt Ideal) ℓ) (c : Dev nD) (x0 : FVec Ideal S2048x1024 .bf16) (x1 : FVec Ideal S1024x1024 .bf16)
    (e0 : x0 = m ((c : Thread nD τ).loc main_arg0)) (e1 : x1 = m ((c : Thread nD τ).loc main_arg1)) :
    Cert.Reference6Ideal.Read.val_main_v4 (F := Ideal) x0 x1 = (dats m 0 c).arrAt 2 cfg0.N := by
  subst e0 e1
  exact ext2 (a := 2048) (b := 1024) fun i j => (reference _ _ i j).trans (final m c i j).symm

theorem algebraic : Cert.algebraic_Kernel6Ideal_Reference6Ideal := by
  intro m g m' g' hm hargs
  refine ⟨fun c => (dats m 0 c).arrAt 2 cfg0.N, Cert.Kernel6Ideal.Value.run_blocks m g,
    (θ_run _ _ _).mono (fun r h c => ?_) (Cert.Reference6Ideal.Value.run m' g')⟩
  obtain ⟨hd, ha⟩ := h c
  obtain ⟨e0, e1⟩ := hargs c
  exact ⟨(hd.trans (Cert.Reference6Ideal.Read.val_main_v4_eq _ _)).trans (same m c _ _ e0 e1), ha⟩

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

end Cert.Dmix

end
-- ==== Proof.Products.Dwin.lean ====
/- The gradient of the projection's weight, transposed: the kernel's three row blocks are the product of the transposed gradient of the projection with its input. -/
module

public import proofs.«01_k».proof.Defs
public import proofs.«01_k».proof.Proof.Reals
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dwin

open Idealize.ShloMosaic Idealize.ShloMosaic.TcCoe Idealize.SL.Sem
open Idealize.ShloMosaic.Pipeline (Dat)
open Cert.Reals Cert.Kernel7Ideal Cert.Kernel7Ideal.Gen

/-- The product, over the 2048 rows of both operands. -/
def val (x : FVec Ideal S2048x3840 .bf16) (g : FVec Ideal S2048x1024 .bf16) (i : Fin 3840) (j : Fin 1024) : EReal :=
  ∑ k : Fin 2048, x (ix2 k i) * g (ix2 k j)

/-- What the body stores, at an index of the block. -/
theorem pay (x : FVec Ideal S2048x1280 .bf16) (g : FVec Ideal S2048x1024 .bf16) (i : Fin 1280) (j : Fin 1024) :
    (k0_pay1 x g : FVec Ideal S1280x1024 .bf16) (ix2 i j) = ∑ k : Fin 2048, x (ix2 k i) * g (ix2 k j) := by
  pointwise [k0_pay1]

/-- The reference's result at an index. -/
theorem reference (x : FVec Ideal S2048x3840 .bf16) (g : FVec Ideal S2048x1024 .bf16) (i : Fin 3840) (j : Fin 1024) :
    (Cert.Reference7Ideal.Read.val_main_v7 (F := Ideal) x g : FVec Ideal S3840x1024 .bf16) (ix2 i j) = val x g i j := by
  unfold val
  pointwise [Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v1]

variable (m : (ℓ : Loc nD τ sig) → Buf (Elt Ideal) ℓ)

theorem idx : ∀ t : Fin cfg0.N, win0_0.index t = ![0, t.val] ∧ win0_1.index t = ![0, 0] ∧ win0_2.index t = ![t.val, 0] ∧ t.val < 3 :=
  (by decide +kernel : ∀ t : Fin grid0.N, _)

/-- The array the kernel leaves: each block is the product's block, and the blocks cover the array. -/
theorem final (c : Dev nD) (i : Fin 3840) (j : Fin 1024) :
    (show FVec Ideal S3840x1024 .bf16 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S3840x1024 .bf16 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    blk_simp
    obtain ⟨a, b, rfl⟩ : ∃ (a : Fin 1280) (b : Fin 1024), y = ix2 a b := ⟨y 0, y 1, by funext a; fin_cases a <;> rfl⟩
    rw [after0_2]; frame_out
    refine (pay _ _ a b).trans ?_
    unfold val
    refine Finset.sum_congr rfl fun k _ => ?_
    congr 1
    · blk_ext [iblk, V, h.1, h.2.2.1]
    · blk_ext [iblk, V, h.2.1, h.2.2.1]
  exact congrFun e (ix2 i j)

theorem same (m : (ℓ : Loc nD τ sig) → Buf (Elt Ideal) ℓ) (c : Dev nD) (x0 : FVec Ideal S2048x3840 .bf16) (x1 : FVec Ideal S2048x1024 .bf16)
    (e0 : x0 = m ((c : Thread nD τ).loc main_arg0)) (e1 : x1 = m ((c : Thread nD τ).loc main_arg1)) :
    Cert.Reference7Ideal.Read.val_main_v7 (F := Ideal) x0 x1 = (dats m 0 c).arrAt 2 cfg0.N := by
  subst e0 e1
  exact ext2 (a := 3840) (b := 1024) fun i j => (reference _ _ i j).trans (final m c i j).symm

theorem algebraic : Cert.algebraic_Kernel7Ideal_Reference7Ideal := by
  intro m g m' g' hm hargs
  refine ⟨fun c => (dats m 0 c).arrAt 2 cfg0.N, Cert.Kernel7Ideal.Value.run_blocks m g,
    (θ_run _ _ _).mono (fun r h c => ?_) (Cert.Reference7Ideal.Value.run m' g')⟩
  obtain ⟨hd, ha⟩ := h c
  obtain ⟨e0, e1⟩ := hargs c
  exact ⟨(hd.trans (Cert.Reference7Ideal.Read.val_main_v7_eq _ _)).trans (same m c _ _ e0 e1), ha⟩

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

end Cert.Dwin

end
-- ==== Proof.Products.Dh.lean ====
/- The gradient of the projection's input: the kernel's four blocks are the product of the gradient of the projection with the weight. -/
module

public import proofs.«01_k».proof.Defs
public import proofs.«01_k».proof.Proof.Reals
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dh

open Idealize.ShloMosaic Idealize.ShloMosaic.TcCoe Idealize.SL.Sem
open Idealize.ShloMosaic.Pipeline (Dat)
open Cert.Reals Cert.Kernel8Ideal Cert.Kernel8Ideal.Gen

/-- The product, over the 3840 columns of the projection. -/
def val (x : FVec Ideal S2048x3840 .bf16) (g : FVec Ideal S3840x1024 .bf16) (i : Fin 2048) (j : Fin 1024) : EReal :=
  ∑ k : Fin 3840, x (ix2 i k) * g (ix2 k j)

/-- What the body stores, at an index of the block. -/
theorem pay (x : FVec Ideal S1024x3840 .bf16) (g : FVec Ideal S3840x512 .bf16) (i : Fin 1024) (j : Fin 512) :
    (k0_pay1 x g : FVec Ideal S1024x512 .f32) (ix2 i j) = ∑ k : Fin 3840, x (ix2 i k) * g (ix2 k j) := by
  pointwise [k0_pay1]

/-- The reference's result at an index. -/
theorem reference (x : FVec Ideal S2048x3840 .bf16) (g : FVec Ideal S3840x1024 .bf16) (i : Fin 2048) (j : Fin 1024) :
    (Cert.Reference8Ideal.Read.val_main_v5 (F := Ideal) x g : FVec Ideal S2048x1024 .f32) (ix2 i j) = val x g i j := by
  unfold val
  pointwise [Cert.Reference8Ideal.Read.val_main_v5, Cert.Reference8Ideal.Read.val_main_v4, Cert.Reference8Ideal.Read.val_main_v2, Cert.Reference8Ideal.Read.val_main_v0]

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] ∧ t.val < 4 :=
  (by decide +kernel : ∀ t : Fin grid0.N, _)

/-- The array the kernel leaves: each block is the product's block, and the blocks cover the array. -/
theorem final (c : Dev nD) (i : Fin 2048) (j : Fin 1024) :
    (show FVec Ideal S2048x1024 .f32 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S2048x1024 .f32 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    blk_simp
    obtain ⟨a, b, rfl⟩ : ∃ (a : Fin 1024) (b : Fin 512), y = ix2 a b := ⟨y 0, y 1, by funext a; fin_cases a <;> rfl⟩
    rw [after0_2]; frame_out
    refine (pay _ _ a b).trans ?_
    unfold val
    refine Finset.sum_congr rfl fun k _ => ?_
    congr 1
    · blk_ext [iblk, V, h.1, h.2.2.1]
    · blk_ext [iblk, V, h.2.1, h.2.2.1]
  exact congrFun e (ix2 i j)

theorem same (m : (ℓ : Loc nD τ sig) → Buf (Elt Ideal) ℓ) (c : Dev nD) (x0 : FVec Ideal S2048x3840 .bf16) (x1 : FVec Ideal S3840x1024 .bf16)
    (e0 : x0 = m ((c : Thread nD τ).loc main_arg0)) (e1 : x1 = m ((c : Thread nD τ).loc main_arg1)) :
    Cert.Reference8Ideal.Read.val_main_v5 (F := Ideal) x0 x1 = (dats m 0 c).arrAt 2 cfg0.N := by
  subst e0 e1
  exact ext2 (a := 2048) (b := 1024) fun i j => (reference _ _ i j).trans (final m c i j).symm

theorem algebraic : Cert.algebraic_Kernel8Ideal_Reference8Ideal := by
  intro m g m' g' hm hargs
  refine ⟨fun c => (dats m 0 c).arrAt 2 cfg0.N, Cert.Kernel8Ideal.Value.run_blocks m g,
    (θ_run _ _ _).mono (fun r h c => ?_) (Cert.Reference8Ideal.Value.run m' g')⟩
  obtain ⟨hd, ha⟩ := h c
  obtain ⟨e0, e1⟩ := hargs c
  exact ⟨(hd.trans (Cert.Reference8Ideal.Read.val_main_v5_eq _ _)).trans (same m c _ _ e0 e1), ha⟩

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

end Cert.Dh

end
-- ==== Proof.Products.Up.lean ====
/- The MLP's first product with its relu and its squared relu: the kernel's eight blocks of both. -/
module

public import proofs.«01_k».proof.Defs
public import proofs.«01_k».proof.Proof.Reals
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Up

open Idealize.ShloMosaic Idealize.ShloMosaic.TcCoe Idealize.SL.Sem
open Idealize.ShloMosaic.Pipeline (Dat)
open Cert.Reals Cert.Kernel9Ideal Cert.Kernel9Ideal.Gen

/-- The relu of the product, over the 1024 columns of the model. -/
def val (x : FVec Ideal S2048x1024 .bf16) (w : FVec Ideal S1024x4096 .bf16) (i : Fin 2048) (j : Fin 4096) : EReal :=
  max (∑ k : Fin 1024, x (ix2 i k) * w (ix2 k j)) 0

/-- What the body stores first, at an index of the block. -/
theorem pay1 (x : FVec Ideal S1024x1024 .bf16) (w : FVec Ideal S1x1024x1024 .bf16) (i j : Fin 1024) :
    (k0_pay2 x w : FVec Ideal S1024x1024 .bf16) (ix2 i j) = max (∑ k : Fin 1024, x (ix2 i k) * w (ix3 0 k j)) 0 := by
  pointwise [k0_pay2, k0_pay1]

theorem pay2 (x : FVec Ideal S1024x1024 .bf16) (w : FVec Ideal S1x1024x1024 .bf16) (i j : Fin 1024) :
    (k0_pay3 x w : FVec Ideal S1024x1024 .bf16) (ix2 i j)
      = max (∑ k : Fin 1024, x (ix2 i k) * w (ix3 0 k j)) 0 * max (∑ k : Fin 1024, x (ix2 i k) * w (ix3 0 k j)) 0 := by
  pointwise [k0_pay3, k0_pay1]

/-- The reference's results at an index. -/
theorem reference1 (x : FVec Ideal S2048x1024 .bf16) (w : FVec Ideal S1024x4096 .bf16) (i : Fin 2048) (j : Fin 4096) :
    (Cert.Reference9Ideal.Read.val_main_v4 (F := Ideal) x w : FVec Ideal S2048x4096 .bf16) (ix2 i j) = val x w i j := by
  unfold val
  pointwise [Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_call0_v0, Cert.Reference9Ideal.Read.val_main_call0_cst]

theorem reference2 (x : FVec Ideal S2048x1024 .bf16) (w : FVec Ideal S1024x4096 .bf16) (i : Fin 2048) (j : Fin 4096) :
    (Cert.Reference9Ideal.Read.val_main_v6 (F := Ideal) x w : FVec Ideal S2048x4096 .bf16) (ix2 i j) = val x w i j * val x w i j := by
  rw [← reference1]
  pointwise [Cert.Reference9Ideal.Read.val_main_v6, Cert.Reference9Ideal.Read.val_main_v5, Cert.Reference9Ideal.Read.val_main_v4]

variable (m : (ℓ : Loc nD τ sig) → Buf (Elt Ideal) ℓ)

theorem idx : ∀ t : Fin cfg0.N, win0_0.index t = ![t.val / 4, 0] ∧ win0_1.index t = ![t.val % 4, 0, 0] ∧ win0_2.index t = ![t.val / 4, t.val % 4]
    ∧ win0_3.index t = ![t.val / 4, t.val % 4] ∧ t.val < 8 :=
  (by decide +kernel : ∀ t : Fin grid0.N, _)

/-- The array the region finds in its second window: the weight in four blocks of 1024 columns, arranged on the host. -/
theorem entry (c : Dev nD) (p : Fin 4) (i j : Fin 1024) : (V m c main_v1 : FVec Ideal S4x1024x1024 .bf16) (ix3 p i j)
    = (show FVec Ideal S1024x4096 .bf16 from m ((c : Thread nD τ).loc main_arg1)) (ix2 i ⟨1024 * p + j, by omega⟩) := by
  unfold V; after_results
  change transpose S4x1024x1024 [1, 0, 2] (shapeCast S1024x4x1024 (show FVec Ideal S1024x4096 .bf16 from m ((c : Thread nD τ).loc main_arg1))
    shapeCasts_S1024x4096_S1024x4x1024) transposes_S1024x4x1024_S4x1024x1024_1_0_2 (ix3 p i j) = _
  pointwise
  congr 2
  exact Fin.ext (congrArg (· + (j : ℕ)) (mul_comm _ _))

/-- One block's product is the whole array's. -/
theorem prod (c : Dev nD) (t : Fin cfg0.N) (a b : Fin 1024) (h : t.val < 8) :
    max (∑ k : Fin 1024, (show FVec Ideal S1024x1024 .bf16 from iblk m c 0 t) (ix2 a k) * (show FVec Ideal S1x1024x1024 .bf16 from iblk m c 1 t) (ix3 0 k b)) 0
      = val (m ((c : Thread nD τ).loc main_arg0)) (m ((c : Thread nD τ).loc main_arg1)) ⟨1024 * (t.val / 4) + a, by omega⟩ ⟨1024 * (t.val % 4) + b, by omega⟩ := by
  have h := idx t
  unfold val
  refine congrArg (max · 0) (Finset.sum_congr rfl fun k _ => ?_)
  congr 1
  · blk_ext [iblk, V, h.1]
  · refine Eq.trans ?_ (entry m c ⟨t.val % 4, by omega⟩ k b)
    blk_ext [iblk, h.2.1]

/-- The arrays the kernel leaves: each block is the product's block, and the blocks cover the array. -/
theorem final2 (c : Dev nD) (i : Fin 2048) (j : Fin 4096) :
    (show FVec Ideal S2048x4096 .bf16 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S2048x4096 .bf16 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    blk_simp
    obtain ⟨a, b, rfl⟩ : ∃ (a b : Fin 1024), y = ix2 a b := ⟨y 0, y 1, by funext a; fin_cases a <;> rfl⟩
    rw [after0_2]; frame_out
    refine (pay1 _ _ a b).trans ((prod m c t a b h.2.2.2.2).trans ?_)
    congr 1
    · apply Fin.ext; blk_simp [h.2.2.1]; exact congrArg (· + _) (mul_comm _ _)
    · apply Fin.ext; blk_simp [h.2.2.1]; exact congrArg (· + _) (mul_comm _ _)
  exact congrFun e (ix2 i j)

theorem final3 (c : Dev nD) (i : Fin 2048) (j : Fin 4096) :
    (show FVec Ideal S2048x4096 .bf16 from (dats m 0 c).arrAt 3 (cfgs 0).N) (ix2 i j)
      = val (m ((c : Thread nD τ).loc main_arg0)) (m ((c : Thread nD τ).loc main_arg1)) i j
        * val (m ((c : Thread nD τ).loc main_arg0)) (m ((c : Thread nD τ).loc main_arg1)) i j := by
  have e : (dats m 0 c).arrAt 3 (cfgs 0).N = (show FVec Ideal S2048x4096 .bf16 from
      fun i => val (m ((c : Thread nD τ).loc main_arg0)) (m ((c : Thread nD τ).loc main_arg1)) (i 0) (i 1)
        * val (m ((c : Thread nD τ).loc main_arg0)) (m ((c : Thread nD τ).loc main_arg1)) (i 0) (i 1)) := by
    refine (dats m 0 c).arrAt_eq_of_covers 3 _ (by decide +kernel) fun t _ y => ?_
    have h := idx t
    blk_simp
    obtain ⟨a, b, rfl⟩ : ∃ (a b : Fin 1024), y = ix2 a b := ⟨y 0, y 1, by funext a; fin_cases a <;> rfl⟩
    rw [after0_3]; frame_out
    refine (pay2 _ _ a b).trans ?_
    rw [prod m c t a b h.2.2.2.2]
    congr 2
    · apply Fin.ext; blk_simp [h.2.2.2.1]; exact congrArg (· + _) (mul_comm _ _)
    · apply Fin.ext; blk_simp [h.2.2.2.1]; exact congrArg (· + _) (mul_comm _ _)
    · apply Fin.ext; blk_simp [h.2.2.2.1]; exact congrArg (· + _) (mul_comm _ _)
    · apply Fin.ext; blk_simp [h.2.2.2.1]; exact congrArg (· + _) (mul_comm _ _)
  exact congrFun e (ix2 i j)

section Results

variable (c : Dev nD) (x0 : FVec Ideal S2048x1024 .bf16) (x1 : FVec Ideal S1024x4096 .bf16)
  (e0 : x0 = m ((c : Thread nD τ).loc main_arg0)) (e1 : x1 = m ((c : Thread nD τ).loc main_arg1))

include e0 e1

theorem same1 : Cert.Reference9Ideal.Read.val_main_v4 (F := Ideal) x0 x1 = (dats m 0 c).arrAt 2 cfg0.N := by
  subst e0 e1
  exact ext2 (a := 2048) (b := 4096) fun i j => (reference1 _ _ i j).trans (final2 m c i j).symm

theorem same2 : Cert.Reference9Ideal.Read.val_main_v6 (F := Ideal) x0 x1 = (dats m 0 c).arrAt 3 cfg0.N := by
  subst e0 e1
  exact ext2 (a := 2048) (b := 4096) fun i j => (reference2 _ _ i j).trans (final3 m c i j).symm

end Results

theorem algebraic : Cert.algebraic_Kernel9Ideal_Reference9Ideal := by
  intro m g m' g' hm hargs
  refine ⟨fun c => (dats m 0 c).arrAt 2 cfg0.N, fun c => (dats m 0 c).arrAt 3 cfg0.N, Cert.Kernel9Ideal.Value.run_blocks m g,
    (θ_run _ _ _).mono (fun r h c => ?_) (Cert.Reference9Ideal.Value.run m' g')⟩
  obtain ⟨h1, h2, ha⟩ := h c
  obtain ⟨e0, e1⟩ := hargs c
  exact ⟨(h1.trans (Cert.Reference9Ideal.Read.val_main_v4_eq _ _)).trans (same1 m c _ _ e0 e1), (h2.trans (Cert.Reference9Ideal.Read.val_main_v6_eq _ _)).trans (same2 m c _ _ e0 e1), ha⟩

theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

end Cert.Up

end
-- ==== Proof.Products.Proj.lean ====
/- The projection of the normed input: the kernel's five column blocks are the product of the input with the transposed weight. -/
module

public import proofs.«01_k».proof.Defs
public import proofs.«01_k».proof.Proof.Reals
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Proj

open Idealize.ShloMosaic Idealize.ShloMosaic.TcCoe Idealize.SL.Sem
open Idealize.ShloMosaic.Pipeline (Dat)
open Cert.Reals Cert.Kernel10Ideal Cert.Kernel10Ideal.Gen

/-- The product, over the 1024 columns of both operands. -/
def val (x : FVec Ideal S2048x1024 .bf16) (g : FVec Ideal S3840x1024 .bf16) (i : Fin 2048) (j : Fin 3840) : EReal :=
  ∑ k : Fin 1024, x (ix2 i k) * g (ix2 j k)

/-- What the body stores, at an index of the block. -/
theorem pay (x : FVec Ideal S2048x1024 .bf16) (g : FVec Ideal S768x1024 .bf16) (i : Fin 2048) (j : Fin 768) :
    (k0_pay1 x g : FVec Ideal S2048x768 .f32) (ix2 i j) = ∑ k : Fin 1024, x (ix2 i k) * g (ix2 j k) := by
  pointwise [k0_pay1]

/-- The reference's result at an index. -/
theorem reference (x : FVec Ideal S2048x1024 .bf16) (g : FVec Ideal S3840x1024 .bf16) (i : Fin 2048) (j : Fin 3840) :
    (Cert.Reference10Ideal.Read.val_main_v3 (F := Ideal) x g : FVec Ideal S2048x3840 .f32) (ix2 i j) = val x g i j := by
  unfold val
  pointwise [Cert.Reference10Ideal.Read.val_main_v3, Cert.Reference10Ideal.Read.val_main_v2, Cert.Reference10Ideal.Read.val_main_v1, Cert.Reference10Ideal.Read.val_main_v0]

variable (m : (ℓ : Loc nD τ sig) → Buf (Elt Ideal) ℓ)

theorem idx : ∀ t : Fin cfg0.N, win0_0.index t = ![0, 0] ∧ win0_1.index t = ![t.val, 0] ∧ win0_2.index t = ![0, t.val] ∧ t.val < 5 :=
  (by decide +kernel : ∀ t : Fin grid0.N, _)

/-- The array the kernel leaves: each block is the product's block, and the blocks cover the array. -/
theorem final (c : Dev nD) (i : Fin 2048) (j : Fin 3840) :
    (show FVec Ideal S2048x3840 .f32 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S2048x3840 .f32 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    blk_simp
    obtain ⟨a, b, rfl⟩ : ∃ (a : Fin 2048) (b : Fin 768), y = ix2 a b := ⟨y 0, y 1, by funext a; fin_cases a <;> rfl⟩
    rw [after0_2]; frame_out
    refine (pay _ _ a b).trans ?_
    unfold val
    refine Finset.sum_congr rfl fun k _ => ?_
    congr 1
    · blk_ext [iblk, V, h.1, h.2.2.1]
    · blk_ext [iblk, V, h.2.1, h.2.2.1]
  exact congrFun e (ix2 i j)

theorem same (m : (ℓ : Loc nD τ sig) → Buf (Elt Ideal) ℓ) (c : Dev nD) (x0 : FVec Ideal S2048x1024 .bf16) (x1 : FVec Ideal S3840x1024 .bf16)
    (e0 : x0 = m ((c : Thread nD τ).loc main_arg0)) (e1 : x1 = m ((c : Thread nD τ).loc main_arg1)) :
    Cert.Reference10Ideal.Read.val_main_v3 (F := Ideal) x0 x1 = (dats m 0 c).arrAt 2 cfg0.N := by
  subst e0 e1
  exact ext2 (a := 2048) (b := 3840) fun i j => (reference _ _ i j).trans (final m c i j).symm

theorem algebraic : Cert.algebraic_Kernel10Ideal_Reference10Ideal := by
  intro m g m' g' hm hargs
  refine ⟨fun c => (dats m 0 c).arrAt 2 cfg0.N, Cert.Kernel10Ideal.Value.run_blocks m g,
    (θ_run _ _ _).mono (fun r h c => ?_) (Cert.Reference10Ideal.Value.run m' g')⟩
  obtain ⟨hd, ha⟩ := h c
  obtain ⟨e0, e1⟩ := hargs c
  exact ⟨(hd.trans (Cert.Reference10Ideal.Read.val_main_v3_eq _ _)).trans (same m c _ _ e0 e1), ha⟩

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

end Cert.Proj

end
-- ==== Proof.Products.Out.lean ====
/- The mixer's output product, the residual after its rms norm, and the rms norm before the MLP: the kernel's four row blocks of all three. -/
module

public import proofs.«01_k».proof.Defs
public import proofs.«01_k».proof.Proof.Reals
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Out

open Idealize.ShloMosaic Idealize.ShloMosaic.TcCoe Idealize.SL.Sem
open Idealize.ShloMosaic.Pipeline (Dat)
open Cert.Reals Cert.Kernel11Ideal Cert.Kernel11Ideal.Gen

/-- The factor of an rms norm: the reciprocal square root of a row's mean square. -/
def scale (row : Fin 1024 → EReal) : EReal :=
  Ideal.rsqrt (Ideal.div (∑ k, row k * row k) (Ideal.ofBits .f32 0x44800000#32) + Ideal.ofBits .f32 0x358637BD#32)

/-- What the body stores, at an index of the block. -/
theorem pay1 (x : FVec Ideal S512x1024 .bf16) (w : FVec Ideal S1024x1024 .bf16) (i : Fin 512) (j : Fin 1024) :
    (k0_pay1 x w : FVec Ideal S512x1024 .f32) (ix2 i j) = ∑ k : Fin 1024, x (ix2 i k) * w (ix2 k j) := by
  pointwise [k0_pay1]

theorem pay2 (x : FVec Ideal S512x1024 .bf16) (w : FVec Ideal S1024x1024 .bf16) (u : FVec Ideal S512x1024 .f32) (p : FVec Ideal S1x1024 .f32)
    (i : Fin 512) (j : Fin 1024) :
    (k0_pay2 x w u p : FVec Ideal S512x1024 .f32) (ix2 i j) = u (ix2 i j)
      + (k0_pay1 x w : FVec Ideal S512x1024 .f32) (ix2 i j) * scale (fun k => (k0_pay1 x w : FVec Ideal S512x1024 .f32) (ix2 i k)) * p (ix2 0 j) := by
  pointwise [k0_pay2, scale]

theorem pay3 (x : FVec Ideal S512x1024 .bf16) (w : FVec Ideal S1024x1024 .bf16) (u : FVec Ideal S512x1024 .f32) (p q : FVec Ideal S1x1024 .f32)
    (i : Fin 512) (j : Fin 1024) :
    (k0_pay3 x w u p q : FVec Ideal S512x1024 .bf16) (ix2 i j) = (k0_pay2 x w u p : FVec Ideal S512x1024 .f32) (ix2 i j)
      * scale (fun k => (k0_pay2 x w u p : FVec Ideal S512x1024 .f32) (ix2 i k)) * q (ix2 0 j) := by
  pointwise [k0_pay3, scale]

section Whole

variable (x : FVec Ideal S2048x1024 .bf16) (w : FVec Ideal S1024x1024 .bf16) (u : FVec Ideal S2048x1024 .f32) (p q : FVec Ideal S1x1024 .f32)

/-- The product, the residual, and the residual's norm, over the whole arrays. -/
def mixed (i : Fin 2048) (j : Fin 1024) : EReal := ∑ k : Fin 1024, x (ix2 i k) * w (ix2 k j)
def resid (i : Fin 2048) (j : Fin 1024) : EReal := u (ix2 i j) + mixed x w i j * scale (mixed x w i) * p (ix2 0 j)
def normed (i : Fin 2048) (j : Fin 1024) : EReal := resid x w u p i j * scale (resid x w u p i) * q (ix2 0 j)

/-- The reference's results at an index. -/
theorem reference1 (i : Fin 2048) (j : Fin 1024) : (Cert.Reference11Ideal.Read.val_main_v2 (F := Ideal) x w : FVec Ideal S2048x1024 .f32) (ix2 i j) = mixed x w i j := by
  unfold mixed
  pointwise [Cert.Reference11Ideal.Read.val_main_v2, Cert.Reference11Ideal.Read.val_main_v1, Cert.Reference11Ideal.Read.val_main_v0]

theorem reference2 (i : Fin 2048) (j : Fin 1024) : (Cert.Reference11Ideal.Read.val_main_v15 (F := Ideal) x w u p : FVec Ideal S2048x1024 .f32) (ix2 i j) = resid x w u p i j := by
  have h := reference1 x w
  unfold resid
  rw [← funext (h i)]
  pointwise [Cert.Reference11Ideal.Read.val_main_v15, Cert.Reference11Ideal.Read.val_main_v14, Cert.Reference11Ideal.Read.val_main_v13, Cert.Reference11Ideal.Read.val_main_v12, Cert.Reference11Ideal.Read.val_main_v11, Cert.Reference11Ideal.Read.val_main_v10, Cert.Reference11Ideal.Read.val_main_v9, Cert.Reference11Ideal.Read.val_main_v8, Cert.Reference11Ideal.Read.val_main_v7, Cert.Reference11Ideal.Read.val_main_v6, Cert.Reference11Ideal.Read.val_main_v5, Cert.Reference11Ideal.Read.val_main_v4, Cert.Reference11Ideal.Read.val_main_v3, Cert.Reference11Ideal.Read.val_main_cst, Cert.Reference11Ideal.Read.val_main_cst_0, Cert.Reference11Ideal.Read.val_main_cst_1, scale]

theorem reference3 (i : Fin 2048) (j : Fin 1024) : (Cert.Reference11Ideal.Read.val_main_v28 (F := Ideal) x w u p q : FVec Ideal S2048x1024 .bf16) (ix2 i j) = normed x w u p q i j := by
  have h := reference2 x w u p
  unfold normed
  rw [← funext (h i)]
  pointwise [Cert.Reference11Ideal.Read.val_main_v28, Cert.Reference11Ideal.Read.val_main_v27, Cert.Reference11Ideal.Read.val_main_v26, Cert.Reference11Ideal.Read.val_main_v25, Cert.Reference11Ideal.Read.val_main_v24, Cert.Reference11Ideal.Read.val_main_v23, Cert.Reference11Ideal.Read.val_main_v22, Cert.Reference11Ideal.Read.val_main_v21, Cert.Reference11Ideal.Read.val_main_v20, Cert.Reference11Ideal.Read.val_main_v19, Cert.Reference11Ideal.Read.val_main_v18, Cert.Reference11Ideal.Read.val_main_v17, Cert.Reference11Ideal.Read.val_main_v16, Cert.Reference11Ideal.Read.val_main_cst_2, Cert.Reference11Ideal.Read.val_main_cst_3, Cert.Reference11Ideal.Read.val_main_cst_4, scale]

end Whole

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ t.val < 4 :=
  (by decide +kernel : ∀ t : Fin grid0.N, _)

section Points

variable (c : Dev nD) (t : Fin cfg0.N) (a : Fin 512) (b : Fin 1024) (ht : t.val < 4)

/-- The three blocks a grid point writes are the blocks of the whole arrays. -/
theorem point5 : (k0_pay1 (iblk m c 0 t) (iblk m c 1 t) : FVec Ideal S512x1024 .f32) (ix2 a b)
    = mixed (m ((c : Thread nD τ).loc main_arg0)) (m ((c : Thread nD τ).loc main_arg1)) ⟨512 * t.val + a, by omega⟩ b := by
  have h := idx t
  refine (pay1 _ _ a b).trans ?_
  unfold mixed
  refine Finset.sum_congr rfl fun k _ => ?_
  congr 1
  · blk_ext [iblk, V, h.1]
  · blk_ext [iblk, V, h.2.1]

theorem point6 : (k0_pay2 (iblk m c 0 t) (iblk m c 1 t) (iblk m c 2 t) (iblk m c 3 t) : FVec Ideal S512x1024 .f32) (ix2 a b)
    = resid (m ((c : Thread nD τ).loc main_arg0)) (m ((c : Thread nD τ).loc main_arg1)) (m ((c : Thread nD τ).loc main_arg2))
      (m ((c : Thread nD τ).loc main_arg3)) ⟨512 * t.val + a, by omega⟩ b := by
  have h := idx t
  refine (pay2 _ _ _ _ a b).trans ?_
  unfold resid
  have e := fun b => point5 m c t a b ht
  refine congrArg₂ (· + ·) ?_ (congrArg₂ (· * ·) (congrArg₂ (· * ·) (e b) (congrArg scale (funext e))) ?_)
  · blk_ext [iblk, V, h.2.2.1]
  · blk_ext [iblk, V, h.2.2.2.1]

theorem point7 : (k0_pay3 (iblk m c 0 t) (iblk m c 1 t) (iblk m c 2 t) (iblk m c 3 t) (iblk m c 4 t) : FVec Ideal S512x1024 .bf16) (ix2 a b)
    = normed (m ((c : Thread nD τ).loc main_arg0)) (m ((c : Thread nD τ).loc main_arg1)) (m ((c : Thread nD τ).loc main_arg2))
      (m ((c : Thread nD τ).loc main_arg3)) (m ((c : Thread nD τ).loc main_arg4)) ⟨512 * t.val + a, by omega⟩ b := by
  have h := idx t
  refine (pay3 _ _ _ _ _ a b).trans ?_
  unfold normed
  have e := fun b => point6 m c t a b ht
  refine congrArg₂ (· * ·) (congrArg₂ (· * ·) (e b) (congrArg scale (funext e))) ?_
  blk_ext [iblk, V, h.2.2.2.2.1]

end Points

section Results

variable (c : Dev nD)

theorem final5 (i : Fin 2048) (j : Fin 1024) :
    (show FVec Ideal S2048x1024 .f32 from (dats m 0 c).arrAt 5 (cfgs 0).N) (ix2 i j) = mixed (m ((c : Thread nD τ).loc main_arg0)) (m ((c : Thread nD τ).loc main_arg1)) i j := by
  have e : (dats m 0 c).arrAt 5 (cfgs 0).N = (show FVec Ideal S2048x1024 .f32 from fun i => mixed (m ((c : Thread nD τ).loc main_arg0)) (m ((c : Thread nD τ).loc main_arg1)) (i 0) (i 1)) := by
    refine (dats m 0 c).arrAt_eq_of_covers 5 _ (by decide +kernel) fun t _ y => ?_
    have h := idx t
    have ht := h.2.2.2.2.2.2.2.2
    blk_simp
    obtain ⟨a, b, rfl⟩ : ∃ (a : Fin 512) (b : Fin 1024), y = ix2 a b := ⟨y 0, y 1, by funext a; fin_cases a <;> rfl⟩
    rw [after0_5]; frame_out
    refine (point5 m c t a b ht).trans ?_
    congr 1
    · apply Fin.ext; blk_simp [h.2.2.2.2.2.1]; exact congrArg (· + _) (mul_comm _ _)
    · apply Fin.ext; blk_simp [h.2.2.2.2.2.1]
  exact congrFun e (ix2 i j)

theorem final6 (i : Fin 2048) (j : Fin 1024) :
    (show FVec Ideal S2048x1024 .f32 from (dats m 0 c).arrAt 6 (cfgs 0).N) (ix2 i j) = resid (m ((c : Thread nD τ).loc main_arg0)) (m ((c : Thread nD τ).loc main_arg1)) (m ((c : Thread nD τ).loc main_arg2)) (m ((c : Thread nD τ).loc main_arg3)) i j := by
  have e : (dats m 0 c).arrAt 6 (cfgs 0).N = (show FVec Ideal S2048x1024 .f32 from fun i => resid (m ((c : Thread nD τ).loc main_arg0)) (m ((c : Thread nD τ).loc main_arg1)) (m ((c : Thread nD τ).loc main_arg2)) (m ((c : Thread nD τ).loc main_arg3)) (i 0) (i 1)) := by
    refine (dats m 0 c).arrAt_eq_of_covers 6 _ (by decide +kernel) fun t _ y => ?_
    have h := idx t
    have ht := h.2.2.2.2.2.2.2.2
    blk_simp
    obtain ⟨a, b, rfl⟩ : ∃ (a : Fin 512) (b : Fin 1024), y = ix2 a b := ⟨y 0, y 1, by funext a; fin_cases a <;> rfl⟩
    rw [after0_6]; frame_out
    refine (point6 m c t a b ht).trans ?_
    congr 1
    · apply Fin.ext; blk_simp [h.2.2.2.2.2.2.1]; exact congrArg (· + _) (mul_comm _ _)
    · apply Fin.ext; blk_simp [h.2.2.2.2.2.2.1]
  exact congrFun e (ix2 i j)

theorem final7 (i : Fin 2048) (j : Fin 1024) :
    (show FVec Ideal S2048x1024 .bf16 from (dats m 0 c).arrAt 7 (cfgs 0).N) (ix2 i j) = normed (m ((c : Thread nD τ).loc main_arg0)) (m ((c : Thread nD τ).loc main_arg1)) (m ((c : Thread nD τ).loc main_arg2)) (m ((c : Thread nD τ).loc main_arg3)) (m ((c : Thread nD τ).loc main_arg4)) i j := by
  have e : (dats m 0 c).arrAt 7 (cfgs 0).N = (show FVec Ideal S2048x1024 .bf16 from fun i => normed (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) := by
    refine (dats m 0 c).arrAt_eq_of_covers 7 _ (by decide +kernel) fun t _ y => ?_
    have h := idx t
    have ht := h.2.2.2.2.2.2.2.2
    blk_simp
    obtain ⟨a, b, rfl⟩ : ∃ (a : Fin 512) (b : Fin 1024), y = ix2 a b := ⟨y 0, y 1, by funext a; fin_cases a <;> rfl⟩
    rw [after0_7]; frame_out
    refine (point7 m c t a b ht).trans ?_
    congr 1
    · apply Fin.ext; blk_simp [h.2.2.2.2.2.2.2.1]; exact congrArg (· + _) (mul_comm _ _)
    · apply Fin.ext; blk_simp [h.2.2.2.2.2.2.2.1]
  exact congrFun e (ix2 i j)

variable (x0 : FVec Ideal S2048x1024 .bf16) (x1 : FVec Ideal S1024x1024 .bf16) (x2 : FVec Ideal S2048x1024 .f32) (x3 x4 : FVec Ideal S1x1024 .f32)
  (e0 : x0 = m ((c : Thread nD τ).loc main_arg0)) (e1 : x1 = m ((c : Thread nD τ).loc main_arg1)) (e2 : x2 = m ((c : Thread nD τ).loc main_arg2))
  (e3 : x3 = m ((c : Thread nD τ).loc main_arg3)) (e4 : x4 = m ((c : Thread nD τ).loc main_arg4))

include e0 e1

theorem same1 : Cert.Reference11Ideal.Read.val_main_v2 (F := Ideal) x0 x1 = (dats m 0 c).arrAt 5 cfg0.N := by
  subst e0 e1
  exact ext2 (a := 2048) (b := 1024) fun i j => (reference1 _ _ i j).trans (final5 m c i j).symm

include e2 e3

theorem same2 : Cert.Reference11Ideal.Read.val_main_v15 (F := Ideal) x0 x1 x2 x3 = (dats m 0 c).arrAt 6 cfg0.N := by
  subst e0 e1 e2 e3
  exact ext2 (a := 2048) (b := 1024) fun i j => (reference2 _ _ _ _ i j).trans (final6 m c i j).symm

include e4

theorem same3 : Cert.Reference11Ideal.Read.val_main_v28 (F := Ideal) x0 x1 x2 x3 x4 = (dats m 0 c).arrAt 7 cfg0.N := by
  subst e0 e1 e2 e3 e4
  exact ext2 (a := 2048) (b := 1024) fun i j => (reference3 _ _ _ _ _ i j).trans (final7 m c i j).symm

end Results

theorem algebraic : Cert.algebraic_Kernel11Ideal_Reference11Ideal := by
  intro m g m' g' hm hargs
  refine ⟨fun c => (dats m 0 c).arrAt 5 cfg0.N, fun c => (dats m 0 c).arrAt 6 cfg0.N, fun c => (dats m 0 c).arrAt 7 cfg0.N,
    Cert.Kernel11Ideal.Value.run_blocks m g, (θ_run _ _ _).mono (fun r h c => ?_) (Cert.Reference11Ideal.Value.run m' g')⟩
  obtain ⟨h1, h2, h3, ha⟩ := h c
  obtain ⟨e0, e1, e2, e3, e4⟩ := hargs c
  exact ⟨(h1.trans (Cert.Reference11Ideal.Read.val_main_v2_eq _ _)).trans (same1 m c _ _ e0 e1), (h2.trans (Cert.Reference11Ideal.Read.val_main_v15_eq _ _ _ _)).trans (same2 m c _ _ _ _ e0 e1 e2 e3),
    (h3.trans (Cert.Reference11Ideal.Read.val_main_v28_eq _ _)).trans (same3 m c _ _ _ _ _ e0 e1 e2 e3 e4), ha⟩

theorem frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run m ρ)

end Cert.Out

end
-- ==== Proof.Products.Norm.lean ====
/- The gradient of an rms norm over a row: the closed form the kernels compute, and the chain rule's form, are one value. -/
module

public import proofs.«01_k».proof.Proof.Reals
public import Idealize.ShloMosaic.PureOps.Ideal.Laws

@[expose] public section

noncomputable section

namespace Cert.Norm

open Idealize.ShloMosaic Cert.Reals

theorem width_eq : Ideal.ofBits .f32 0x44800000#32 = ((1024 : ℝ) : EReal) := by
  have h : (1024 : ℝ) = 8388608 * (2 ^ 13)⁻¹ := by norm_num
  rw [h, EReal.coe_mul]; simp [Ideal.ofBits, Ideal.ieee]

/-- The quotient by the width is a product. -/
theorem div_width (a : EReal) : Ideal.div a (Ideal.ofBits .f32 0x44800000#32) = a * ((1 / 1024 : ℝ) : EReal) := by
  rw [width_eq, Ideal.div_coe (by norm_num)]

/-- A row's mean square plus the literal 1e-6. -/
def square (x : Fin 1024 → EReal) : EReal :=
  Ideal.div (∑ k, x k * x k) (Ideal.ofBits .f32 0x44800000#32) + Ideal.ofBits .f32 0x358637BD#32

/-- The factor of an rms norm: the reciprocal square root of a row's mean square. -/
def scale (x : Fin 1024 → EReal) : EReal := Ideal.rsqrt (square x)

/-- The gradient with respect to the row, in closed form: `x` the row, `g` the gradient of the norm, `w` its weights. -/
def back (x g w : Fin 1024 → EReal) (j : Fin 1024) : EReal :=
  scale x * (g j * w j) - x j * (scale x * scale x * scale x) * Ideal.div (∑ k, g k * w k * x k) (Ideal.ofBits .f32 0x44800000#32)

/-- What the chain rule sends through the mean square. -/
def pull (x g w : Fin 1024 → EReal) : EReal :=
  Ideal.div ((∑ k, x k * (g k * w k)) * (Ideal.ofBits .f32 0xBF000000#32 * Ideal.div (scale x) (square x))) (Ideal.ofBits .f32 0x44800000#32)

theorem mul_self_nonneg' (a : EReal) : 0 ≤ a * a := by
  induction a with
  | bot => simp
  | top => simp
  | coe r => rw [← EReal.coe_mul]; exact EReal.coe_nonneg.2 (mul_self_nonneg r)

/-- The mean of a row's squares isn't negative. -/
theorem mean_nonneg (x : Fin 1024 → EReal) : 0 ≤ Ideal.div (∑ k, x k * x k) (Ideal.ofBits .f32 0x44800000#32) := by
  rw [div_width]
  exact mul_nonneg (Finset.sum_nonneg fun k _ => mul_self_nonneg' _) (EReal.coe_nonneg.2 (by norm_num))

/-- The mean square plus the literal is positive: a positive real number, or infinite. -/
theorem square_pos (x : Fin 1024 → EReal) : 0 < square x := by
  unfold square
  rw [eps_eq]
  refine lt_of_lt_of_le (EReal.coe_pos.2 eps_pos) ?_
  exact le_add_of_nonneg_left (mean_nonneg x)

/-- The cube of the factor is the factor over the mean square, also where that is infinite. -/
theorem cube_eq (x : Fin 1024 → EReal) : Ideal.div (scale x) (square x) = scale x * scale x * scale x := by
  have h := square_pos x
  unfold scale
  generalize square x = s at h ⊢
  induction s with
  | bot => exact absurd h (by simp)
  | top =>
    have e : Ideal.rsqrt ⊤ = 0 := rfl
    rw [e]; simp [Ideal.div]
  | coe s =>
    have hs : 0 < s := EReal.coe_pos.1 h
    rw [rsqrt_pos s hs, div_coe_coe _ _ hs.ne', ← EReal.coe_mul, ← EReal.coe_mul]
    congr 1
    rw [← mul_inv, Real.mul_self_sqrt hs.le, div_eq_mul_inv, mul_comm]

/-- Taking half of a number away twice takes it away. -/
theorem half_twice (z : EReal) : ((-(1 / 2) : ℝ) : EReal) * z + ((-(1 / 2) : ℝ) : EReal) * z = -z := by
  induction z with
  | bot => rw [EReal.coe_mul_bot_of_neg (by norm_num)]; simp
  | top => rw [EReal.coe_mul_top_of_neg (by norm_num)]; simp
  | coe r =>
    rw [← EReal.coe_mul, ← EReal.coe_add, ← EReal.coe_neg]
    congr 1
    ring

/-- The two forms agree. -/
theorem back_eq (x g w : Fin 1024 → EReal) (j : Fin 1024) :
    g j * w j * scale x + x j * pull x g w + pull x g w * x j = back x g w j := by
  have hs : ∑ k, x k * (g k * w k) = ∑ k, g k * w k * x k := Finset.sum_congr rfl fun k _ => mul_comm _ _
  have hp : x j * pull x g w = ((-(1 / 2) : ℝ) : EReal) * (x j * (scale x * scale x * scale x) * Ideal.div (∑ k, g k * w k * x k) (Ideal.ofBits .f32 0x44800000#32)) := by
    unfold pull
    rw [hs, cube_eq, mhalf_eq, div_width, div_width]
    ac_rfl
  rw [mul_comm (pull x g w), hp, add_assoc, half_twice, mul_comm (g j * w j), ← sub_eq_add_neg]
  rfl

/-- A real factor that isn't negative goes through a sum of numbers that aren't. -/
theorem mul_sum_nonneg {n : ℕ} {h : ℝ} (hh : 0 ≤ h) {f : Fin n → EReal} (hf : ∀ k, 0 ≤ f k) : ∑ k, (h : EReal) * f k = (h : EReal) * ∑ k, f k := by
  suffices ∀ s : Finset (Fin n), ∑ k ∈ s, (h : EReal) * f k = (h : EReal) * ∑ k ∈ s, f k from this _
  intro s
  induction s using Finset.induction_on with
  | empty => simp
  | insert a s ha ih => rw [Finset.sum_insert ha, Finset.sum_insert ha, ih, EReal.left_distrib_of_nonneg (hf a) (Finset.sum_nonneg fun k _ => hf k)]

end Cert.Norm

end
-- ==== Proof.Products.Dh2.lean ====
/- The MLP's first product's gradient with the backward of the two rms norms around the residual: the kernel's four row blocks, and its two running sums. -/
module

public import proofs.«01_k».proof.Defs
public import proofs.«01_k».proof.Proof.Reals
public import proofs.«01_k».proof.Proof.Products.Norm
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dh2

open Idealize.ShloMosaic Idealize.ShloMosaic.TcCoe Idealize.SL.Sem
open Idealize.ShloMosaic.Pipeline (Dat)
open Cert.Reals Cert.Norm Cert.Kernel12Ideal Cert.Kernel12Ideal.Gen

/-- What the body computes, at an index of the block, from the product `d`. -/
theorem pay9 (d x u : FVec Ideal S512x1024 .f32) (p : FVec Ideal S1x1024 .f32) (i : Fin 512) (j : Fin 1024) :
    (k0_pay9 d x u p : FVec Ideal S512x1024 .f32) (ix2 i j)
      = u (ix2 i j) + back (fun k => x (ix2 i k)) (fun k => d (ix2 i k)) (fun k => p (ix2 0 k)) j := by
  pointwise [k0_pay9, k0_pay7, back, scale, square]

theorem pay3 (d x u y : FVec Ideal S512x1024 .f32) (p q : FVec Ideal S1x1024 .f32) (i : Fin 512) (j : Fin 1024) :
    (k0_pay3 (k0_pay12 d x u y p q) (k0_pay13 y) (k0_pay14 d x u y p q) : FVec Ideal S512x1024 .bf16) (ix2 i j)
      = back (fun k => y (ix2 i k)) (fun k => (k0_pay9 d x u p : FVec Ideal S512x1024 .f32) (ix2 i k)) (fun k => q (ix2 0 k)) j := by
  pointwise [k0_pay3, k0_pay12, k0_pay13, k0_pay14, k0_pay11, k0_pay10, back, scale, square]

theorem pay1 (d x : FVec Ideal S512x1024 .f32) (j : Fin 1024) :
    (k0_pay1 (k0_pay8 d x) : FVec Ideal S1x1024 .f32) (ix2 0 j)
      = ∑ i : Fin 512, d (ix2 i j) * x (ix2 i j) * scale (fun k => x (ix2 i k)) := by
  pointwise [k0_pay1, k0_pay8, k0_pay7, scale, square]

theorem pay2 (v y : FVec Ideal S512x1024 .f32) (j : Fin 1024) :
    (k0_pay2 y v (k0_pay10 y) : FVec Ideal S1x1024 .f32) (ix2 0 j)
      = ∑ i : Fin 512, v (ix2 i j) * y (ix2 i j) * scale (fun k => y (ix2 i k)) := by
  pointwise [k0_pay2, k0_pay10, scale, square]

theorem pay4 (v : FVec Ideal S512x1024 .f32) (s : FVec Ideal S1x1024 .f32) (j : Fin 1024) :
    (k0_pay4 v s : FVec Ideal S1x1024 .f32) (ix2 0 j) = s (ix2 0 j) + (k0_pay1 v : FVec Ideal S1x1024 .f32) (ix2 0 j) := by
  pointwise [k0_pay4]

theorem pay5 (v y : FVec Ideal S512x1024 .f32) (r : FVec Ideal S512x1 .f32) (s : FVec Ideal S1x1024 .f32) (j : Fin 1024) :
    (k0_pay5 y v r s : FVec Ideal S1x1024 .f32) (ix2 0 j) = s (ix2 0 j) + (k0_pay2 y v r : FVec Ideal S1x1024 .f32) (ix2 0 j) := by
  pointwise [k0_pay5]

theorem pay6 (a0 a1 a2 a3 : FVec Ideal S512x1024 .bf16) (b0 b1 b2 b3 : FVec Ideal S1x1024x1024 .bf16) (i : Fin 512) (j : Fin 1024) :
    (k0_pay6 a0 b0 a1 b1 a2 b2 a3 b3 : FVec Ideal S512x1024 .f32) (ix2 i j)
      = (∑ k : Fin 1024, a0 (ix2 i k) * b0 (ix3 0 j k)) + (∑ k : Fin 1024, a1 (ix2 i k) * b1 (ix3 0 j k))
        + (∑ k : Fin 1024, a2 (ix2 i k) * b2 (ix3 0 j k)) + (∑ k : Fin 1024, a3 (ix2 i k) * b3 (ix3 0 j k)) := by
  pointwise [k0_pay6]

section Whole

variable (x0 : FVec Ideal S2048x4096 .bf16) (x1 : FVec Ideal S1024x4096 .bf16) (x2 x3 x4 : FVec Ideal S2048x1024 .f32) (x5 x6 : FVec Ideal S1x1024 .f32)

/-- The product, the two gradients and the two sums, over the whole arrays. -/
def dh (i : Fin 2048) (j : Fin 1024) : EReal := ∑ k : Fin 4096, x0 (ix2 i k) * x1 (ix2 j k)
def dx (i : Fin 2048) (j : Fin 1024) : EReal := x3 (ix2 i j) + back (fun k => x2 (ix2 i k)) (dh x0 x1 i) (fun k => x5 (ix2 0 k)) j
def dmixed (i : Fin 2048) (j : Fin 1024) : EReal := back (fun k => x4 (ix2 i k)) (dx x0 x1 x2 x3 x5 i) (fun k => x6 (ix2 0 k)) j
def sum1 (j : Fin 1024) : EReal := ∑ i : Fin 2048, dh x0 x1 i j * x2 (ix2 i j) * scale (fun k => x2 (ix2 i k))
def sum2 (j : Fin 1024) : EReal := ∑ i : Fin 2048, dx x0 x1 x2 x3 x5 i j * x4 (ix2 i j) * scale (fun k => x4 (ix2 i k))

/-- The reference's results at an index. -/
theorem reference0 (i : Fin 2048) (j : Fin 1024) : (Cert.Reference12Ideal.Read.val_main_v4 (F := Ideal) x0 x1 : FVec Ideal S2048x1024 .f32) (ix2 i j) = dh x0 x1 i j := by
  unfold dh
  pointwise [Cert.Reference12Ideal.Read.val_main_v4, Cert.Reference12Ideal.Read.val_main_v3, Cert.Reference12Ideal.Read.val_main_v1]

theorem reference1 (i : Fin 2048) (j : Fin 1024) :
    (Cert.Reference12Ideal.Read.val_main_v39 (F := Ideal) x0 x1 x2 x3 x5 : FVec Ideal S2048x1024 .f32) (ix2 i j) = dx x0 x1 x2 x3 x5 i j := by
  unfold dx
  rw [← back_eq]
  rw [← funext (reference0 x0 x1 i)]
  pointwise [Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v23, Cert.Reference12Ideal.Read.val_main_v24, Cert.Reference12Ideal.Read.val_main_v25, Cert.Reference12Ideal.Read.val_main_v26, Cert.Reference12Ideal.Read.val_main_v27, Cert.Reference12Ideal.Read.val_main_v28, Cert.Reference12Ideal.Read.val_main_v29, Cert.Reference12Ideal.Read.val_main_v30, Cert.Reference12Ideal.Read.val_main_v31, Cert.Reference12Ideal.Read.val_main_v32, Cert.Reference12Ideal.Read.val_main_v33, Cert.Reference12Ideal.Read.val_main_v34, Cert.Reference12Ideal.Read.val_main_v35, Cert.Reference12Ideal.Read.val_main_v36, Cert.Reference12Ideal.Read.val_main_v37, Cert.Reference12Ideal.Read.val_main_v38, Cert.Reference12Ideal.Read.val_main_v39, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_5, Cert.Reference12Ideal.Read.val_main_cst_6, Cert.Reference12Ideal.Read.val_main_cst_7, pull, scale, square]
  simp only [Fin.sum_univ_one]

theorem reference2 (h : ∀ i j, (Cert.Reference12Ideal.Read.val_main_v39 (F := Ideal) x0 x1 x2 x3 x5 : FVec Ideal S2048x1024 .f32) (ix2 i j) = dx x0 x1 x2 x3 x5 i j) (i : Fin 2048) (j : Fin 1024) :
    (Cert.Reference12Ideal.Read.val_main_v74 (F := Ideal) x0 x1 x2 x3 x4 x5 x6 : FVec Ideal S2048x1024 .bf16) (ix2 i j) = dmixed x0 x1 x2 x3 x4 x5 x6 i j := by
  unfold dmixed
  rw [← back_eq]
  rw [← funext (h i)]
  pointwise [Cert.Reference12Ideal.Read.val_main_v40, Cert.Reference12Ideal.Read.val_main_v41, Cert.Reference12Ideal.Read.val_main_v42, Cert.Reference12Ideal.Read.val_main_v43, Cert.Reference12Ideal.Read.val_main_v44, Cert.Reference12Ideal.Read.val_main_v45, Cert.Reference12Ideal.Read.val_main_v46, Cert.Reference12Ideal.Read.val_main_v47, Cert.Reference12Ideal.Read.val_main_v48, Cert.Reference12Ideal.Read.val_main_v49, Cert.Reference12Ideal.Read.val_main_v50, Cert.Reference12Ideal.Read.val_main_v51, Cert.Reference12Ideal.Read.val_main_v58, Cert.Reference12Ideal.Read.val_main_v59, Cert.Reference12Ideal.Read.val_main_v60, Cert.Reference12Ideal.Read.val_main_v61, Cert.Reference12Ideal.Read.val_main_v62, Cert.Reference12Ideal.Read.val_main_v63, Cert.Reference12Ideal.Read.val_main_v64, Cert.Reference12Ideal.Read.val_main_v65, Cert.Reference12Ideal.Read.val_main_v66, Cert.Reference12Ideal.Read.val_main_v67, Cert.Reference12Ideal.Read.val_main_v68, Cert.Reference12Ideal.Read.val_main_v69, Cert.Reference12Ideal.Read.val_main_v70, Cert.Reference12Ideal.Read.val_main_v71, Cert.Reference12Ideal.Read.val_main_v72, Cert.Reference12Ideal.Read.val_main_v73, Cert.Reference12Ideal.Read.val_main_v74, Cert.Reference12Ideal.Read.val_main_cst_8, Cert.Reference12Ideal.Read.val_main_cst_9, Cert.Reference12Ideal.Read.val_main_cst_10, Cert.Reference12Ideal.Read.val_main_cst_11, Cert.Reference12Ideal.Read.val_main_cst_13, Cert.Reference12Ideal.Read.val_main_cst_14, Cert.Reference12Ideal.Read.val_main_cst_15, pull, scale, square]
  simp only [Fin.sum_univ_one]

theorem reference3 (j : Fin 1024) : (Cert.Reference12Ideal.Read.val_main_v22 (F := Ideal) x0 x1 x2 : FVec Ideal S1x1024 .f32) (ix2 0 j) = sum1 x0 x1 x2 j := by
  unfold sum1
  simp only [← reference0 x0 x1]
  refine Eq.trans (b := ∑ i : Fin 2048, x2 (ix2 i j) * scale (fun k => x2 (ix2 i k)) * (Cert.Reference12Ideal.Read.val_main_v4 (F := Ideal) x0 x1 : FVec Ideal S2048x1024 .f32) (ix2 i j)) ?_
    (Finset.sum_congr rfl fun i _ => by rw [mul_comm, mul_assoc])
  pointwise [Cert.Reference12Ideal.Read.val_main_v22, Cert.Reference12Ideal.Read.val_main_v21, Cert.Reference12Ideal.Read.val_main_v20, Cert.Reference12Ideal.Read.val_main_v17, Cert.Reference12Ideal.Read.val_main_v16, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_cst_0, Cert.Reference12Ideal.Read.val_main_cst_1, Cert.Reference12Ideal.Read.val_main_cst_2, Cert.Reference12Ideal.Read.val_main_cst_4, scale, square]

theorem reference4 (h : ∀ i j, (Cert.Reference12Ideal.Read.val_main_v39 (F := Ideal) x0 x1 x2 x3 x5 : FVec Ideal S2048x1024 .f32) (ix2 i j) = dx x0 x1 x2 x3 x5 i j) (j : Fin 1024) :
    (Cert.Reference12Ideal.Read.val_main_v57 (F := Ideal) x0 x1 x2 x3 x4 x5 : FVec Ideal S1x1024 .f32) (ix2 0 j) = sum2 x0 x1 x2 x3 x4 x5 j := by
  unfold sum2
  simp only [← h]
  refine Eq.trans (b := ∑ i : Fin 2048, x4 (ix2 i j) * scale (fun k => x4 (ix2 i k)) * (Cert.Reference12Ideal.Read.val_main_v39 (F := Ideal) x0 x1 x2 x3 x5 : FVec Ideal S2048x1024 .f32) (ix2 i j)) ?_
    (Finset.sum_congr rfl fun i _ => by rw [mul_comm, mul_assoc])
  pointwise [Cert.Reference12Ideal.Read.val_main_v57, Cert.Reference12Ideal.Read.val_main_v56, Cert.Reference12Ideal.Read.val_main_v55, Cert.Reference12Ideal.Read.val_main_v52, Cert.Reference12Ideal.Read.val_main_v51, Cert.Reference12Ideal.Read.val_main_v40, Cert.Reference12Ideal.Read.val_main_v41, Cert.Reference12Ideal.Read.val_main_v42, Cert.Reference12Ideal.Read.val_main_v43, Cert.Reference12Ideal.Read.val_main_v44, Cert.Reference12Ideal.Read.val_main_v45, Cert.Reference12Ideal.Read.val_main_v46, Cert.Reference12Ideal.Read.val_main_v47, Cert.Reference12Ideal.Read.val_main_cst_8, Cert.Reference12Ideal.Read.val_main_cst_9, Cert.Reference12Ideal.Read.val_main_cst_10, Cert.Reference12Ideal.Read.val_main_cst_12, scale, square]

end Whole

variable (m : (ℓ : Loc nD τ sig) → Buf (Elt Ideal) ℓ)

theorem idx : ∀ t : Fin cfg0.N, (win0_0.index t = ![t.val, 0] ∧ win0_1.index t = ![0, 0, 0] ∧ win0_2.index t = ![t.val, 0]
    ∧ win0_3.index t = ![t.val, 0] ∧ win0_4.index t = ![t.val, 0] ∧ win0_5.index t = ![0, 0] ∧ win0_6.index t = ![0, 0])
    ∧ win0_7.index t = ![t.val, 0] ∧ win0_8.index t = ![t.val, 0] ∧ win0_9.index t = ![0, 0] ∧ win0_10.index t = ![0, 0] ∧ t.val < 4 :=
  (by decide +kernel : ∀ t : Fin grid0.N, _)

/-- The weights as the kernel takes them: four blocks of 1024 columns, made on the host. -/
theorem entry (c : Dev nD) (p : Fin 4) (i j : Fin 1024) : (V m c main_v1 : FVec Ideal S4x1024x1024 .bf16) (ix3 p i j)
    = (show FVec Ideal S1024x4096 .bf16 from m ((c : Thread nD τ).loc main_arg1)) (ix2 i ⟨1024 * p + j, by omega⟩) := by
  unfold V; after_results
  change transpose S4x1024x1024 [1, 0, 2] (shapeCast S1024x4x1024 (show FVec Ideal S1024x4096 .bf16 from m ((c : Thread nD τ).loc main_arg1))
    shapeCasts_S1024x4096_S1024x4x1024) transposes_S1024x4x1024_S4x1024x1024_1_0_2 (ix3 p i j) = _
  pointwise
  congr 2
  exact Fin.ext (congrArg (· + (j : ℕ)) (mul_comm _ _))

/-- The product of one block of rows, as the body makes it: over four blocks of the contracted axis. -/
def prod (A : Vec Ideal S512x4096 .bf16) (B : Vec Ideal S4x1024x1024 .bf16) : FVec Ideal S512x1024 .f32 :=
  k0_pay6 (View.ld A (Rect.unit ![0, 0] ![512, 1024] inb_S512x4096_S512x1024_0_0))
    (View.ld B (Rect.unit ![0, 0, 0] ![1, 1024, 1024] inb_S4x1024x1024_S1x1024x1024_0_0_0))
    (View.ld A (Rect.unit ![0, 1024] ![512, 1024] inb_S512x4096_S512x1024_0_1024))
    (View.ld B (Rect.unit ![1, 0, 0] ![1, 1024, 1024] inb_S4x1024x1024_S1x1024x1024_1_0_0))
    (View.ld A (Rect.unit ![0, 2048] ![512, 1024] inb_S512x4096_S512x1024_0_2048))
    (View.ld B (Rect.unit ![2, 0, 0] ![1, 1024, 1024] inb_S4x1024x1024_S1x1024x1024_2_0_0))
    (View.ld A (Rect.unit ![0, 3072] ![512, 1024] inb_S512x4096_S512x1024_0_3072))
    (View.ld B (Rect.unit ![3, 0, 0] ![1, 1024, 1024] inb_S4x1024x1024_S1x1024x1024_3_0_0))

theorem prod_apply (A : FVec Ideal S512x4096 .bf16) (B : FVec Ideal S4x1024x1024 .bf16) (i : Fin 512) (j : Fin 1024) :
    prod A B (ix2 i j) = ∑ s : Fin 4, ∑ k : Fin 1024, A (ix2 i ⟨s * 1024 + k, by omega⟩) * B (ix3 s j k) := by
  rw [Fin.sum_univ_four]
  refine (pay6 _ _ _ _ _ _ _ _ i j).trans ?_
  refine congrArg₂ (· + ·) (congrArg₂ (· + ·) (congrArg₂ (· + ·) ?_ ?_) ?_) ?_ <;> refine Finset.sum_congr rfl fun k _ => congrArg₂ (· * ·) ?_ ?_ <;>
    refine View.ld_unit_apply_of _ _ _ _ _ _ fun d => ?_ <;> fin_cases d <;> simp

section Points

variable (c : Dev nD) (t : Fin cfg0.N) (a : Fin 512) (b : Fin 1024) (ht : t.val < 4)

/-- One block's product is the whole array's. -/
theorem point0 : prod (iblk m c 0 t) (iblk m c 1 t) (ix2 a b)
    = dh (m ((c : Thread nD τ).loc main_arg0)) (m ((c : Thread nD τ).loc main_arg1)) ⟨512 * t.val + a, by omega⟩ b := by
  have h := (idx t).1
  refine (prod_apply _ _ a b).trans ?_
  unfold dh
  refine Fin.sum_mul_add_congr fun s k hl => ?_
  congr 1
  · blk_ext [iblk, V, h.1]
  · refine Eq.trans ?_ ((entry m c s b k).trans ?_)
    · blk_ext [iblk, h.2.1]
    · exact congrArg _ (congrArg (ix2 b) (Fin.ext (congrArg (· + (k : ℕ)) (mul_comm _ _))))

/-- What a grid point writes and what it adds to the two sums are the blocks of the whole arrays. -/
theorem point7 : (k0_pay9 (prod (iblk m c 0 t) (iblk m c 1 t)) (iblk m c 2 t) (iblk m c 3 t) (iblk m c 5 t) : FVec Ideal S512x1024 .f32) (ix2 a b)
    = dx (m ((c : Thread nD τ).loc main_arg0)) (m ((c : Thread nD τ).loc main_arg1)) (m ((c : Thread nD τ).loc main_arg2))
      (m ((c : Thread nD τ).loc main_arg3)) (m ((c : Thread nD τ).loc main_arg5)) ⟨512 * t.val + a, by omega⟩ b := by
  have h := (idx t).1
  refine (pay9 _ _ _ _ a b).trans ?_
  unfold dx
  have e := fun b => point0 m c t a b ht
  have e2 : (fun k => (show FVec Ideal S512x1024 .f32 from iblk m c 2 t) (ix2 a k)) = fun k => (show FVec Ideal S2048x1024 .f32 from m ((c : Thread nD τ).loc main_arg2)) (ix2 ⟨512 * t.val + a, by omega⟩ k) :=
    funext fun k => by blk_ext [iblk, V, h.2.2.1]
  have e5 : (fun k => (show FVec Ideal S1x1024 .f32 from iblk m c 5 t) (ix2 0 k)) = fun k => (show FVec Ideal S1x1024 .f32 from m ((c : Thread nD τ).loc main_arg5)) (ix2 0 k) :=
    funext fun k => by blk_ext [iblk, V, h.2.2.2.2.2.1]
  refine congrArg₂ (· + ·) ?_ (congr (congr (congr (congrArg back e2) (funext e)) e5) rfl)
  blk_ext [iblk, V, h.2.2.2.1]

theorem row4 : (fun k => (show FVec Ideal S512x1024 .f32 from iblk m c 4 t) (ix2 a k)) = fun k => (show FVec Ideal S2048x1024 .f32 from m ((c : Thread nD τ).loc main_arg4)) (ix2 ⟨512 * t.val + a, by omega⟩ k) := by
  have h := (idx t).1
  exact funext fun k => by blk_ext [iblk, V, h.2.2.2.2.1]

theorem row2 : (fun k => (show FVec Ideal S512x1024 .f32 from iblk m c 2 t) (ix2 a k)) = fun k => (show FVec Ideal S2048x1024 .f32 from m ((c : Thread nD τ).loc main_arg2)) (ix2 ⟨512 * t.val + a, by omega⟩ k) := by
  have h := (idx t).1
  exact funext fun k => by blk_ext [iblk, V, h.2.2.1]

theorem point8 : (k0_pay3 (k0_pay12 (prod (iblk m c 0 t) (iblk m c 1 t)) (iblk m c 2 t) (iblk m c 3 t) (iblk m c 4 t) (iblk m c 5 t) (iblk m c 6 t)) (k0_pay13 (iblk m c 4 t))
      (k0_pay14 (prod (iblk m c 0 t) (iblk m c 1 t)) (iblk m c 2 t) (iblk m c 3 t) (iblk m c 4 t) (iblk m c 5 t) (iblk m c 6 t)) : FVec Ideal S512x1024 .bf16) (ix2 a b)
    = dmixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) ⟨512 * t.val + a, by omega⟩ b := by
  have h := (idx t).1
  refine (pay3 _ _ _ _ _ _ a b).trans ?_
  unfold dmixed
  have e := fun b => point7 m c t a b ht
  have e6 : (fun k => (show FVec Ideal S1x1024 .f32 from iblk m c 6 t) (ix2 0 k)) = fun k => (show FVec Ideal S1x1024 .f32 from m ((c : Thread nD τ).loc main_arg6)) (ix2 0 k) :=
    funext fun k => by blk_ext [iblk, V, h.2.2.2.2.2.2]
  exact congr (congr (congr (congrArg back (row4 m c t a ht)) (funext e)) e6) rfl

theorem part9 : (k0_pay1 (k0_pay8 (prod (iblk m c 0 t) (iblk m c 1 t)) (iblk m c 2 t)) : FVec Ideal S1x1024 .f32) (ix2 0 b)
    = ∑ a : Fin 512, dh (m ((c : Thread nD τ).loc main_arg0)) (m ((c : Thread nD τ).loc main_arg1)) ⟨512 * t.val + a, by omega⟩ b
      * (show FVec Ideal S2048x1024 .f32 from m ((c : Thread nD τ).loc main_arg2)) (ix2 ⟨512 * t.val + a, by omega⟩ b)
      * scale (fun k => (show FVec Ideal S2048x1024 .f32 from m ((c : Thread nD τ).loc main_arg2)) (ix2 ⟨512 * t.val + a, by omega⟩ k)) := by
  refine (pay1 _ _ b).trans (Finset.sum_congr rfl fun a _ => ?_)
  exact congrArg₂ (· * ·) (congrArg₂ (· * ·) (point0 m c t a b ht) (congrFun (row2 m c t a ht) b)) (congrArg scale (row2 m c t a ht))

theorem part10 : (k0_pay2 (iblk m c 4 t) (k0_pay9 (prod (iblk m c 0 t) (iblk m c 1 t)) (iblk m c 2 t) (iblk m c 3 t) (iblk m c 5 t)) (k0_pay10 (iblk m c 4 t)) : FVec Ideal S1x1024 .f32) (ix2 0 b)
    = ∑ a : Fin 512, dx (m ((c : Thread nD τ).loc main_arg0)) (m ((c : Thread nD τ).loc main_arg1)) (m ((c : Thread nD τ).loc main_arg2))
        (m ((c : Thread nD τ).loc main_arg3)) (m ((c : Thread nD τ).loc main_arg5)) ⟨512 * t.val + a, by omega⟩ b
      * (show FVec Ideal S2048x1024 .f32 from m ((c : Thread nD τ).loc main_arg4)) (ix2 ⟨512 * t.val + a, by omega⟩ b)
      * scale (fun k => (show FVec Ideal S2048x1024 .f32 from m ((c : Thread nD τ).loc main_arg4)) (ix2 ⟨512 * t.val + a, by omega⟩ k)) := by
  refine (pay2 _ _ b).trans (Finset.sum_congr rfl fun a _ => ?_)
  exact congrArg₂ (· * ·) (congrArg₂ (· * ·) (point7 m c t a b ht) (congrFun (row4 m c t a ht) b)) (congrArg scale (row4 m c t a ht))

end Points

section Results

variable (c : Dev nD)

theorem final7 (i : Fin 2048) (j : Fin 1024) :
    (show FVec Ideal S2048x1024 .f32 from (dats m 0 c).arrAt 7 (cfgs 0).N) (ix2 i j) = dx (m ((c : Thread nD τ).loc main_arg0)) (m ((c : Thread nD τ).loc main_arg1)) (m ((c : Thread nD τ).loc main_arg2)) (m ((c : Thread nD τ).loc main_arg3)) (m ((c : Thread nD τ).loc main_arg5)) i j := by
  have e : (dats m 0 c).arrAt 7 (cfgs 0).N = (show FVec Ideal S2048x1024 .f32 from fun i => dx (m ((c : Thread nD τ).loc main_arg0)) (m ((c : Thread nD τ).loc main_arg1)) (m ((c : Thread nD τ).loc main_arg2)) (m ((c : Thread nD τ).loc main_arg3)) (m ((c : Thread nD τ).loc main_arg5)) (i 0) (i 1)) := by
    refine (dats m 0 c).arrAt_eq_of_covers 7 _ (by decide +kernel) fun t _ y => ?_
    have h := (idx t).2
    have ht := h.2.2.2.2
    blk_simp
    obtain ⟨a, b, rfl⟩ : ∃ (a : Fin 512) (b : Fin 1024), y = ix2 a b := ⟨y 0, y 1, by funext a; fin_cases a <;> rfl⟩
    rw [after0_7]
    by_cases h0 : t.val = 0
    · rw [outsAt0_A m c t (by omega) (by omega) (by omega) (by omega)]; frame_out
      refine (point7 m c t a b ht).trans ?_
      congr 1
      · apply Fin.ext; blk_simp [h.1]; exact congrArg (· + _) (mul_comm _ _)
      · apply Fin.ext; blk_simp [h.1]
    · rw [outsAt0_B m c t (by omega) (by omega) (by omega) (by omega)]; frame_out
      refine (point7 m c t a b ht).trans ?_
      congr 1
      · apply Fin.ext; blk_simp [h.1]; exact congrArg (· + _) (mul_comm _ _)
      · apply Fin.ext; blk_simp [h.1]
  exact congrFun e (ix2 i j)

theorem final8 (i : Fin 2048) (j : Fin 1024) :
    (show FVec Ideal S2048x1024 .bf16 from (dats m 0 c).arrAt 8 (cfgs 0).N) (ix2 i j) = dmixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i j := by
  have e : (dats m 0 c).arrAt 8 (cfgs 0).N = (show FVec Ideal S2048x1024 .bf16 from fun i => dmixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)) := by
    refine (dats m 0 c).arrAt_eq_of_covers 8 _ (by decide +kernel) fun t _ y => ?_
    have h := (idx t).2
    have ht := h.2.2.2.2
    blk_simp
    obtain ⟨a, b, rfl⟩ : ∃ (a : Fin 512) (b : Fin 1024), y = ix2 a b := ⟨y 0, y 1, by funext a; fin_cases a <;> rfl⟩
    rw [after0_8]
    by_cases h0 : t.val = 0
    · rw [outsAt0_A m c t (by omega) (by omega) (by omega) (by omega)]; frame_out
      refine (point8 m c t a b ht).trans ?_
      congr 1
      · apply Fin.ext; blk_simp [h.2.1]; exact congrArg (· + _) (mul_comm _ _)
      · apply Fin.ext; blk_simp [h.2.1]
    · rw [outsAt0_B m c t (by omega) (by omega) (by omega) (by omega)]; frame_out
      refine (point8 m c t a b ht).trans ?_
      congr 1
      · apply Fin.ext; blk_simp [h.2.1]; exact congrArg (· + _) (mul_comm _ _)
      · apply Fin.ext; blk_simp [h.2.1]
  exact congrFun e (ix2 i j)

theorem lt4 (t : Fin cfg0.N) : t.val < 4 := (idx t).2.2.2.2.2

theorem final9 (b : Fin 1024) :
    (show FVec Ideal S1x1024 .f32 from (dats m 0 c).arrAt 9 (cfgs 0).N) (ix2 0 b) = sum1 (m ((c : Thread nD τ).loc main_arg0)) (m ((c : Thread nD τ).loc main_arg1)) (m ((c : Thread nD τ).loc main_arg2)) b := by
  have e : (dats m 0 c).arrAt 9 (cfgs 0).N = (show FVec Ideal S1x1024 .f32 from fun i => sum1 (m ((c : Thread nD τ).loc main_arg0)) (m ((c : Thread nD τ).loc main_arg1)) (m ((c : Thread nD τ).loc main_arg2)) (i 1)) := by
    refine (dats m 0 c).arrAt_eq_of_after_last 9 t0_3 (by decide +kernel) _ fun y => ?_
    blk_simp
    obtain ⟨b, rfl⟩ : ∃ (b : Fin 1024), y = (ix2 0 b : S1x1024.Idx) := ⟨y 1, by funext a; fin_cases a <;> [exact Subsingleton.elim (α := Fin 1) _ _; rfl]⟩
    rw [after0_9, Pipeline.eq_sum_fin_of_reset_step_apply_last (fun n h => (outsAt0 m c n h).2.2.1) 4 (fun _ => 0)
      (fun p y => (k0_pay1 (k0_pay8 (prod (iblk m c 0 p) (iblk m c 1 p)) (iblk m c 2 p)) : FVec Ideal S1x1024 .f32) (ix2 0 (y 1)))
      (fun t h j => by
        have := lt4 t
        rw [outsAt0_A m c t (by omega) (by omega) (by omega) (by omega)]; frame_out
        obtain ⟨b, rfl⟩ : ∃ (b : Fin 1024), j = (ix2 0 b : S1x1024.Idx) := ⟨j 1, by funext a; fin_cases a <;> [exact Subsingleton.elim (α := Fin 1) _ _; rfl]⟩
        exact (zero_add _).symm)
      (fun t h j => by
        have := lt4 t
        rw [outsAt0_B m c t (by omega) (by omega) (by omega) (by omega)]; frame_out
        obtain ⟨b, rfl⟩ : ∃ (b : Fin 1024), j = (ix2 0 b : S1x1024.Idx) := ⟨j 1, by funext a; fin_cases a <;> [exact Subsingleton.elim (α := Fin 1) _ _; rfl]⟩
        exact pay4 _ _ b)
      (le_of_eq N_0) t0_3 rfl _]
    refine (zero_add (M := EReal) _).trans ((Finset.sum_congr rfl fun p _ => part9 m c p b (lt4 p)).trans ?_)
    unfold sum1
    refine Fin.sum_mul_add_congr (fun s k hl => ?_) (by decide +kernel)
    have : (⟨512 * s.val + k, by have := lt4 s; omega⟩ : Fin 2048) = ⟨s.val * 512 + k, hl⟩ := Fin.ext (congrArg (· + (k : ℕ)) (mul_comm _ _))
    rw [this]; rfl
  exact congrFun e (ix2 0 b)

theorem final10 (b : Fin 1024) :
    (show FVec Ideal S1x1024 .f32 from (dats m 0 c).arrAt 10 (cfgs 0).N) (ix2 0 b) = sum2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b := by
  have e : (dats m 0 c).arrAt 10 (cfgs 0).N = (show FVec Ideal S1x1024 .f32 from fun i => sum2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 1)) := by
    refine (dats m 0 c).arrAt_eq_of_after_last 10 t0_3 (by decide +kernel) _ fun y => ?_
    blk_simp
    obtain ⟨b, rfl⟩ : ∃ (b : Fin 1024), y = (ix2 0 b : S1x1024.Idx) := ⟨y 1, by funext a; fin_cases a <;> [exact Subsingleton.elim (α := Fin 1) _ _; rfl]⟩
    rw [after0_10, Pipeline.eq_sum_fin_of_reset_step_apply_last (fun n h => (outsAt0 m c n h).2.2.2) 4 (fun _ => 0)
      (fun p y => (k0_pay2 (iblk m c 4 p) (k0_pay9 (prod (iblk m c 0 p) (iblk m c 1 p)) (iblk m c 2 p) (iblk m c 3 p) (iblk m c 5 p)) (k0_pay10 (iblk m c 4 p)) : FVec Ideal S1x1024 .f32) (ix2 0 (y 1)))
      (fun t h j => by
        have := lt4 t
        rw [outsAt0_A m c t (by omega) (by omega) (by omega) (by omega)]; frame_out
        obtain ⟨b, rfl⟩ : ∃ (b : Fin 1024), j = (ix2 0 b : S1x1024.Idx) := ⟨j 1, by funext a; fin_cases a <;> [exact Subsingleton.elim (α := Fin 1) _ _; rfl]⟩
        exact (zero_add _).symm)
      (fun t h j => by
        have := lt4 t
        rw [outsAt0_B m c t (by omega) (by omega) (by omega) (by omega)]; frame_out
        obtain ⟨b, rfl⟩ : ∃ (b : Fin 1024), j = (ix2 0 b : S1x1024.Idx) := ⟨j 1, by funext a; fin_cases a <;> [exact Subsingleton.elim (α := Fin 1) _ _; rfl]⟩
        exact pay5 _ _ _ _ b)
      (le_of_eq N_0) t0_3 rfl _]
    refine (zero_add (M := EReal) _).trans ((Finset.sum_congr rfl fun p _ => part10 m c p b (lt4 p)).trans ?_)
    unfold sum2
    refine Fin.sum_mul_add_congr (fun s k hl => ?_) (by decide +kernel)
    have : (⟨512 * s.val + k, by have := lt4 s; omega⟩ : Fin 2048) = ⟨s.val * 512 + k, hl⟩ := Fin.ext (congrArg (· + (k : ℕ)) (mul_comm _ _))
    rw [this]; rfl
  exact congrFun e (ix2 0 b)

variable (x0 : FVec Ideal S2048x4096 .bf16) (x1 : FVec Ideal S1024x4096 .bf16) (x2 x3 x4 : FVec Ideal S2048x1024 .f32) (x5 x6 : FVec Ideal S1x1024 .f32)
  (e0 : x0 = m ((c : Thread nD τ).loc main_arg0)) (e1 : x1 = m ((c : Thread nD τ).loc main_arg1)) (e2 : x2 = m ((c : Thread nD τ).loc main_arg2))
  (e3 : x3 = m ((c : Thread nD τ).loc main_arg3)) (e4 : x4 = m ((c : Thread nD τ).loc main_arg4)) (e5 : x5 = m ((c : Thread nD τ).loc main_arg5))
  (e6 : x6 = m ((c : Thread nD τ).loc main_arg6))

include e0 e1 e2

theorem same3 : Cert.Reference12Ideal.Read.val_main_v22 (F := Ideal) x0 x1 x2 = (dats m 0 c).arrAt 9 cfg0.N := by
  subst e0 e1 e2
  refine ext2 (a := 1) (b := 1024) fun i j => ?_
  obtain rfl : i = 0 := Subsingleton.elim _ _
  exact (reference3 _ _ _ j).trans (final9 m c j).symm

include e3 e5

theorem same1 : Cert.Reference12Ideal.Read.val_main_v39 (F := Ideal) x0 x1 x2 x3 x5 = (dats m 0 c).arrAt 7 cfg0.N := by
  subst e0 e1 e2 e3 e5
  exact ext2 (a := 2048) (b := 1024) fun i j => (reference1 _ _ _ _ _ i j).trans (final7 m c i j).symm

include e4

theorem same4 : Cert.Reference12Ideal.Read.val_main_v57 (F := Ideal) x0 x1 x2 x3 x4 x5 = (dats m 0 c).arrAt 10 cfg0.N := by
  subst e0 e1 e2 e3 e4 e5
  refine ext2 (a := 1) (b := 1024) fun i j => ?_
  obtain rfl : i = 0 := Subsingleton.elim _ _
  exact (reference4 _ _ _ _ _ _ (reference1 _ _ _ _ _) j).trans (final10 m c j).symm

include e6

theorem same2 : Cert.Reference12Ideal.Read.val_main_v74 (F := Ideal) x0 x1 x2 x3 x4 x5 x6 = (dats m 0 c).arrAt 8 cfg0.N := by
  subst e0 e1 e2 e3 e4 e5 e6
  exact ext2 (a := 2048) (b := 1024) fun i j =>
    (reference2 _ _ _ _ _ _ _ (reference1 _ _ _ _ _) i j).trans (final8 m c i j).symm

end Results

theorem algebraic : Cert.algebraic_Kernel12Ideal_Reference12Ideal := by
  intro m g m' g' _ hargs
  refine ⟨fun c => (dats m 0 c).arrAt 7 cfg0.N, fun c => (dats m 0 c).arrAt 8 cfg0.N, fun c => (dats m 0 c).arrAt 9 cfg0.N, fun c => (dats m 0 c).arrAt 10 cfg0.N,
    Cert.Kernel12Ideal.Value.run_blocks m g, (θ_run _ _ _).mono (fun r h c => ?_) (Cert.Reference12Ideal.Value.run m' g')⟩
  obtain ⟨h1, h2, h3, h4, ha⟩ := h c
  obtain ⟨e0, e1, e2, e3, e4, e5, e6⟩ := hargs c
  exact ⟨(h1.trans (Cert.Reference12Ideal.Read.val_main_v39_eq _ _)).trans (same1 m c _ _ _ _ _ e0 e1 e2 e3 e5),
    (h2.trans (Cert.Reference12Ideal.Read.val_main_v74_eq _ _)).trans (same2 m c _ _ _ _ _ _ _ e0 e1 e2 e3 e4 e5 e6),
    (h3.trans (Cert.Reference12Ideal.Read.val_main_v22_eq _ _ _)).trans (same3 m c _ _ _ e0 e1 e2),
    (h4.trans (Cert.Reference12Ideal.Read.val_main_v57_eq _ _)).trans (same4 m c _ _ _ _ _ _ e0 e1 e2 e3 e4 e5), ha⟩

theorem frame_reference : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run m ρ)

end Cert.Dh2

end
-- ==== Proof.Products.Down.lean ====
/- The MLP's second product with the loss after its rms norm, and the loss's gradient back to the product: the kernel's four row blocks, and its two running sums. -/
module

public import proofs.«01_k».proof.Defs
public import proofs.«01_k».proof.Proof.Reals
public import proofs.«01_k».proof.Proof.Products.Norm
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Down

open Idealize.ShloMosaic Idealize.ShloMosaic.TcCoe Idealize.SL.Sem
open Idealize.ShloMosaic.Pipeline (Dat)
open Cert.Reals Cert.Norm Cert.Kernel13Ideal Cert.Kernel13Ideal.Gen

theorem half_eq : Ideal.ofBits .f32 0x3F000000#32 = ((1 / 2 : ℝ) : EReal) := by
  have h : (1 / 2 : ℝ) = 8388608 * (2 ^ 24)⁻¹ := by norm_num
  rw [h, EReal.coe_mul]; simp [Ideal.ofBits, Ideal.ieee]

theorem inv_width_eq : Ideal.ofBits .f32 0x3A800000#32 = ((1 / 1024 : ℝ) : EReal) := by
  have h : (1 / 1024 : ℝ) = 8388608 * (2 ^ 33)⁻¹ := by norm_num
  rw [h, EReal.coe_mul]; simp [Ideal.ofBits, Ideal.ieee]

/-- The gradient of the mean of squares, as the chain rule writes it and as one factor. -/
theorem grad_eq (d : EReal) : Ideal.div (Ideal.ofBits .f32 0x3F000000#32 * 1) (Ideal.ofBits .f32 0x44800000#32) * (Ideal.ofBits .f32 0x40000000#32 * d)
    = d * Ideal.ofBits .f32 0x3A800000#32 := by
  rw [mul_one, half_eq, width_eq, two_eq, inv_width_eq, div_coe_coe _ _ (by norm_num), ← mul_assoc, ← EReal.coe_mul, mul_comm]
  congr 2
  norm_num

/-- What the body computes, at an index of the block. -/
theorem pay2 (x : FVec Ideal S512x4096 .bf16) (w : FVec Ideal S4096x1024 .bf16) (i : Fin 512) (j : Fin 1024) :
    (k0_pay2 x w : FVec Ideal S512x1024 .f32) (ix2 i j) = ∑ k : Fin 4096, x (ix2 i k) * w (ix2 k j) := by
  pointwise [k0_pay2]

section Body

variable (x : FVec Ideal S512x4096 .bf16) (w : FVec Ideal S4096x1024 .bf16) (u t : FVec Ideal S512x1024 .f32) (p : FVec Ideal S1x1024 .f32)

theorem pay3 (i : Fin 512) (j : Fin 1024) : (k0_pay3 x w u t p : FVec Ideal S512x1024 .f32) (ix2 i j)
    = u (ix2 i j) + (k0_pay2 x w : FVec Ideal S512x1024 .f32) (ix2 i j) * scale (fun k => (k0_pay2 x w : FVec Ideal S512x1024 .f32) (ix2 i k)) * p (ix2 0 j) - t (ix2 i j) := by
  pointwise [k0_pay3, scale, square]

theorem pay4 (i : Fin 512) (j : Fin 1024) : (k0_pay4 x w u t p : FVec Ideal S512x1024 .f32) (ix2 i j)
    = (k0_pay3 x w u t p : FVec Ideal S512x1024 .f32) (ix2 i j) * Ideal.ofBits .f32 0x3A800000#32 := by
  pointwise [k0_pay4]

theorem pay12 (i : Fin 512) (j : Fin 1024) : (k0_pay12 (k0_pay7 x w u t p) (k0_pay8 x w) (k0_pay9 x w u t p) : FVec Ideal S512x1024 .bf16) (ix2 i j)
    = back (fun k => (k0_pay2 x w : FVec Ideal S512x1024 .f32) (ix2 i k)) (fun k => (k0_pay4 x w u t p : FVec Ideal S512x1024 .f32) (ix2 i k)) (fun k => p (ix2 0 k)) j := by
  pointwise [k0_pay12, k0_pay7, k0_pay8, k0_pay9, k0_pay6, k0_pay5, back, scale, square]

theorem pay10 (g : FVec Ideal S512x1024 .f32) (j : Fin 1024) : (k0_pay10 (k0_pay2 x w) g (k0_pay5 x w) : FVec Ideal S1x1024 .f32) (ix2 0 j)
    = ∑ i : Fin 512, g (ix2 i j) * (k0_pay2 x w : FVec Ideal S512x1024 .f32) (ix2 i j) * scale (fun k => (k0_pay2 x w : FVec Ideal S512x1024 .f32) (ix2 i k)) := by
  pointwise [k0_pay10, k0_pay5, scale, square]

theorem pay11 (d : FVec Ideal S512x1024 .f32) (j : Fin 1024) : (k0_pay11 d : FVec Ideal S1x1024 .f32) (ix2 0 j)
    = Ideal.ofBits .f32 0x3F000000#32 * ∑ i : Fin 512, Ideal.div (∑ k : Fin 1024, d (ix2 i k) * d (ix2 i k)) (Ideal.ofBits .f32 0x44800000#32) := by
  pointwise [k0_pay11]

theorem pay13 (y g : FVec Ideal S512x1024 .f32) (r : FVec Ideal S512x1 .f32) (s : FVec Ideal S1x1024 .f32) (j : Fin 1024) :
    (k0_pay13 y g r s : FVec Ideal S1x1024 .f32) (ix2 0 j) = s (ix2 0 j) + (k0_pay10 y g r : FVec Ideal S1x1024 .f32) (ix2 0 j) := by
  pointwise [k0_pay13]

theorem pay1 (v s : FVec Ideal S1x1024 .f32) (j : Fin 1024) : (k0_pay1 v s : FVec Ideal S1x1024 .f32) (ix2 0 j) = s (ix2 0 j) + v (ix2 0 j) := by
  pointwise [k0_pay1]

end Body

section Whole

variable (x0 : FVec Ideal S2048x4096 .bf16) (x1 : FVec Ideal S4096x1024 .bf16) (x2 x3 : FVec Ideal S2048x1024 .f32) (x4 : FVec Ideal S1x1024 .f32)

/-- The product, the error of the normed residual, its gradient, the gradient of the product, the sum for the norm's weights, and the loss, over the whole arrays. -/
def prod (i : Fin 2048) (j : Fin 1024) : EReal := ∑ k : Fin 4096, x0 (ix2 i k) * x1 (ix2 k j)
def diff (i : Fin 2048) (j : Fin 1024) : EReal := x2 (ix2 i j) + prod x0 x1 i j * scale (prod x0 x1 i) * x4 (ix2 0 j) - x3 (ix2 i j)
def grad (i : Fin 2048) (j : Fin 1024) : EReal := diff x0 x1 x2 x3 x4 i j * Ideal.ofBits .f32 0x3A800000#32
def dprod (i : Fin 2048) (j : Fin 1024) : EReal := back (prod x0 x1 i) (grad x0 x1 x2 x3 x4 i) (fun k => x4 (ix2 0 k)) j
def sum1 (j : Fin 1024) : EReal := ∑ i : Fin 2048, grad x0 x1 x2 x3 x4 i j * prod x0 x1 i j * scale (prod x0 x1 i)
def rowLoss (i : Fin 2048) : EReal := Ideal.div (∑ k : Fin 1024, diff x0 x1 x2 x3 x4 i k * diff x0 x1 x2 x3 x4 i k) (Ideal.ofBits .f32 0x44800000#32)
def loss : EReal := Ideal.ofBits .f32 0x3F000000#32 * ∑ i : Fin 2048, rowLoss x0 x1 x2 x3 x4 i

/-- The reference's results at an index. -/
theorem reference0 (i : Fin 2048) (j : Fin 1024) : (Cert.Reference13Ideal.Read.val_main_v2 (F := Ideal) x0 x1 : FVec Ideal S2048x1024 .f32) (ix2 i j) = prod x0 x1 i j := by
  unfold prod
  pointwise [Cert.Reference13Ideal.Read.val_main_v0, Cert.Reference13Ideal.Read.val_main_v1, Cert.Reference13Ideal.Read.val_main_v2]

theorem referenceD (i : Fin 2048) (j : Fin 1024) : (Cert.Reference13Ideal.Read.val_main_v19 (F := Ideal) x0 x1 x2 x3 x4 : FVec Ideal S2048x1024 .f32) (ix2 i j) = diff x0 x1 x2 x3 x4 i j := by
  unfold diff
  rw [← funext (reference0 x0 x1 i)]
  pointwise [Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_cst, Cert.Reference13Ideal.Read.val_main_cst_0, Cert.Reference13Ideal.Read.val_main_cst_1, scale, square]

theorem reference1 (i : Fin 2048) (j : Fin 1024) : (Cert.Reference13Ideal.Read.val_main_v33 (F := Ideal) x0 x1 x2 x3 x4 : FVec Ideal S2048x1024 .f32) (ix2 i j) = grad x0 x1 x2 x3 x4 i j := by
  unfold grad
  rw [← grad_eq, ← referenceD]
  pointwise [Cert.Reference13Ideal.Read.val_main_v22, Cert.Reference13Ideal.Read.val_main_v21, Cert.Reference13Ideal.Read.val_main_v28, Cert.Reference13Ideal.Read.val_main_v29, Cert.Reference13Ideal.Read.val_main_v30, Cert.Reference13Ideal.Read.val_main_v31, Cert.Reference13Ideal.Read.val_main_v32, Cert.Reference13Ideal.Read.val_main_v33, Cert.Reference13Ideal.Read.val_main_cst_3, Cert.Reference13Ideal.Read.val_main_cst_8, Cert.Reference13Ideal.Read.val_main_cst_9, Cert.Reference13Ideal.Read.val_main_cst_10]

theorem reference2 (i : Fin 2048) (j : Fin 1024) :
    (Cert.Reference13Ideal.Read.val_main_v53 (F := Ideal) x0 x1 x2 x3 x4 : FVec Ideal S2048x1024 .bf16) (ix2 i j) = dprod x0 x1 x2 x3 x4 i j := by
  unfold dprod
  rw [← back_eq]
  rw [← funext (reference0 x0 x1 i), ← funext (reference1 x0 x1 x2 x3 x4 i)]
  pointwise [Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v37, Cert.Reference13Ideal.Read.val_main_v38, Cert.Reference13Ideal.Read.val_main_v39, Cert.Reference13Ideal.Read.val_main_v40, Cert.Reference13Ideal.Read.val_main_v41, Cert.Reference13Ideal.Read.val_main_v42, Cert.Reference13Ideal.Read.val_main_v43, Cert.Reference13Ideal.Read.val_main_v44, Cert.Reference13Ideal.Read.val_main_v45, Cert.Reference13Ideal.Read.val_main_v46, Cert.Reference13Ideal.Read.val_main_v47, Cert.Reference13Ideal.Read.val_main_v48, Cert.Reference13Ideal.Read.val_main_v49, Cert.Reference13Ideal.Read.val_main_v50, Cert.Reference13Ideal.Read.val_main_v51, Cert.Reference13Ideal.Read.val_main_v52, Cert.Reference13Ideal.Read.val_main_v53, Cert.Reference13Ideal.Read.val_main_cst, Cert.Reference13Ideal.Read.val_main_cst_0, Cert.Reference13Ideal.Read.val_main_cst_1, Cert.Reference13Ideal.Read.val_main_cst_2, Cert.Reference13Ideal.Read.val_main_cst_12, Cert.Reference13Ideal.Read.val_main_cst_13, Cert.Reference13Ideal.Read.val_main_cst_14, pull, scale, square]
  simp only [Fin.sum_univ_one]

theorem reference3 (j : Fin 1024) : (Cert.Reference13Ideal.Read.val_main_v36 (F := Ideal) x0 x1 x2 x3 x4 : FVec Ideal S1x1024 .f32) (ix2 0 j) = sum1 x0 x1 x2 x3 x4 j := by
  unfold sum1
  simp only [← reference1, ← funext (reference0 x0 x1 _)]
  refine Eq.trans (b := ∑ i : Fin 2048, (Cert.Reference13Ideal.Read.val_main_v2 (F := Ideal) x0 x1 : FVec Ideal S2048x1024 .f32) (ix2 i j)
      * scale (fun k => (Cert.Reference13Ideal.Read.val_main_v2 (F := Ideal) x0 x1 : FVec Ideal S2048x1024 .f32) (ix2 i k))
      * (Cert.Reference13Ideal.Read.val_main_v33 (F := Ideal) x0 x1 x2 x3 x4 : FVec Ideal S2048x1024 .f32) (ix2 i j)) ?_
    (Finset.sum_congr rfl fun i _ => by rw [mul_comm, mul_assoc])
  pointwise [Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v14, Cert.Reference13Ideal.Read.val_main_v15, Cert.Reference13Ideal.Read.val_main_v34, Cert.Reference13Ideal.Read.val_main_v35, Cert.Reference13Ideal.Read.val_main_v36, Cert.Reference13Ideal.Read.val_main_cst, Cert.Reference13Ideal.Read.val_main_cst_0, Cert.Reference13Ideal.Read.val_main_cst_1, Cert.Reference13Ideal.Read.val_main_cst_11, scale, square]

theorem reference4 (j : Fin 1024) : (Cert.Reference13Ideal.Read.val_main_v54 (F := Ideal) x0 x1 x2 x3 x4 : FVec Ideal S1x1024 .f32) (ix2 0 j) = loss x0 x1 x2 x3 x4 := by
  unfold loss rowLoss
  simp only [← referenceD]
  pointwise [Cert.Reference13Ideal.Read.val_main_v20, Cert.Reference13Ideal.Read.val_main_v23, Cert.Reference13Ideal.Read.val_main_v24, Cert.Reference13Ideal.Read.val_main_v25, Cert.Reference13Ideal.Read.val_main_v26, Cert.Reference13Ideal.Read.val_main_v27, Cert.Reference13Ideal.Read.val_main_v54, Cert.Reference13Ideal.Read.val_main_cst_4, Cert.Reference13Ideal.Read.val_main_cst_5, Cert.Reference13Ideal.Read.val_main_cst_6, Cert.Reference13Ideal.Read.val_main_cst_7]

end Whole

variable (m : (ℓ : Loc nD τ sig) → Buf (Elt Ideal) ℓ)

theorem idx : ∀ t : Fin cfg0.N, (win0_0.index t = ![t.val, 0] ∧ win0_1.index t = ![0, 0] ∧ win0_2.index t = ![t.val, 0]
    ∧ win0_3.index t = ![t.val, 0] ∧ win0_4.index t = ![0, 0])
    ∧ win0_5.index t = ![t.val, 0] ∧ win0_6.index t = ![t.val, 0] ∧ win0_7.index t = ![0, 0] ∧ win0_8.index t = ![0, 0] ∧ t.val < 4 :=
  (by decide +kernel : ∀ t : Fin grid0.N, _)

section Points

variable (c : Dev nD) (t : Fin cfg0.N) (a : Fin 512) (b : Fin 1024) (ht : t.val < 4)

/-- What a grid point computes is the block of the whole arrays. -/
theorem point0 : (k0_pay2 (iblk m c 0 t) (iblk m c 1 t) : FVec Ideal S512x1024 .f32) (ix2 a b)
    = prod (m ((c : Thread nD τ).loc main_arg0)) (m ((c : Thread nD τ).loc main_arg1)) ⟨512 * t.val + a, by omega⟩ b := by
  have h := (idx t).1
  refine (pay2 _ _ a b).trans ?_
  unfold prod
  refine Finset.sum_congr rfl fun k _ => ?_
  congr 1
  · blk_ext [iblk, V, h.1]
  · blk_ext [iblk, V, h.2.1]

theorem row4 : (fun k => (show FVec Ideal S1x1024 .f32 from iblk m c 4 t) (ix2 0 k)) = fun k => (show FVec Ideal S1x1024 .f32 from m ((c : Thread nD τ).loc main_arg4)) (ix2 0 k) := by
  have h := (idx t).1
  exact funext fun k => by blk_ext [iblk, V, h.2.2.2.2]

theorem pointD : (k0_pay3 (iblk m c 0 t) (iblk m c 1 t) (iblk m c 2 t) (iblk m c 3 t) (iblk m c 4 t) : FVec Ideal S512x1024 .f32) (ix2 a b)
    = diff (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + a, by omega⟩ b := by
  have h := (idx t).1
  refine (pay3 _ _ _ _ _ a b).trans ?_
  unfold diff
  have e := fun b => point0 m c t a b ht
  refine congrArg₂ (· - ·) (congrArg₂ (· + ·) ?_ (congrArg₂ (· * ·) (congrArg₂ (· * ·) (e b) (congrArg scale (funext e))) (congrFun (row4 m c t) b))) ?_
  · blk_ext [iblk, V, h.2.2.1]
  · blk_ext [iblk, V, h.2.2.2.1]

theorem point5 : (k0_pay4 (iblk m c 0 t) (iblk m c 1 t) (iblk m c 2 t) (iblk m c 3 t) (iblk m c 4 t) : FVec Ideal S512x1024 .f32) (ix2 a b)
    = grad (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + a, by omega⟩ b :=
  (pay4 _ _ _ _ _ a b).trans (congrArg (· * _) (pointD m c t a b ht))

theorem point6 : (k0_pay12 (k0_pay7 (iblk m c 0 t) (iblk m c 1 t) (iblk m c 2 t) (iblk m c 3 t) (iblk m c 4 t)) (k0_pay8 (iblk m c 0 t) (iblk m c 1 t)) (k0_pay9 (iblk m c 0 t) (iblk m c 1 t) (iblk m c 2 t) (iblk m c 3 t) (iblk m c 4 t)) : FVec Ideal S512x1024 .bf16) (ix2 a b)
    = dprod (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + a, by omega⟩ b := by
  refine (pay12 _ _ _ _ _ a b).trans ?_
  exact congr (congr (congr (congrArg back (funext fun b => point0 m c t a b ht)) (funext fun b => point5 m c t a b ht)) (row4 m c t)) rfl

theorem part7 : (k0_pay10 (k0_pay2 (iblk m c 0 t) (iblk m c 1 t)) (k0_pay4 (iblk m c 0 t) (iblk m c 1 t) (iblk m c 2 t) (iblk m c 3 t) (iblk m c 4 t)) (k0_pay5 (iblk m c 0 t) (iblk m c 1 t)) : FVec Ideal S1x1024 .f32) (ix2 0 b)
    = ∑ a : Fin 512, grad (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + a, by omega⟩ b * prod (m ((c : Thread nD τ).loc main_arg0)) (m ((c : Thread nD τ).loc main_arg1)) ⟨512 * t.val + a, by omega⟩ b * scale (prod (m ((c : Thread nD τ).loc main_arg0)) (m ((c : Thread nD τ).loc main_arg1)) ⟨512 * t.val + a, by omega⟩) := by
  refine (pay10 _ _ _ b).trans (Finset.sum_congr rfl fun a _ => ?_)
  exact congrArg₂ (· * ·) (congrArg₂ (· * ·) (point5 m c t a b ht) (point0 m c t a b ht)) (congrArg scale (funext fun b => point0 m c t a b ht))

theorem part8 : (k0_pay11 (k0_pay3 (iblk m c 0 t) (iblk m c 1 t) (iblk m c 2 t) (iblk m c 3 t) (iblk m c 4 t)) : FVec Ideal S1x1024 .f32) (ix2 0 b)
    = Ideal.ofBits .f32 0x3F000000#32 * ∑ a : Fin 512, rowLoss (m ((c : Thread nD τ).loc main_arg0)) (m ((c : Thread nD τ).loc main_arg1)) (m ((c : Thread nD τ).loc main_arg2)) (m ((c : Thread nD τ).loc main_arg3)) (m ((c : Thread nD τ).loc main_arg4)) ⟨512 * t.val + a, by omega⟩ := by
  refine (pay11 _ b).trans (congrArg (_ * ·) (Finset.sum_congr rfl fun a _ => ?_))
  unfold rowLoss
  exact congrArg (Ideal.div · _) (Finset.sum_congr rfl fun k _ => congrArg₂ (· * ·) (pointD m c t a k ht) (pointD m c t a k ht))

end Points

theorem lt4 (t : Fin cfg0.N) : t.val < 4 := (idx t).2.2.2.2.2

section Results

variable (c : Dev nD)

theorem final5 (i : Fin 2048) (j : Fin 1024) :
    (show FVec Ideal S2048x1024 .f32 from (dats m 0 c).arrAt 5 (cfgs 0).N) (ix2 i j) = grad (m ((c : Thread nD τ).loc main_arg0)) (m ((c : Thread nD τ).loc main_arg1)) (m ((c : Thread nD τ).loc main_arg2)) (m ((c : Thread nD τ).loc main_arg3)) (m ((c : Thread nD τ).loc main_arg4)) i j := by
  have e : (dats m 0 c).arrAt 5 (cfgs 0).N = (show FVec Ideal S2048x1024 .f32 from fun i => grad (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) := by
    refine (dats m 0 c).arrAt_eq_of_covers 5 _ (by decide +kernel) fun t _ y => ?_
    have h := (idx t).2
    have ht := lt4 t
    blk_simp
    obtain ⟨a, b, rfl⟩ : ∃ (a : Fin 512) (b : Fin 1024), y = ix2 a b := ⟨y 0, y 1, by funext a; fin_cases a <;> rfl⟩
    rw [after0_5]
    by_cases h0 : t.val = 0
    · rw [outsAt0_A m c t (by omega) (by omega) (by omega) (by omega)]; frame_out
      refine (point5 m c t a b ht).trans ?_
      congr 1
      · apply Fin.ext; blk_simp [h.1]; exact congrArg (· + _) (mul_comm _ _)
      · apply Fin.ext; blk_simp [h.1]
    · rw [outsAt0_B m c t (by omega) (by omega) (by omega) (by omega)]; frame_out
      refine (point5 m c t a b ht).trans ?_
      congr 1
      · apply Fin.ext; blk_simp [h.1]; exact congrArg (· + _) (mul_comm _ _)
      · apply Fin.ext; blk_simp [h.1]
  exact congrFun e (ix2 i j)

theorem final6 (i : Fin 2048) (j : Fin 1024) :
    (show FVec Ideal S2048x1024 .bf16 from (dats m 0 c).arrAt 6 (cfgs 0).N) (ix2 i j) = dprod (m ((c : Thread nD τ).loc main_arg0)) (m ((c : Thread nD τ).loc main_arg1)) (m ((c : Thread nD τ).loc main_arg2)) (m ((c : Thread nD τ).loc main_arg3)) (m ((c : Thread nD τ).loc main_arg4)) i j := by
  have e : (dats m 0 c).arrAt 6 (cfgs 0).N = (show FVec Ideal S2048x1024 .bf16 from fun i => dprod (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) := by
    refine (dats m 0 c).arrAt_eq_of_covers 6 _ (by decide +kernel) fun t _ y => ?_
    have h := (idx t).2
    have ht := lt4 t
    blk_simp
    obtain ⟨a, b, rfl⟩ : ∃ (a : Fin 512) (b : Fin 1024), y = ix2 a b := ⟨y 0, y 1, by funext a; fin_cases a <;> rfl⟩
    rw [after0_6]
    by_cases h0 : t.val = 0
    · rw [outsAt0_A m c t (by omega) (by omega) (by omega) (by omega)]; frame_out
      refine (point6 m c t a b ht).trans ?_
      congr 1
      · apply Fin.ext; blk_simp [h.2.1]; exact congrArg (· + _) (mul_comm _ _)
      · apply Fin.ext; blk_simp [h.2.1]
    · rw [outsAt0_B m c t (by omega) (by omega) (by omega) (by omega)]; frame_out
      refine (point6 m c t a b ht).trans ?_
      congr 1
      · apply Fin.ext; blk_simp [h.2.1]; exact congrArg (· + _) (mul_comm _ _)
      · apply Fin.ext; blk_simp [h.2.1]
  exact congrFun e (ix2 i j)

theorem final7 (b : Fin 1024) :
    (show FVec Ideal S1x1024 .f32 from (dats m 0 c).arrAt 7 (cfgs 0).N) (ix2 0 b) = sum1 (m ((c : Thread nD τ).loc main_arg0)) (m ((c : Thread nD τ).loc main_arg1)) (m ((c : Thread nD τ).loc main_arg2)) (m ((c : Thread nD τ).loc main_arg3)) (m ((c : Thread nD τ).loc main_arg4)) b := by
  have e : (dats m 0 c).arrAt 7 (cfgs 0).N = (show FVec Ideal S1x1024 .f32 from fun i => sum1 (m ((c : Thread nD τ).loc main_arg0)) (m ((c : Thread nD τ).loc main_arg1)) (m ((c : Thread nD τ).loc main_arg2)) (m ((c : Thread nD τ).loc main_arg3)) (m ((c : Thread nD τ).loc main_arg4)) (i 1)) := by
    refine (dats m 0 c).arrAt_eq_of_after_last 7 t0_3 (by decide +kernel) _ fun y => ?_
    blk_simp
    obtain ⟨b, rfl⟩ : ∃ (b : Fin 1024), y = (ix2 0 b : S1x1024.Idx) := ⟨y 1, by funext a; fin_cases a <;> [exact Subsingleton.elim (α := Fin 1) _ _; rfl]⟩
    rw [after0_7, Pipeline.eq_sum_fin_of_reset_step_apply_last (fun n h => (outsAt0 m c n h).2.2.1) 4 (fun _ => 0)
      (fun p y => (k0_pay10 (k0_pay2 (iblk m c 0 p) (iblk m c 1 p)) (k0_pay4 (iblk m c 0 p) (iblk m c 1 p) (iblk m c 2 p) (iblk m c 3 p) (iblk m c 4 p)) (k0_pay5 (iblk m c 0 p) (iblk m c 1 p)) : FVec Ideal S1x1024 .f32) (ix2 0 (y 1)))
      (fun t h j => by
        have := lt4 t
        rw [outsAt0_A m c t (by omega) (by omega) (by omega) (by omega)]; frame_out
        obtain ⟨b, rfl⟩ : ∃ (b : Fin 1024), j = (ix2 0 b : S1x1024.Idx) := ⟨j 1, by funext a; fin_cases a <;> [exact Subsingleton.elim (α := Fin 1) _ _; rfl]⟩
        exact (zero_add _).symm)
      (fun t h j => by
        have := lt4 t
        rw [outsAt0_B m c t (by omega) (by omega) (by omega) (by omega)]; frame_out
        obtain ⟨b, rfl⟩ : ∃ (b : Fin 1024), j = (ix2 0 b : S1x1024.Idx) := ⟨j 1, by funext a; fin_cases a <;> [exact Subsingleton.elim (α := Fin 1) _ _; rfl]⟩
        exact pay13 _ _ _ _ b)
      (le_of_eq N_0) t0_3 rfl _]
    refine (zero_add (M := EReal) _).trans ((Finset.sum_congr rfl fun p _ => part7 m c p b (lt4 p)).trans ?_)
    unfold sum1
    refine Fin.sum_mul_add_congr (fun s k hl => ?_) (by decide +kernel)
    have : (⟨512 * s.val + k, by have := lt4 s; omega⟩ : Fin 2048) = ⟨s.val * 512 + k, hl⟩ := Fin.ext (congrArg (· + (k : ℕ)) (mul_comm _ _))
    rw [this]; rfl
  exact congrFun e (ix2 0 b)

theorem final8 (b : Fin 1024) :
    (show FVec Ideal S1x1024 .f32 from (dats m 0 c).arrAt 8 (cfgs 0).N) (ix2 0 b) = loss (m ((c : Thread nD τ).loc main_arg0)) (m ((c : Thread nD τ).loc main_arg1)) (m ((c : Thread nD τ).loc main_arg2)) (m ((c : Thread nD τ).loc main_arg3)) (m ((c : Thread nD τ).loc main_arg4)) := by
  have e : (dats m 0 c).arrAt 8 (cfgs 0).N = (show FVec Ideal S1x1024 .f32 from fun i => loss (m ((c : Thread nD τ).loc main_arg0)) (m ((c : Thread nD τ).loc main_arg1)) (m ((c : Thread nD τ).loc main_arg2)) (m ((c : Thread nD τ).loc main_arg3)) (m ((c : Thread nD τ).loc main_arg4))) := by
    refine (dats m 0 c).arrAt_eq_of_after_last 8 t0_3 (by decide +kernel) _ fun y => ?_
    blk_simp
    obtain ⟨b, rfl⟩ : ∃ (b : Fin 1024), y = (ix2 0 b : S1x1024.Idx) := ⟨y 1, by funext a; fin_cases a <;> [exact Subsingleton.elim (α := Fin 1) _ _; rfl]⟩
    rw [after0_8, Pipeline.eq_sum_fin_of_reset_step_apply_last (fun n h => (outsAt0 m c n h).2.2.2) 4 (fun _ => 0)
      (fun p y => (k0_pay11 (k0_pay3 (iblk m c 0 p) (iblk m c 1 p) (iblk m c 2 p) (iblk m c 3 p) (iblk m c 4 p)) : FVec Ideal S1x1024 .f32) (ix2 0 (y 1)))
      (fun t h j => by
        have := lt4 t
        rw [outsAt0_A m c t (by omega) (by omega) (by omega) (by omega)]; frame_out
        obtain ⟨b, rfl⟩ : ∃ (b : Fin 1024), j = (ix2 0 b : S1x1024.Idx) := ⟨j 1, by funext a; fin_cases a <;> [exact Subsingleton.elim (α := Fin 1) _ _; rfl]⟩
        exact (zero_add _).symm)
      (fun t h j => by
        have := lt4 t
        rw [outsAt0_B m c t (by omega) (by omega) (by omega) (by omega)]; frame_out
        obtain ⟨b, rfl⟩ : ∃ (b : Fin 1024), j = (ix2 0 b : S1x1024.Idx) := ⟨j 1, by funext a; fin_cases a <;> [exact Subsingleton.elim (α := Fin 1) _ _; rfl]⟩
        exact pay1 _ _ b)
      (le_of_eq N_0) t0_3 rfl _]
    refine (zero_add (M := EReal) _).trans ((Finset.sum_congr rfl fun p _ => part8 m c p b (lt4 p)).trans ?_)
    have hn : ∀ i, 0 ≤ rowLoss (m ((c : Thread nD τ).loc main_arg0)) (m ((c : Thread nD τ).loc main_arg1)) (m ((c : Thread nD τ).loc main_arg2)) (m ((c : Thread nD τ).loc main_arg3)) (m ((c : Thread nD τ).loc main_arg4)) i := fun i => mean_nonneg _
    unfold loss
    rw [half_eq]
    refine (mul_sum_nonneg (h := 1 / 2) (by norm_num) (f := fun p : Fin cfg0.N => ∑ a : Fin 512, rowLoss (m ((c : Thread nD τ).loc main_arg0)) (m ((c : Thread nD τ).loc main_arg1)) (m ((c : Thread nD τ).loc main_arg2)) (m ((c : Thread nD τ).loc main_arg3)) (m ((c : Thread nD τ).loc main_arg4)) ⟨512 * p.val + a, by have := lt4 p; omega⟩) fun p => Finset.sum_nonneg fun a _ => hn ⟨512 * p.val + a, by have := lt4 p; omega⟩).trans (congrArg (_ * ·) ?_)
    refine Fin.sum_mul_add_congr (fun s k hl => ?_) (by decide +kernel)
    have : (⟨512 * s.val + k, by have := lt4 s; omega⟩ : Fin 2048) = ⟨s.val * 512 + k, hl⟩ := Fin.ext (congrArg (· + (k : ℕ)) (mul_comm _ _))
    rw [this]
  exact congrFun e (ix2 0 b)

variable (x0 : FVec Ideal S2048x4096 .bf16) (x1 : FVec Ideal S4096x1024 .bf16) (x2 x3 : FVec Ideal S2048x1024 .f32) (x4 : FVec Ideal S1x1024 .f32)
  (e0 : x0 = m ((c : Thread nD τ).loc main_arg0)) (e1 : x1 = m ((c : Thread nD τ).loc main_arg1)) (e2 : x2 = m ((c : Thread nD τ).loc main_arg2))
  (e3 : x3 = m ((c : Thread nD τ).loc main_arg3)) (e4 : x4 = m ((c : Thread nD τ).loc main_arg4))

include e0 e1 e2 e3 e4

theorem same1 : Cert.Reference13Ideal.Read.val_main_v33 (F := Ideal) x0 x1 x2 x3 x4 = (dats m 0 c).arrAt 5 cfg0.N := by
  subst e0 e1 e2 e3 e4
  exact ext2 (a := 2048) (b := 1024) fun i j => (reference1 _ _ _ _ _ i j).trans (final5 m c i j).symm

theorem same3 : Cert.Reference13Ideal.Read.val_main_v36 (F := Ideal) x0 x1 x2 x3 x4 = (dats m 0 c).arrAt 7 cfg0.N := by
  subst e0 e1 e2 e3 e4
  refine ext2 (a := 1) (b := 1024) fun i j => ?_
  obtain rfl : i = 0 := Subsingleton.elim _ _
  exact (reference3 _ _ _ _ _ j).trans (final7 m c j).symm

theorem same2 : Cert.Reference13Ideal.Read.val_main_v53 (F := Ideal) x0 x1 x2 x3 x4 = (dats m 0 c).arrAt 6 cfg0.N := by
  subst e0 e1 e2 e3 e4
  exact ext2 (a := 2048) (b := 1024) fun i j => (reference2 _ _ _ _ _ i j).trans (final6 m c i j).symm

theorem same4 : Cert.Reference13Ideal.Read.val_main_v54 (F := Ideal) x0 x1 x2 x3 x4 = (dats m 0 c).arrAt 8 cfg0.N := by
  subst e0 e1 e2 e3 e4
  refine ext2 (a := 1) (b := 1024) fun i j => ?_
  obtain rfl : i = 0 := Subsingleton.elim _ _
  exact (reference4 _ _ _ _ _ j).trans (final8 m c j).symm

end Results

theorem algebraic : Cert.algebraic_Kernel13Ideal_Reference13Ideal := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel13Ideal.Value.run_blocks m g, (θ_run _ _ _).mono (fun r h c => ?_) (Cert.Reference13Ideal.Value.run m' g')⟩
  obtain ⟨h1, h2, h3, h4, ha⟩ := h c
  obtain ⟨e0, e1, e2, e3, e4⟩ := hargs c
  exact ⟨(h1.trans (Cert.Reference13Ideal.Read.val_main_v33_eq _ _ _ _ _)).trans (same1 m c _ _ _ _ _ e0 e1 e2 e3 e4),
    (h2.trans (Cert.Reference13Ideal.Read.val_main_v53_eq _ _)).trans (same2 m c _ _ _ _ _ e0 e1 e2 e3 e4),
    (h3.trans (Cert.Reference13Ideal.Read.val_main_v36_eq _ _ _ _ _)).trans (same3 m c _ _ _ _ _ e0 e1 e2 e3 e4),
    (h4.trans (Cert.Reference13Ideal.Read.val_main_v54_eq _ _ _ _ _)).trans (same4 m c _ _ _ _ _ e0 e1 e2 e3 e4), ha⟩

theorem frame_reference : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run m ρ)

end Cert.Down

end
-- ==== Proof.Products.PreNorm.lean ====
/- The backward of the first rms norm, with the gradient that comes past it added: the kernel's four row blocks, and the running sum of its weights' gradient. -/
module

public import proofs.«01_k».proof.Defs
public import proofs.«01_k».proof.Proof.Reals
public import proofs.«01_k».proof.Proof.Products.Norm
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.PreNorm

open Idealize.ShloMosaic Idealize.ShloMosaic.TcCoe Idealize.SL.Sem
open Idealize.ShloMosaic.Pipeline (Dat)
open Cert.Reals Cert.Norm Cert.Kernel14Ideal Cert.Kernel14Ideal.Gen

/-- What the body computes, at an index of the block: `x` the rows, `p` the weights, `d` the gradient of the norm, `u` what is added. -/
theorem pay4 (x d u : FVec Ideal S512x1024 .f32) (p : FVec Ideal S1x1024 .f32) (i : Fin 512) (j : Fin 1024) :
    (k0_pay4 x p d u : FVec Ideal S512x1024 .f32) (ix2 i j)
      = u (ix2 i j) + back (fun k => x (ix2 i k)) (fun k => d (ix2 i k)) (fun k => p (ix2 0 k)) j := by
  pointwise [k0_pay4, k0_pay2, back, scale, square]

/-- What a block adds to the running sum. -/
def part (x d : FVec Ideal S512x1024 .f32) (j : Fin 1024) : EReal := ∑ i : Fin 512, d (ix2 i j) * x (ix2 i j) * scale (fun k => x (ix2 i k))

theorem pay1 (x d : FVec Ideal S512x1024 .f32) (s : FVec Ideal S1x1024 .f32) (j : Fin 1024) :
    (k0_pay1 (k0_pay3 x d) (k0_pay6 s) : FVec Ideal S1x1024 .f32) (ix2 0 j) = s (ix2 0 j) + part x d j := by
  unfold part
  pointwise [k0_pay1, k0_pay3, k0_pay2, k0_pay6, scale, square]

theorem pay5 (j : Fin 1024) : (k0_pay5 (F := Ideal) : FVec Ideal S1x1024 .f32) (ix2 0 j) = 0 := by
  pointwise [k0_pay5]

section Whole

variable (x0 x1 x3 : FVec Ideal S2048x1024 .f32) (x2 : FVec Ideal S1x1024 .f32)

/-- The gradient and the sum, over the whole arrays. -/
def dx (i : Fin 2048) (j : Fin 1024) : EReal := x3 (ix2 i j) + back (fun k => x1 (ix2 i k)) (fun k => x0 (ix2 i k)) (fun k => x2 (ix2 0 k)) j
def sum (j : Fin 1024) : EReal := ∑ i : Fin 2048, x0 (ix2 i j) * x1 (ix2 i j) * scale (fun k => x1 (ix2 i k))

/-- The reference's results at an index. -/
theorem reference1 (i : Fin 2048) (j : Fin 1024) :
    (Cert.Reference14Ideal.Read.val_main_v34 (F := Ideal) x0 x1 x2 x3 : FVec Ideal S2048x1024 .f32) (ix2 i j) = dx x0 x1 x3 x2 i j := by
  unfold dx
  rw [← back_eq]
  pointwise [Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_v26, Cert.Reference14Ideal.Read.val_main_v27, Cert.Reference14Ideal.Read.val_main_v28, Cert.Reference14Ideal.Read.val_main_v29, Cert.Reference14Ideal.Read.val_main_v30, Cert.Reference14Ideal.Read.val_main_v31, Cert.Reference14Ideal.Read.val_main_v32, Cert.Reference14Ideal.Read.val_main_v33, Cert.Reference14Ideal.Read.val_main_v34, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, pull, scale, square]
  simp only [Fin.sum_univ_one]

theorem reference2 (j : Fin 1024) :
    (Cert.Reference14Ideal.Read.val_main_v17 (F := Ideal) x0 x1 : FVec Ideal S1x1024 .f32) (ix2 0 j) = sum x0 x1 j := by
  unfold sum
  refine Eq.trans (b := ∑ i : Fin 2048, x1 (ix2 i j) * scale (fun k => x1 (ix2 i k)) * x0 (ix2 i j)) ?_
    (Finset.sum_congr rfl fun i _ => by rw [mul_comm, mul_assoc])
  pointwise [Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, scale, square]

end Whole

variable (m : (ℓ : Loc nD τ sig) → Buf (Elt Ideal) ℓ)

theorem idx : ∀ t : Fin cfg0.N, (win0_0.index t = ![t.val, 0] ∧ win0_1.index t = ![t.val, 0] ∧ win0_2.index t = ![0, 0]
    ∧ win0_3.index t = ![t.val, 0]) ∧ win0_4.index t = ![t.val, 0] ∧ win0_5.index t = ![0, 0] ∧ t.val < 4 :=
  (by decide +kernel : ∀ t : Fin grid0.N, _)

theorem lt4 (t : Fin cfg0.N) : t.val < 4 := (idx t).2.2.2

section Points

variable (c : Dev nD) (t : Fin cfg0.N) (a : Fin 512) (b : Fin 1024) (ht : t.val < 4)

/-- A block's rows are the whole arrays'. -/
theorem row0 (b : Fin 1024) : (show FVec Ideal S512x1024 .f32 from iblk m c 0 t) (ix2 a b) = (show FVec Ideal S2048x1024 .f32 from m ((c : Thread nD τ).loc main_arg0)) (ix2 ⟨512 * t.val + a, by omega⟩ b) := by
  blk_ext [iblk, V, (idx t).1.1]

theorem row1 (b : Fin 1024) : (show FVec Ideal S512x1024 .f32 from iblk m c 1 t) (ix2 a b) = (show FVec Ideal S2048x1024 .f32 from m ((c : Thread nD τ).loc main_arg1)) (ix2 ⟨512 * t.val + a, by omega⟩ b) := by
  blk_ext [iblk, V, (idx t).1.2.1]

theorem row2 (b : Fin 1024) : (show FVec Ideal S1x1024 .f32 from iblk m c 2 t) (ix2 0 b) = (show FVec Ideal S1x1024 .f32 from m ((c : Thread nD τ).loc main_arg2)) (ix2 0 b) := by
  blk_ext [iblk, V, (idx t).1.2.2.1]

theorem row3 (b : Fin 1024) : (show FVec Ideal S512x1024 .f32 from iblk m c 3 t) (ix2 a b) = (show FVec Ideal S2048x1024 .f32 from m ((c : Thread nD τ).loc main_arg3)) (ix2 ⟨512 * t.val + a, by omega⟩ b) := by
  blk_ext [iblk, V, (idx t).1.2.2.2]

theorem point : (k0_pay4 (iblk m c 1 t) (iblk m c 2 t) (iblk m c 0 t) (iblk m c 3 t) : FVec Ideal S512x1024 .f32) (ix2 a b)
    = dx (m ((c : Thread nD τ).loc main_arg0)) (m ((c : Thread nD τ).loc main_arg1)) (m ((c : Thread nD τ).loc main_arg3))
      (m ((c : Thread nD τ).loc main_arg2)) ⟨512 * t.val + a, by omega⟩ b := by
  refine (pay4 _ _ _ _ a b).trans ?_
  unfold dx
  exact congrArg₂ (· + ·) (row3 m c t a ht b) (congr (congr (congr (congrArg back (funext (row1 m c t a ht))) (funext (row0 m c t a ht))) (funext (row2 m c t))) rfl)

theorem part_eq : part (iblk m c 1 t) (iblk m c 0 t) b
    = ∑ a : Fin 512, (show FVec Ideal S2048x1024 .f32 from m ((c : Thread nD τ).loc main_arg0)) (ix2 ⟨512 * t.val + a, by omega⟩ b)
      * (show FVec Ideal S2048x1024 .f32 from m ((c : Thread nD τ).loc main_arg1)) (ix2 ⟨512 * t.val + a, by omega⟩ b)
      * scale (fun k => (show FVec Ideal S2048x1024 .f32 from m ((c : Thread nD τ).loc main_arg1)) (ix2 ⟨512 * t.val + a, by omega⟩ k)) :=
  Finset.sum_congr rfl fun a _ =>
    congrArg₂ (· * ·) (congrArg₂ (· * ·) (row0 m c t a ht b) (row1 m c t a ht b)) (congrArg scale (funext (row1 m c t a ht)))

end Points

section Results

variable (c : Dev nD)

theorem final4 (i : Fin 2048) (j : Fin 1024) :
    (show FVec Ideal S2048x1024 .f32 from (dats m 0 c).arrAt 4 (cfgs 0).N) (ix2 i j) = dx (m ((c : Thread nD τ).loc main_arg0)) (m ((c : Thread nD τ).loc main_arg1)) (m ((c : Thread nD τ).loc main_arg3)) (m ((c : Thread nD τ).loc main_arg2)) i j := by
  have e : (dats m 0 c).arrAt 4 (cfgs 0).N = (show FVec Ideal S2048x1024 .f32 from fun i => dx (m ((c : Thread nD τ).loc main_arg0)) (m ((c : Thread nD τ).loc main_arg1)) (m ((c : Thread nD τ).loc main_arg3)) (m ((c : Thread nD τ).loc main_arg2)) (i 0) (i 1)) := by
    refine (dats m 0 c).arrAt_eq_of_covers 4 _ (by decide +kernel) fun t _ y => ?_
    have h := (idx t).2
    have ht := h.2.2
    blk_simp
    obtain ⟨a, b, rfl⟩ : ∃ (a : Fin 512) (b : Fin 1024), y = ix2 a b := ⟨y 0, y 1, by funext a; fin_cases a <;> rfl⟩
    rw [after0_4]
    by_cases h0 : t.val = 0
    · rw [outsAt0_A m c t (by omega)]; frame_out
      refine (point m c t a b ht).trans ?_
      congr 1
      · apply Fin.ext; blk_simp [h.1]; exact congrArg (· + _) (mul_comm _ _)
      · apply Fin.ext; blk_simp [h.1]
    · rw [outsAt0_B m c t (by omega)]; frame_out
      refine (point m c t a b ht).trans ?_
      congr 1
      · apply Fin.ext; blk_simp [h.1]; exact congrArg (· + _) (mul_comm _ _)
      · apply Fin.ext; blk_simp [h.1]
  exact congrFun e (ix2 i j)

theorem final5 (b : Fin 1024) :
    (show FVec Ideal S1x1024 .f32 from (dats m 0 c).arrAt 5 (cfgs 0).N) (ix2 0 b) = sum (m ((c : Thread nD τ).loc main_arg0)) (m ((c : Thread nD τ).loc main_arg1)) b := by
  have e : (dats m 0 c).arrAt 5 (cfgs 0).N = (show FVec Ideal S1x1024 .f32 from fun i => sum (m ((c : Thread nD τ).loc main_arg0)) (m ((c : Thread nD τ).loc main_arg1)) (i 1)) := by
    refine (dats m 0 c).arrAt_eq_of_after_last 5 t0_3 (by decide +kernel) _ fun y => ?_
    blk_simp
    obtain ⟨b, rfl⟩ : ∃ (b : Fin 1024), y = (ix2 0 b : S1x1024.Idx) := ⟨y 1, by funext a; fin_cases a <;> [exact Subsingleton.elim (α := Fin 1) _ _; rfl]⟩
    rw [after0_5, Pipeline.eq_sum_fin_of_reset_step_apply_last (fun n h => (outsAt0 m c n h).2) 4 (fun _ => 0)
      (fun p y => part (iblk m c 1 p) (iblk m c 0 p) (y 1))
      (fun t h j => by
        have := lt4 t
        rw [outsAt0_A m c t (by omega)]; frame_out
        obtain ⟨b, rfl⟩ : ∃ (b : Fin 1024), j = (ix2 0 b : S1x1024.Idx) := ⟨j 1, by funext a; fin_cases a <;> [exact Subsingleton.elim (α := Fin 1) _ _; rfl]⟩
        refine (pay1 _ _ _ b).trans ?_
        exact congrArg (· + _) (pay5 b))
      (fun t h j => by
        have := lt4 t
        rw [outsAt0_B m c t (by omega)]; frame_out
        obtain ⟨b, rfl⟩ : ∃ (b : Fin 1024), j = (ix2 0 b : S1x1024.Idx) := ⟨j 1, by funext a; fin_cases a <;> [exact Subsingleton.elim (α := Fin 1) _ _; rfl]⟩
        exact pay1 _ _ _ b)
      (le_of_eq N_0) t0_3 rfl _]
    refine (zero_add (M := EReal) _).trans ((Finset.sum_congr rfl fun p _ => part_eq m c p b (lt4 p)).trans ?_)
    unfold sum
    refine Fin.sum_mul_add_congr (fun s k hl => ?_) (by decide +kernel)
    have : (⟨512 * s.val + k, by have := lt4 s; omega⟩ : Fin 2048) = ⟨s.val * 512 + k, hl⟩ := Fin.ext (congrArg (· + (k : ℕ)) (mul_comm _ _))
    rw [this]; rfl
  exact congrFun e (ix2 0 b)

variable (x0 x1 x3 : FVec Ideal S2048x1024 .f32) (x2 : FVec Ideal S1x1024 .f32)
  (e0 : x0 = m ((c : Thread nD τ).loc main_arg0)) (e1 : x1 = m ((c : Thread nD τ).loc main_arg1)) (e2 : x2 = m ((c : Thread nD τ).loc main_arg2))
  (e3 : x3 = m ((c : Thread nD τ).loc main_arg3))

include e0 e1

theorem same2 : Cert.Reference14Ideal.Read.val_main_v17 (F := Ideal) x0 x1 = (dats m 0 c).arrAt 5 cfg0.N := by
  subst e0 e1
  refine ext2 (a := 1) (b := 1024) fun i j => ?_
  obtain rfl : i = 0 := Subsingleton.elim _ _
  exact (reference2 _ _ j).trans (final5 m c j).symm

include e2 e3

theorem same1 : Cert.Reference14Ideal.Read.val_main_v34 (F := Ideal) x0 x1 x2 x3 = (dats m 0 c).arrAt 4 cfg0.N := by
  subst e0 e1 e2 e3
  exact ext2 (a := 2048) (b := 1024) fun i j => (reference1 _ _ _ _ i j).trans (final4 m c i j).symm

end Results

theorem algebraic : Cert.algebraic_Kernel14Ideal_Reference14Ideal := by
  intro m g m' g' _ hargs
  refine ⟨fun c => (dats m 0 c).arrAt 4 cfg0.N, fun c => (dats m 0 c).arrAt 5 cfg0.N,
    Cert.Kernel14Ideal.Value.run_blocks m g, (θ_run _ _ _).mono (fun r h c => ?_) (Cert.Reference14Ideal.Value.run m' g')⟩
  obtain ⟨h1, h2, ha⟩ := h c
  obtain ⟨e0, e1, e2, e3⟩ := hargs c
  exact ⟨(h1.trans (Cert.Reference14Ideal.Read.val_main_v34_eq _ _ _ _)).trans (same1 m c _ _ _ _ e0 e1 e2 e3),
    (h2.trans (Cert.Reference14Ideal.Read.val_main_v17_eq _ _)).trans (same2 m c _ _ e0 e1), ha⟩

theorem frame_reference : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run m ρ)

end Cert.PreNorm

end
-- ==== Proof.Products.FoxNorm.lean ====
/- The backward of the rms norm of every attention head: the kernel's sixteen blocks of a head pair's rows, and the running sum of its weights' gradient. -/
module

public import proofs.«01_k».proof.Defs
public import proofs.«01_k».proof.Proof.Reals
public import proofs.«01_k».proof.Proof.Products.Norm
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.FoxNorm

open Idealize.ShloMosaic Idealize.ShloMosaic.TcCoe Idealize.SL.Sem
open Idealize.ShloMosaic.Pipeline (Dat)
open Cert.Reals Cert.Kernel15Ideal Cert.Kernel15Ideal.Gen

/-! ## The norm of a row of 64 -/

theorem inv_eq : Ideal.ofBits .f32 0x3C800000#32 = ((1 / 64 : ℝ) : EReal) := by
  have h : (1 / 64 : ℝ) = 8388608 * (2 ^ 29)⁻¹ := by norm_num
  rw [h, EReal.coe_mul]; simp [Ideal.ofBits, Ideal.ieee]

theorem width_eq : Ideal.ofBits .f32 0x42800000#32 = ((64 : ℝ) : EReal) := by
  have h : (64 : ℝ) = 8388608 * (2 ^ 17)⁻¹ := by norm_num
  rw [h, EReal.coe_mul]; simp [Ideal.ofBits, Ideal.ieee]

/-- The quotient by 64 is the product by its reciprocal. -/
theorem div_width (a : EReal) : Ideal.div a (Ideal.ofBits .f32 0x42800000#32) = a * Ideal.ofBits .f32 0x3C800000#32 := by
  rw [width_eq, inv_eq, Ideal.div_coe (by norm_num)]

/-- A head's mean square plus the literal 1e-6, and the factor of its norm. -/
def square (x : Fin 64 → EReal) : EReal := (∑ k, x k * x k) * Ideal.ofBits .f32 0x3C800000#32 + Ideal.ofBits .f32 0x358637BD#32
def scale (x : Fin 64 → EReal) : EReal := Ideal.rsqrt (square x)

/-- The gradient with respect to a head's row, in closed form: `x` the row, `g` the gradient of the norm, `w` its weights. -/
def back (x g w : Fin 64 → EReal) (j : Fin 64) : EReal :=
  scale x * (g j * w j) - x j * (scale x * scale x * scale x) * ((∑ k, g k * w k * x k) * Ideal.ofBits .f32 0x3C800000#32)

/-- What the chain rule sends through the mean square. -/
def pull (x g w : Fin 64 → EReal) : EReal :=
  ((∑ k, x k * (g k * w k)) * (Ideal.ofBits .f32 0xBF000000#32 * Ideal.div (scale x) (square x))) * Ideal.ofBits .f32 0x3C800000#32

theorem square_pos (x : Fin 64 → EReal) : 0 < square x := by
  unfold square
  rw [eps_eq, inv_eq]
  refine lt_of_lt_of_le (EReal.coe_pos.2 eps_pos) ?_
  exact le_add_of_nonneg_left (mul_nonneg (Finset.sum_nonneg fun k _ => Norm.mul_self_nonneg' _) (EReal.coe_nonneg.2 (by norm_num)))

/-- The cube of the factor is the factor over the mean square, also where that is infinite. -/
theorem cube_eq (x : Fin 64 → EReal) : Ideal.div (scale x) (square x) = scale x * scale x * scale x := by
  have h := square_pos x
  unfold scale
  generalize square x = s at h ⊢
  induction s with
  | bot => exact absurd h (by simp)
  | top =>
    have e : Ideal.rsqrt ⊤ = 0 := rfl
    rw [e]; simp [Ideal.div]
  | coe s =>
    have hs : 0 < s := EReal.coe_pos.1 h
    rw [rsqrt_pos s hs, div_coe_coe _ _ hs.ne', ← EReal.coe_mul, ← EReal.coe_mul]
    congr 1
    rw [← mul_inv, Real.mul_self_sqrt hs.le, div_eq_mul_inv, mul_comm]

/-- The chain rule's form is the closed form. -/
theorem back_eq (x g w : Fin 64 → EReal) (j : Fin 64) :
    g j * w j * scale x + x j * pull x g w + pull x g w * x j = back x g w j := by
  have hs : ∑ k, x k * (g k * w k) = ∑ k, g k * w k * x k := Finset.sum_congr rfl fun k _ => mul_comm _ _
  have hp : x j * pull x g w = ((-(1 / 2) : ℝ) : EReal) * (x j * (scale x * scale x * scale x) * ((∑ k, g k * w k * x k) * Ideal.ofBits .f32 0x3C800000#32)) := by
    unfold pull
    rw [hs, cube_eq, mhalf_eq]
    ac_rfl
  rw [mul_comm (pull x g w), hp, add_assoc, Norm.half_twice, mul_comm (g j * w j), ← sub_eq_add_neg]
  rfl

/-! ## The body -/

/-- Lane `k` of head `e` of the pair. -/
def lane (e : Fin 2) (k : Fin 64) : Fin 128 := ⟨64 * e + k, by omega⟩

theorem exists_lane (l : Fin 128) : ∃ e k, l = lane e k :=
  ⟨⟨l / 64, by omega⟩, ⟨l % 64, by omega⟩, Fin.ext (by simp only [lane]; omega)⟩

theorem mask0 (l : Fin 128) : k0_pay5 (ix2 0 l) = BitVec.ofBool (decide ((l : ℕ) < 64)) := by
  pointwise [k0_pay5]
  revert l; decide +kernel

theorem mask1 (l : Fin 128) : k0_pay6 (ix2 0 l) = BitVec.ofBool (decide (¬(l : ℕ) < 64)) := by
  pointwise [k0_pay6]
  revert l; decide +kernel

theorem select0 (e : Fin 2) (k : Fin 64) (a b : EReal) : Scalar.select (k0_pay5 (ix2 0 (lane e k))) a b = if e = 0 then a else b := by
  rw [mask0]
  match e with
  | 0 => have h : ((lane 0 k : Fin 128) : ℕ) < 64 := by simp [lane]
         simp [h, Scalar.select]
  | 1 => have h : ¬((lane 1 k : Fin 128) : ℕ) < 64 := by simp [lane]
         simp [h, Scalar.select]

theorem select1 (e : Fin 2) (k : Fin 64) (a b : EReal) : Scalar.select (k0_pay6 (ix2 0 (lane e k))) a b = if e = 1 then a else b := by
  rw [mask1]
  match e with
  | 0 => have h : ((lane 0 k : Fin 128) : ℕ) < 64 := by simp [lane]
         simp [h, Scalar.select]
  | 1 => have h : ¬((lane 1 k : Fin 128) : ℕ) < 64 := by simp [lane]
         simp [h, Scalar.select]

theorem sum_lanes (f : Fin 128 → EReal) : ∑ l, f l = (∑ k, f (lane 0 k)) + ∑ k, f (lane 1 k) := by
  rw [Fin.sum_univ_tiles 2 64 rfl, Fin.sum_univ_two]
  refine congrArg₂ (· + ·) (Finset.sum_congr rfl fun k _ => congrArg f (Fin.ext ?_)) (Finset.sum_congr rfl fun k _ => congrArg f (Fin.ext ?_)) <;> simp [lane]

/-- The sum over one head of the pair. -/
theorem half0 (f : Fin 128 → EReal) : ∑ l, Scalar.select (k0_pay5 (ix2 0 l)) (f l) 0 = ∑ k, f (lane 0 k) := by
  rw [sum_lanes]; simp only [select0]; simp

theorem half1 (f : Fin 128 → EReal) : ∑ l, Scalar.select (k0_pay6 (ix2 0 l)) (f l) 0 = ∑ k, f (lane 1 k) := by
  rw [sum_lanes]; simp only [select1]; simp

/-- A row's part in one head. -/
def row {n : ℕ} (x : (⟨2, ![n, 128]⟩ : Shape).Idx → EReal) (i : Fin n) (e : Fin 2) (k : Fin 64) : EReal := x (ix2 i (lane e k))

theorem pay11 (x : FVec Ideal S512x128 .f32) (i : Fin 512) (e : Fin 2) (k : Fin 64) :
    (k0_pay11 k0_pay8 (k0_pay9 x) (k0_pay10 x) : FVec Ideal S512x128 .f32) (ix2 i (lane e k)) = scale (row x i e) := by
  pointwise [k0_pay11, k0_pay8, k0_pay9, k0_pay10, k0_pay7]
  simp only [select0, half0, half1]
  match e with
  | 0 => rfl
  | 1 => rfl

theorem pay12 (x g : FVec Ideal S512x128 .f32) (w : FVec Ideal S1x128 .f32) (i : Fin 512) (e : Fin 2) (k : Fin 64) :
    (k0_pay12 k0_pay5 k0_pay6 x g k0_pay8 (k0_pay9 x) (k0_pay10 x) w : FVec Ideal S512x128 .f32) (ix2 i (lane e k))
      = back (row x i e) (row g i e) (row w 0 e) k := by
  pointwise [k0_pay12, pay11]
  simp only [select0, half0, half1]
  match e with
  | 0 => rfl
  | 1 => rfl

theorem pay13 (x g : FVec Ideal S512x128 .f32) (w : FVec Ideal S1x128 .f32) (i : Fin 512) (e : Fin 2) (k : Fin 64) :
    (k0_pay13 k0_pay5 k0_pay6 x g k0_pay8 (k0_pay9 x) (k0_pay10 x) w : FVec Ideal S512x128 .bf16) (ix2 i (lane e k))
      = back (row x i e) (row g i e) (row w 0 e) k := by
  rw [← pay12]
  pointwise [k0_pay13]

theorem pay1 (x g : FVec Ideal S512x128 .f32) (w : FVec Ideal S1x128 .f32) (i : Fin 512) (e : Fin 2) :
    (k0_pay1 (k0_pay14 k0_pay5 k0_pay6 x g k0_pay8 (k0_pay9 x) (k0_pay10 x) w) (k0_pay15 k0_pay5 k0_pay6 x g k0_pay8 (k0_pay9 x) (k0_pay10 x) w)
        (Scalar.ofBits .f32 0x00000000#32) (k0_pay16 k0_pay6) : FVec Ideal S1x512x2 .f32) (ix3 0 i e)
      = ∑ k, back (row x i e) (row g i e) (row w 0 e) k * row x i e k := by
  pointwise [k0_pay1, k0_pay14, k0_pay15, k0_pay16]
  simp only [half0, half1, pay12]
  match e with
  | 0 => rfl
  | 1 => rfl

/-- What a block adds to the running sum. -/
def part (x g : FVec Ideal S512x128 .f32) (e : Fin 2) (k : Fin 64) : EReal := ∑ i : Fin 512, row g i e k * row x i e k * scale (row x i e)

theorem pay3 (x g : FVec Ideal S512x128 .f32) (s : FVec Ideal S1x128 .f32) (e : Fin 2) (k : Fin 64) :
    (k0_pay3 x g (k0_pay11 k0_pay8 (k0_pay9 x) (k0_pay10 x)) s : FVec Ideal S1x128 .f32) (ix2 0 (lane e k)) = s (ix2 0 (lane e k)) + part x g e k := by
  pointwise [k0_pay3, pay11]
  rfl

theorem pay2 (l : Fin 128) : (k0_pay2 (F := Ideal) : FVec Ideal S1x128 .f32) (ix2 0 l) = 0 := by
  pointwise [k0_pay2]

/-- Adding the array rolled by a head's width adds the two heads' sums, in both heads. -/
theorem pay4 (s : FVec Ideal S1x128 .f32) (e : Fin 2) (k : Fin 64) :
    (k0_pay4 s : FVec Ideal S1x128 .f32) (ix2 0 (lane e k)) = s (ix2 0 (lane 0 k)) + s (ix2 0 (lane 1 k)) := by
  pointwise [k0_pay4]
  match e with
  | 0 =>
    refine congrArg₂ (· + ·) rfl (congrArg s (congrArg (ix2 0) (Fin.ext ?_)))
    simp [lane]; omega
  | 1 =>
    rw [add_comm]
    refine congrArg₂ (· + ·) (congrArg s (congrArg (ix2 0) (Fin.ext ?_))) rfl
    simp [lane]; omega

/-! ## A sum over the first two of three axes -/

theorem fiber01 {n0 n1 n2 : ℕ} {t : Shape} (h : (⟨3, ![n0, n1, n2]⟩ : Shape).ReducesTo [0, 1] t) (hl : 0 < t.rank) (hs : t.size ⟨0, hl⟩ = n2)
    (j : t.Idx) (i : (⟨3, ![n0, n1, n2]⟩ : Shape).Idx) :
    h.drop i = j ↔ ∃ k : Fin n0 × Fin n1, ix3 k.1 k.2 ⟨(j ⟨0, hl⟩).val, Shape.coordLt (j ⟨0, hl⟩) hs⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, hl⟩)).symm
  · rintro ⟨k, rfl⟩
    funext b
    apply Fin.ext
    match b with
    | ⟨0, _⟩ => rfl
    | ⟨_ + 1, hb⟩ => exact absurd hb (by have : t.rank = 1 := h.1; omega)

theorem hostReduceAdd01 {n0 n1 n2 : ℕ} (h : (⟨3, ![n0, n1, n2]⟩ : Shape).ReducesTo [0, 1] ⟨1, ![n2]⟩) (v : (⟨3, ![n0, n1, n2]⟩ : Shape).Idx → EReal)
    (init : EReal) (j : Fin n2) :
    Ideal.hostReduceAdd h v init (ix1 j) = init + ∑ k0 : Fin n0, ∑ k1 : Fin n1, v (ix3 k0 k1 j) := by
  refine congrArg (init + ·) ((Finset.sum_filter_eq_sum_of_fiber _ (fun k : Fin n0 × Fin n1 => ix3 k.1 k.2 j)
    (fun _ _ e => Prod.ext (congrFun e 0) (congrFun e 1)) (fiber01 h Nat.one_pos rfl (ix1 j)) v).trans ?_)
  simp only [Fintype.sum_prod_type]

/-! ## The whole arrays -/

section Whole

variable (x0 : FVec Ideal S2048x512 .f32) (x1 : FVec Ideal S2048x1024 .f32) (x2 : FVec Ideal S1x64 .f32)

/-- A row's part in one of the eight heads; a head's gradient, and its product with the head's row; the gradient of the weights. -/
def xr (r : Fin 2048) (h : Fin 8) (k : Fin 64) : EReal := x0 (ix2 r ⟨h * 64 + k, by omega⟩)
def gr (r : Fin 2048) (h : Fin 8) (k : Fin 64) : EReal := x1 (ix2 r ⟨h * 64 + k, by omega⟩)
def dh (r : Fin 2048) (h : Fin 8) (k : Fin 64) : EReal := back (xr x0 r h) (gr x1 r h) (fun k => x2 (ix2 0 k)) k
def delta (r : Fin 2048) (h : Fin 8) : EReal := ∑ k, dh x0 x1 x2 r h k * xr x0 r h k
def dw (k : Fin 64) : EReal := ∑ r : Fin 2048, ∑ h : Fin 8, gr x1 r h k * xr x0 r h k * scale (xr x0 r h)

theorem reference_head (r : Fin 2048) (h : Fin 8) (k : Fin 64) :
    (Cert.Reference15Ideal.Read.val_main_v40 (F := Ideal) x0 x1 x2 : FVec Ideal Cert.Reference15Ideal.S2048x8x64 .f32) (ix3 r h k) = dh x0 x1 x2 r h k := by
  unfold dh
  rw [← back_eq]
  pointwise [Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_v29, Cert.Reference15Ideal.Read.val_main_v30, Cert.Reference15Ideal.Read.val_main_v31, Cert.Reference15Ideal.Read.val_main_v32, Cert.Reference15Ideal.Read.val_main_v33, Cert.Reference15Ideal.Read.val_main_v34, Cert.Reference15Ideal.Read.val_main_v35, Cert.Reference15Ideal.Read.val_main_v36, Cert.Reference15Ideal.Read.val_main_v37, Cert.Reference15Ideal.Read.val_main_v38, Cert.Reference15Ideal.Read.val_main_v39, Cert.Reference15Ideal.Read.val_main_v40, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]
  simp only [div_width, zero_add, Fin.sum_univ_one]
  rfl

theorem reference46 (r : Fin 2048) (q : Fin 512) :
    (Cert.Reference15Ideal.Read.val_main_v46 (F := Ideal) x0 x1 x2 : FVec Ideal S2048x512 .bf16) (ix2 r q) = dh x0 x1 x2 r ⟨q / 64, by omega⟩ ⟨q % 64, by omega⟩ := by
  rw [← reference_head]
  pointwise [Cert.Reference15Ideal.Read.val_main_v41, Cert.Reference15Ideal.Read.val_main_v42, Cert.Reference15Ideal.Read.val_main_v43, Cert.Reference15Ideal.Read.val_main_v44, Cert.Reference15Ideal.Read.val_main_v45, Cert.Reference15Ideal.Read.val_main_v46]

theorem reference45 (p : Fin 4) (r : Fin 2048) (e : Fin 2) :
    (Cert.Reference15Ideal.Read.val_main_v45 (F := Ideal) x0 x1 x2 : FVec Ideal Cert.Reference15Ideal.S4x2048x2 .f32) (ix3 p r e) = delta x0 x1 x2 r ⟨2 * p + e, by omega⟩ := by
  unfold delta
  simp only [← reference_head]
  pointwise [Cert.Reference15Ideal.Read.val_main_v41, Cert.Reference15Ideal.Read.val_main_v42, Cert.Reference15Ideal.Read.val_main_v43, Cert.Reference15Ideal.Read.val_main_v44, Cert.Reference15Ideal.Read.val_main_v45, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]
  refine Finset.sum_congr rfl fun x _ => congrArg₂ (· * ·) (congrArg _ (congrArg (ix3 r · x) (Fin.ext ?_))) (congrArg x0 (congrArg (ix2 r) (Fin.ext ?_)))
  · show (p.val * 128 + e.val * 64 + x.val) / 64 = 2 * p.val + e.val
    omega
  · show p.val * 128 + e.val * 64 + x.val = (2 * p.val + e.val) * 64 + x.val
    omega

theorem reference20 (r : Fin 2048) (h : Fin 8) (k : Fin 64) :
    (Cert.Reference15Ideal.Read.val_main_v20 (F := Ideal) x0 x1 : FVec Ideal Cert.Reference15Ideal.S2048x8x64 .f32) (ix3 r h k)
      = gr x1 r h k * xr x0 r h k * scale (xr x0 r h) := by
  refine Eq.trans (b := xr x0 r h k * scale (xr x0 r h) * gr x1 r h k) ?_ (by ac_rfl)
  pointwise [Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]
  simp only [div_width, zero_add]
  rfl

theorem reference26 (k : Fin 64) :
    (Cert.Reference15Ideal.Read.val_main_v26 (F := Ideal) x0 x1 : FVec Ideal S1x64 .f32) (ix2 0 k) = dw x0 x1 k := by
  unfold dw
  simp only [← reference20]
  pointwise [hostReduceAdd01, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_v26, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]
  simp only [Fin.sum_univ_one, zero_add]

theorem reference47 (e : Fin 2) (k : Fin 64) :
    (Cert.Reference15Ideal.Read.val_main_v47 (F := Ideal) x0 x1 : FVec Ideal S1x128 .f32) (ix2 0 (lane e k)) = dw x0 x1 k := by
  rw [← reference26]
  pointwise [Cert.Reference15Ideal.Read.val_main_v47]
  match e with
  | 0 =>
    have h : ((lane 0 k : Fin 128) : ℕ) < 64 := by simp [lane]
    rw [dif_pos h]
    exact congrArg _ (congrArg (ix2 0) (Fin.ext (by simp [lane])))
  | 1 =>
    have h : ¬((lane 1 k : Fin 128) : ℕ) < 64 := by simp [lane]
    rw [dif_neg h]
    exact congrArg _ (congrArg (ix2 0) (Fin.ext (by simp [lane])))

end Whole

/-- The sum over the blocks of both heads of every pair is the sum over all rows and heads. -/
theorem sum_blocks (Q : Fin 2048 → Fin 8 → EReal) :
    (∑ t : Fin 16, ∑ i : Fin 512, Q ⟨512 * (t % 4) + i, by omega⟩ ⟨2 * (t / 4), by omega⟩)
      + (∑ t : Fin 16, ∑ i : Fin 512, Q ⟨512 * (t % 4) + i, by omega⟩ ⟨2 * (t / 4) + 1, by omega⟩)
      = ∑ r, ∑ h, Q r h := by
  rw [(Finset.sum_comm : ∑ r, ∑ h, Q r h = ∑ h, ∑ r, Q r h), Fin.sum_univ_tiles 4 2 rfl (f := fun h : Fin 8 => ∑ r, Q r h), Fin.sum_univ_tiles 4 4 rfl (f := fun t : Fin 16 => _),
    Fin.sum_univ_tiles 4 4 rfl (f := fun t : Fin 16 => _), ← Finset.sum_add_distrib]
  refine Finset.sum_congr rfl fun a _ => ?_
  rw [Fin.sum_univ_two, Fin.sum_univ_tiles 4 512 rfl (f := fun r : Fin 2048 => _), Fin.sum_univ_tiles 4 512 rfl (f := fun r : Fin 2048 => _)]
  refine congrArg₂ (· + ·) (Finset.sum_congr rfl fun b _ => Finset.sum_congr rfl fun i _ => ?_)
    (Finset.sum_congr rfl fun b _ => Finset.sum_congr rfl fun i _ => ?_)
  · refine congrArg₂ Q (Fin.ext ?_) (Fin.ext ?_)
    · show 512 * ((a.val * 4 + b.val) % 4) + i.val = b.val * 512 + i.val
      omega
    · show 2 * ((a.val * 4 + b.val) / 4) = a.val * 2 + 0
      omega
  · refine congrArg₂ Q (Fin.ext ?_) (Fin.ext ?_)
    · show 512 * ((a.val * 4 + b.val) % 4) + i.val = b.val * 512 + i.val
      omega
    · show 2 * ((a.val * 4 + b.val) / 4) + 1 = a.val * 2 + 1
      omega

variable (m : (ℓ : Loc nD τ sig) → Buf (Elt Ideal) ℓ)

theorem idx : ∀ t : Fin cfg0.N, (win0_0.index t = ![t.val % 4, t.val / 4] ∧ win0_1.index t = ![t.val % 4, t.val / 4] ∧ win0_2.index t = ![0, 0])
    ∧ win0_3.index t = ![t.val % 4, t.val / 4] ∧ win0_4.index t = ![t.val / 4, t.val % 4, 0] ∧ win0_5.index t = ![0, 0] ∧ t.val < 16 :=
  (by decide +kernel : ∀ t : Fin grid0.N, _)

theorem lt16 (t : Fin cfg0.N) : t.val < 16 := (idx t).2.2.2.2

/-- The weights as the kernel takes them: twice over, made on the host. -/
theorem entry (c : Dev nD) (e : Fin 2) (k : Fin 64) : (V m c main_v0 : FVec Ideal S1x128 .f32) (ix2 0 (lane e k))
    = (show FVec Ideal S1x64 .f32 from m ((c : Thread nD τ).loc main_arg2)) (ix2 0 k) := by
  unfold V; after_results
  change concatenate S1x128 1 [⟨S1x64, (show FVec Ideal S1x64 .f32 from m ((c : Thread nD τ).loc main_arg2))⟩, ⟨S1x64, (show FVec Ideal S1x64 .f32 from m ((c : Thread nD τ).loc main_arg2))⟩]
    concatenates_S1x64_S1x64_S1x128_d1 (ix2 0 (lane e k)) = _
  pointwise
  match e with
  | 0 =>
    have h : ((lane 0 k : Fin 128) : ℕ) < 64 := by simp [lane]
    rw [dif_pos h]
    exact congrArg _ (congrArg (ix2 0) (Fin.ext (by simp [lane])))
  | 1 =>
    have h : ¬((lane 1 k : Fin 128) : ℕ) < 64 := by simp [lane]
    rw [dif_neg h]
    exact congrArg _ (congrArg (ix2 0) (Fin.ext (by simp [lane])))

section Points

variable (c : Dev nD) (t : Fin cfg0.N) (a : Fin 512) (e : Fin 2) (ht : t.val < 16)

/-- The arguments on a device. -/
abbrev a0 : FVec Ideal S2048x512 .f32 := m ((c : Thread nD τ).loc main_arg0)
abbrev a1 : FVec Ideal S2048x1024 .f32 := m ((c : Thread nD τ).loc main_arg1)
abbrev a2 : FVec Ideal S1x64 .f32 := m ((c : Thread nD τ).loc main_arg2)

/-- A block's rows are the whole arrays'. -/
theorem row0 : row (show FVec Ideal S512x128 .f32 from iblk m c 0 t) a e = xr (a0 m c) ⟨512 * (t.val % 4) + a, by omega⟩ ⟨2 * (t.val / 4) + e, by omega⟩ := by
  funext k
  refine Eq.trans (b := a0 m c (ix2 ⟨512 * (t.val % 4) + a, by omega⟩ ⟨128 * (t.val / 4) + (lane e k : Fin 128), by omega⟩)) ?_
    (congrArg (a0 m c) (congrArg (ix2 _) (Fin.ext ?_)))
  · unfold row
    blk_ext [iblk, V, (idx t).1.1]
  · show 128 * (t.val / 4) + (64 * e.val + k.val) = (2 * (t.val / 4) + e.val) * 64 + k.val
    omega

theorem row1 : row (show FVec Ideal S512x128 .f32 from iblk m c 1 t) a e = gr (a1 m c) ⟨512 * (t.val % 4) + a, by omega⟩ ⟨2 * (t.val / 4) + e, by omega⟩ := by
  funext k
  refine Eq.trans (b := a1 m c (ix2 ⟨512 * (t.val % 4) + a, by omega⟩ ⟨128 * (t.val / 4) + (lane e k : Fin 128), by omega⟩)) ?_
    (congrArg (a1 m c) (congrArg (ix2 _) (Fin.ext ?_)))
  · unfold row
    blk_ext [iblk, V, (idx t).1.2.1]
  · show 128 * (t.val / 4) + (64 * e.val + k.val) = (2 * (t.val / 4) + e.val) * 64 + k.val
    omega

theorem row2 : row (show FVec Ideal S1x128 .f32 from iblk m c 2 t) 0 e = fun k => a2 m c (ix2 0 k) := by
  funext k
  refine Eq.trans ?_ (entry m c e k)
  unfold row
  blk_ext [iblk, (idx t).1.2.2]

variable (k : Fin 64)

theorem point3 : (k0_pay13 k0_pay5 k0_pay6 (iblk m c 0 t) (iblk m c 1 t) k0_pay8 (k0_pay9 (iblk m c 0 t)) (k0_pay10 (iblk m c 0 t)) (iblk m c 2 t) : FVec Ideal S512x128 .bf16) (ix2 a (lane e k))
    = dh (a0 m c) (a1 m c) (a2 m c) ⟨512 * (t.val % 4) + a, by omega⟩ ⟨2 * (t.val / 4) + e, by omega⟩ k := by
  refine (pay13 _ _ _ a e k).trans ?_
  unfold dh
  rw [← row0 m c t a e ht, ← row1 m c t a e ht, ← row2 m c t e]

theorem point4 : (k0_pay1 (k0_pay14 k0_pay5 k0_pay6 (iblk m c 0 t) (iblk m c 1 t) k0_pay8 (k0_pay9 (iblk m c 0 t)) (k0_pay10 (iblk m c 0 t)) (iblk m c 2 t))
      (k0_pay15 k0_pay5 k0_pay6 (iblk m c 0 t) (iblk m c 1 t) k0_pay8 (k0_pay9 (iblk m c 0 t)) (k0_pay10 (iblk m c 0 t)) (iblk m c 2 t))
      (Scalar.ofBits .f32 0x00000000#32) (k0_pay16 k0_pay6) : FVec Ideal S1x512x2 .f32) (ix3 0 a e)
    = delta (a0 m c) (a1 m c) (a2 m c) ⟨512 * (t.val % 4) + a, by omega⟩ ⟨2 * (t.val / 4) + e, by omega⟩ := by
  refine (pay1 _ _ _ a e).trans ?_
  unfold delta dh
  rw [← row0 m c t a e ht, ← row1 m c t a e ht, ← row2 m c t e]

theorem part_eq : part (iblk m c 0 t) (iblk m c 1 t) e k
    = ∑ a : Fin 512, gr (a1 m c) ⟨512 * (t.val % 4) + a, by omega⟩ ⟨2 * (t.val / 4) + e, by omega⟩ k
      * xr (a0 m c) ⟨512 * (t.val % 4) + a, by omega⟩ ⟨2 * (t.val / 4) + e, by omega⟩ k
      * scale (xr (a0 m c) ⟨512 * (t.val % 4) + a, by omega⟩ ⟨2 * (t.val / 4) + e, by omega⟩) := by
  unfold part
  refine Finset.sum_congr rfl fun a _ => ?_
  rw [← row0 m c t a e ht, ← row1 m c t a e ht]

end Points

section Results

variable (c : Dev nD)

theorem final3 (i : Fin 2048) (j : Fin 512) :
    (show FVec Ideal S2048x512 .bf16 from (dats m 0 c).arrAt 3 (cfgs 0).N) (ix2 i j) = dh (a0 m c) (a1 m c) (a2 m c) i ⟨j / 64, by omega⟩ ⟨j % 64, by omega⟩ := by
  have e : (dats m 0 c).arrAt 3 (cfgs 0).N = (show FVec Ideal S2048x512 .bf16 from fun i =>
      dh (a0 m c) (a1 m c) (a2 m c) (i 0) ⟨(i 1).val / 64, by have h : (i 1).val < 512 := (i 1).isLt; omega⟩ ⟨(i 1).val % 64, by omega⟩) := by
    refine (dats m 0 c).arrAt_eq_of_covers 3 _ (by decide +kernel) fun t _ y => ?_
    have h := (idx t).2
    have ht := lt16 t
    blk_simp
    obtain ⟨a, b, rfl⟩ : ∃ (a : Fin 512) (b : Fin 128), y = ix2 a b := ⟨y 0, y 1, by funext a; fin_cases a <;> rfl⟩
    obtain ⟨e, k, rfl⟩ := exists_lane b
    rw [after0_3]
    have h3 : ∀ q : ℕ, q = t.val / 4 * 128 + (64 * e.val + k.val) → 2 * (t.val / 4) + e.val = q / 64 ∧ k.val = q % 64 := by omega
    by_cases h0 : t.val = 0
    · rw [outsAt0_A m c t (by omega) (by omega)]; frame_out
      refine (point3 m c t a e ht k).trans ?_
      congr 1
      · apply Fin.ext; blk_simp [h.1]; exact congrArg (· + _) (mul_comm _ _)
      · apply Fin.ext; blk_simp [h.1]; exact (h3 _ rfl).1
      · apply Fin.ext; blk_simp [h.1]; exact (h3 _ rfl).2
    by_cases h1 : t.val = 15
    · rw [outsAt0_C m c t (by omega) (by omega)]; frame_out
      refine (point3 m c t a e ht k).trans ?_
      congr 1
      · apply Fin.ext; blk_simp [h.1]; exact congrArg (· + _) (mul_comm _ _)
      · apply Fin.ext; blk_simp [h.1]; exact (h3 _ rfl).1
      · apply Fin.ext; blk_simp [h.1]; exact (h3 _ rfl).2
    · rw [outsAt0_B m c t (by omega) (by omega)]; frame_out
      refine (point3 m c t a e ht k).trans ?_
      congr 1
      · apply Fin.ext; blk_simp [h.1]; exact congrArg (· + _) (mul_comm _ _)
      · apply Fin.ext; blk_simp [h.1]; exact (h3 _ rfl).1
      · apply Fin.ext; blk_simp [h.1]; exact (h3 _ rfl).2
  exact congrFun e (ix2 i j)

theorem final4 (p : Fin 4) (i : Fin 2048) (j : Fin 2) :
    (show FVec Ideal S4x2048x2 .f32 from (dats m 0 c).arrAt 4 (cfgs 0).N) (ix3 p i j) = delta (a0 m c) (a1 m c) (a2 m c) i ⟨2 * p + j, by omega⟩ := by
  have e : (dats m 0 c).arrAt 4 (cfgs 0).N = (show FVec Ideal S4x2048x2 .f32 from fun i =>
      delta (a0 m c) (a1 m c) (a2 m c) (i 1) ⟨2 * (i 0).val + (i 2).val, by
        have h : (i 0).val < 4 := (i 0).isLt
        have h : (i 2).val < 2 := (i 2).isLt
        omega⟩) := by
    refine (dats m 0 c).arrAt_eq_of_covers 4 _ (by decide +kernel) fun t _ y => ?_
    have h := (idx t).2.2
    have ht := lt16 t
    blk_simp
    obtain ⟨a, e, rfl⟩ : ∃ (a : Fin 512) (e : Fin 2), y = (ix3 0 a e : S1x512x2.Idx) :=
      ⟨y 1, y 2, by funext a; fin_cases a <;> [exact Subsingleton.elim (α := Fin 1) _ _; rfl; rfl]⟩
    rw [after0_4]
    by_cases h0 : t.val = 0
    · rw [outsAt0_A m c t (by omega) (by omega)]; frame_out
      refine (point4 m c t a e ht).trans ?_
      congr 1
      · apply Fin.ext; blk_simp [h.1]; exact congrArg (· + _) (mul_comm _ _)
      · apply Fin.ext; blk_simp [h.1]
    by_cases h1 : t.val = 15
    · rw [outsAt0_C m c t (by omega) (by omega)]; frame_out
      refine (point4 m c t a e ht).trans ?_
      congr 1
      · apply Fin.ext; blk_simp [h.1]; exact congrArg (· + _) (mul_comm _ _)
      · apply Fin.ext; blk_simp [h.1]
    · rw [outsAt0_B m c t (by omega) (by omega)]; frame_out
      refine (point4 m c t a e ht).trans ?_
      congr 1
      · apply Fin.ext; blk_simp [h.1]; exact congrArg (· + _) (mul_comm _ _)
      · apply Fin.ext; blk_simp [h.1]
  exact congrFun e (ix3 p i j)

theorem lt_N (p : Fin 16) : p.val < cfg0.N := by have : cfg0.N = 16 := N_0; omega

/-- The running sum before the last block. -/
theorem running (e : Fin 2) (k : Fin 64) : ∀ (n : ℕ) (hn : n < 15) (h : n < cfg0.N),
    (show FVec Ideal S1x128 .f32 from (outsAt0 m c n h).2.2) (ix2 0 (lane e k))
      = ∑ p : Fin (n + 1), part (iblk m c 0 ⟨p, by omega⟩) (iblk m c 1 ⟨p, by omega⟩) e k
  | 0, hn, h => by
    refine Eq.trans (b := (k0_pay2 (F := Ideal) : FVec Ideal S1x128 .f32) (ix2 0 (lane e k)) + part (iblk m c 0 ⟨0, h⟩) (iblk m c 1 ⟨0, h⟩) e k) ?_ ?_
    · have hA := outsAt0_A m c ⟨0, h⟩ (by show 0 % 16 = 0; omega) (by show ¬0 % 16 = 15; omega)
      dsimp only at hA
      rw [hA]; frame_out
      exact pay3 _ _ _ e k
    · rw [pay2, zero_add (M := EReal)]
      exact (Fin.sum_univ_one (fun p : Fin 1 => part (iblk m c 0 ⟨p, by omega⟩) (iblk m c 1 ⟨p, by omega⟩) e k)).symm
  | n + 1, hn, h => by
    have hB := outsAt0_B m c ⟨n + 1, h⟩ (by show ¬(n + 1) % 16 = 0; omega) (by show ¬(n + 1) % 16 = 15; omega)
    dsimp only at hB
    rw [Fin.sum_univ_castSucc, hB]; frame_out
    refine (pay3 _ _ _ e k).trans ?_
    exact congrArg (· + _) (running e k n (by omega) (by omega))

theorem last (e : Fin 2) (k : Fin 64) :
    (show FVec Ideal S1x128 .f32 from (outsAt0 m c t0_15.val t0_15.isLt).2.2) (ix2 0 (lane e k))
      = (∑ p : Fin 16, part (iblk m c 0 ⟨p, lt_N p⟩) (iblk m c 1 ⟨p, lt_N p⟩) 0 k)
        + ∑ p : Fin 16, part (iblk m c 0 ⟨p, lt_N p⟩) (iblk m c 1 ⟨p, lt_N p⟩) 1 k := by
  rw [outsAt0_C m c t0_15 (by show ¬15 % 16 = 0; omega) (by show 15 % 16 = 15; omega)]; frame_out
  refine (pay4 _ e k).trans ?_
  rw [Fin.sum_univ_castSucc (n := 15), Fin.sum_univ_castSucc (n := 15)]
  refine congrArg₂ (· + ·) ((pay3 _ _ _ 0 k).trans ?_) ((pay3 _ _ _ 1 k).trans ?_)
  · exact congrArg (· + _) (running m c 0 k 14 (by omega) (by have : cfg0.N = 16 := N_0; omega))
  · exact congrArg (· + _) (running m c 1 k 14 (by omega) (by have : cfg0.N = 16 := N_0; omega))

theorem final5 (e : Fin 2) (k : Fin 64) :
    (show FVec Ideal S1x128 .f32 from (dats m 0 c).arrAt 5 (cfgs 0).N) (ix2 0 (lane e k)) = dw (a0 m c) (a1 m c) k := by
  have e5 : (dats m 0 c).arrAt 5 (cfgs 0).N = (show FVec Ideal S1x128 .f32 from (outsAt0 m c t0_15.val t0_15.isLt).2.2) := by
    refine (dats m 0 c).arrAt_eq_of_after_last 5 t0_15 (by decide +kernel) _ fun y => ?_
    blk_simp
    rw [after0_5]
  rw [e5]
  refine (last m c e k).trans ?_
  refine (congrArg₂ (· + ·) (Finset.sum_congr rfl fun p _ => part_eq m c _ 0 p.isLt k) (Finset.sum_congr rfl fun p _ => part_eq m c _ 1 p.isLt k)).trans ?_
  unfold dw
  exact sum_blocks fun r h => gr (a1 m c) r h k * xr (a0 m c) r h k * scale (xr (a0 m c) r h)

variable (x0 : FVec Ideal S2048x512 .f32) (x1 : FVec Ideal S2048x1024 .f32) (x2 : FVec Ideal S1x64 .f32)
  (e0 : x0 = m ((c : Thread nD τ).loc main_arg0)) (e1 : x1 = m ((c : Thread nD τ).loc main_arg1)) (e2 : x2 = m ((c : Thread nD τ).loc main_arg2))

include e0 e1

theorem same5 : Cert.Reference15Ideal.Read.val_main_v47 (F := Ideal) x0 x1 = (dats m 0 c).arrAt 5 cfg0.N := by
  subst e0 e1
  refine ext2 (a := 1) (b := 128) fun i j => ?_
  obtain rfl : i = 0 := Subsingleton.elim _ _
  obtain ⟨e, k, rfl⟩ := exists_lane j
  exact (reference47 _ _ e k).trans (final5 m c e k).symm

include e2

theorem same3 : Cert.Reference15Ideal.Read.val_main_v46 (F := Ideal) x0 x1 x2 = (dats m 0 c).arrAt 3 cfg0.N := by
  subst e0 e1 e2
  exact ext2 (a := 2048) (b := 512) fun i j => (reference46 _ _ _ i j).trans (final3 m c i j).symm

theorem same4 : Cert.Reference15Ideal.Read.val_main_v45 (F := Ideal) x0 x1 x2 = (dats m 0 c).arrAt 4 cfg0.N := by
  subst e0 e1 e2
  refine funext fun i => ?_
  obtain ⟨p, r, e, rfl⟩ : ∃ (p : Fin 4) (r : Fin 2048) (e : Fin 2), i = (ix3 p r e : S4x2048x2.Idx) :=
    ⟨i 0, i 1, i 2, by funext a; fin_cases a <;> rfl⟩
  exact (reference45 _ _ _ p r e).trans (final4 m c p r e).symm

end Results

theorem algebraic : Cert.algebraic_Kernel15Ideal_Reference15Ideal := by
  intro m g m' g' _ hargs
  refine ⟨fun c => (dats m 0 c).arrAt 3 cfg0.N, fun c => (dats m 0 c).arrAt 4 cfg0.N, fun c => (dats m 0 c).arrAt 5 cfg0.N,
    Cert.Kernel15Ideal.Value.run_blocks m g, (θ_run _ _ _).mono (fun r h c => ?_) (Cert.Reference15Ideal.Value.run m' g')⟩
  obtain ⟨h1, h2, h3, ha⟩ := h c
  obtain ⟨e0, e1, e2⟩ := hargs c
  exact ⟨(h1.trans (Cert.Reference15Ideal.Read.val_main_v46_eq _ _)).trans (same3 m c _ _ _ e0 e1 e2),
    (h2.trans (Cert.Reference15Ideal.Read.val_main_v45_eq _ _)).trans (same4 m c _ _ _ e0 e1 e2),
    (h3.trans (Cert.Reference15Ideal.Read.val_main_v47_eq _ _)).trans (same5 m c _ _ e0 e1), ha⟩

theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run m ρ)

end Cert.FoxNorm

end
-- ==== Proof.Products.GateMath.lean ====
/- The gates' functions on the extended reals: the logistic function as the slope of softplus, and running sums from the end of a column. -/
module

public import proofs.«01_k».proof.Proof.Reals
public import Idealize.ShloMosaic.Lib.Pointwise
public import Idealize.ShloMosaic.Lib.Pipeline.ValueKit

@[expose] public section

set_option maxRecDepth 16384

noncomputable section

namespace Cert.Gates

open Idealize.ShloMosaic
open Cert.Reals

/-! ## Softplus and its slope -/

/-- The logistic function as the kernel writes it. -/
def logis (z : EReal) : EReal := Ideal.div 1 (1 + Ideal.exp (0 - z))

/-- Softplus as the kernel writes it. -/
def soft (z : EReal) : EReal := max z 0 + Ideal.log (1 + Ideal.exp (0 - max z (-z)))

/-- The slope of softplus as the chain rule writes it. -/
def slope (z : EReal) : EReal := Ideal.exp ((if z = ⊤ then 0 else z) - (if soft z = ⊤ then 0 else soft z))

theorem log_one : Ideal.log 1 = 0 := by
  refine (Ideal.log_coe 1).trans ?_
  rw [if_neg (by norm_num), Real.log_one]
  exact EReal.coe_zero

theorem coe_max (x y : ℝ) : ((max x y : ℝ) : EReal) = max (x : EReal) y := EReal.coe_strictMono.monotone.map_max

theorem soft_top : soft ⊤ = ⊤ := by
  have e : Ideal.exp ⊥ = 0 := rfl
  have l : Ideal.log 1 = 0 := log_one
  simp [soft, e, l]

theorem soft_bot : soft ⊥ = 0 := by
  have e : Ideal.exp ⊥ = 0 := rfl
  have l : Ideal.log 1 = 0 := log_one
  simp [soft, e, l]

/-- Softplus of a real number. -/
theorem soft_coe (x : ℝ) : soft (x : EReal) = ((max x 0 + Real.log (1 + Real.exp (-max x (-x))) : ℝ) : EReal) := by
  have h : ¬ 1 + Real.exp (-max x (-x)) ≤ 0 := by have := Real.exp_pos (-max x (-x)); linarith
  unfold soft
  rw [show max (x : EReal) (-(x : EReal)) = ((max x (-x) : ℝ) : EReal) from by rw [← EReal.coe_neg, ← coe_max], zero_sub_coe, Ideal.exp_coe, one_add_coe, Ideal.log_coe, if_neg h,
    show max (x : EReal) 0 = ((max x 0 : ℝ) : EReal) from by rw [coe_max, EReal.coe_zero], ← EReal.coe_add]

theorem logis_coe (x : ℝ) : logis (x : EReal) = ((1 / (1 + Real.exp (-x)) : ℝ) : EReal) := by
  have h : 1 + Real.exp (-x) ≠ 0 := by have := Real.exp_pos (-x); linarith
  unfold logis
  rw [zero_sub_coe, Ideal.exp_coe, one_add_coe, one_div_coe _ h]

theorem logis_top : logis ⊤ = 1 := by
  have e : Ideal.exp ⊥ = 0 := rfl
  simp [logis, e]
  exact (one_div_coe 1 one_ne_zero).trans (by simp)

theorem logis_bot : logis ⊥ = 0 := by
  have e : Ideal.exp ⊤ = ⊤ := rfl
  have t : (1 : EReal) + ⊤ = ⊤ := EReal.add_top_of_ne_bot (by decide)
  simp [logis, e, Ideal.div, t]

/-- The exponential of a number less its softplus. -/
theorem real_slope (x : ℝ) : Real.exp (x - (max x 0 + Real.log (1 + Real.exp (-max x (-x))))) = 1 / (1 + Real.exp (-x)) := by
  have p : ∀ y : ℝ, 0 < 1 + Real.exp y := fun y => by have := Real.exp_pos y; linarith
  rw [← sub_sub, Real.exp_sub, Real.exp_log (p _)]
  rcases le_total 0 x with h | h
  · rw [max_eq_left h, max_eq_left (by linarith), sub_self, Real.exp_zero]
  · rw [max_eq_right h, max_eq_right (by linarith), sub_zero, neg_neg, div_eq_div_iff (p _).ne' (p _).ne', mul_add, ← Real.exp_add]
    simp [add_comm]

/-- The logistic function is the slope of softplus, at the infinities too. -/
theorem slope_eq (z : EReal) : slope z = logis z := by
  induction z with
  | bot =>
    have e : Ideal.exp ⊥ = 0 := rfl
    rw [logis_bot]; simp [slope, soft_bot, e]
  | top =>
    rw [logis_top]; simp only [slope, soft_top, if_true, sub_zero]
    exact (Ideal.exp_coe 0).trans (by simp)
  | coe x =>
    unfold slope
    rw [soft_coe, if_neg (EReal.coe_ne_top _), if_neg (EReal.coe_ne_top _), ← EReal.coe_sub, Ideal.exp_coe, logis_coe, real_slope]

/-- What the logistic function lacks to one is its value at the opposite number. -/
theorem one_sub_logis (z : EReal) : 1 - logis z = logis (-z) := by
  induction z with
  | bot => rw [EReal.neg_bot, logis_top, logis_bot, sub_zero]
  | top => rw [EReal.neg_top, logis_top, logis_bot]; exact (one_sub_coe 1).trans (by simp)
  | coe x =>
    have p : ∀ y : ℝ, 1 + Real.exp y ≠ 0 := fun y => by have := Real.exp_pos y; linarith
    rw [← EReal.coe_neg, logis_coe, logis_coe, one_sub_coe]
    congr 1
    have e : Real.exp x * Real.exp (-x) = 1 := by rw [← Real.exp_add]; simp
    rw [neg_neg]
    field_simp [p x, p (-x)]
    linarith

/-- Softplus as the host writes it. -/
theorem soft_host (z : EReal) : max z 0 + Ideal.log1p (Ideal.exp (-max z (-z))) = soft z := by
  unfold soft; rw [zero_sub]; rfl

/-! ## Sums from a row to the end -/

/-- The sum of a column from row `n` on. -/
def tail (f : Fin 2048 → EReal) (n : ℕ) : EReal := ∑ i : Fin 2048, if n ≤ i then f i else 0

theorem tail_end (f : Fin 2048 → EReal) : tail f 2048 = 0 :=
  Finset.sum_eq_zero fun i _ => if_neg (by omega)

/-- A block's own sums from a row on, plus the sum of the later blocks. -/
theorem tail_block (f : Fin 2048 → EReal) (b : Fin 4) (p : Fin 512) :
    (∑ q : Fin 512, (if p ≤ q then (1 : EReal) else 0) * f ⟨512 * b + q, by omega⟩) + tail f (512 * (b + 1)) = tail f (512 * b + p) := by
  unfold tail
  rw [Fin.sum_univ_tiles 4 512 rfl (f := fun i : Fin 2048 => if 512 * ((b : ℕ) + 1) ≤ i then f i else 0),
    Fin.sum_univ_tiles 4 512 rfl (f := fun i : Fin 2048 => if 512 * (b : ℕ) + p ≤ i then f i else 0)]
  rw [show (∑ q : Fin 512, (if p ≤ q then (1 : EReal) else 0) * f ⟨512 * b + q, by omega⟩)
      = ∑ a : Fin 4, if a = b then (∑ q : Fin 512, (if p ≤ q then (1 : EReal) else 0) * f ⟨512 * b + q, by omega⟩) else 0 from by
        rw [Finset.sum_ite_eq' Finset.univ b, if_pos (Finset.mem_univ b)], ← Finset.sum_add_distrib]
  refine Finset.sum_congr rfl fun a _ => ?_
  by_cases h : a = b
  · subst h
    rw [if_pos rfl, ← Finset.sum_add_distrib]
    refine Finset.sum_congr rfl fun q _ => ?_
    have h0 : ¬512 * ((a : ℕ) + 1) ≤ a * 512 + q := by omega
    have e : f ⟨512 * a + q, by omega⟩ = f ⟨a * 512 + q, by omega⟩ := congrArg f (Fin.ext (by simp only; omega))
    simp only [h0, if_false, add_zero, e]
    by_cases hq : p ≤ q
    · rw [if_pos hq, if_pos (by have := Fin.le_def.1 hq; omega), one_mul]
    · rw [if_neg hq, if_neg (by have := fun h => hq (Fin.le_def.2 h); omega), zero_mul]
  · rw [if_neg h, zero_add]
    refine Finset.sum_congr rfl fun q _ => ?_
    have hb : (a : ℕ) ≠ b := fun e => h (Fin.ext e)
    refine if_congr ?_ rfl rfl
    simp only
    omega

/-! ## The host's running sum from the end -/

theorem foldl_add (l : List ℕ) (g : ℕ → EReal) (r : EReal) : l.foldl (fun r n => r + g n) r = r + (l.map g).sum := by
  induction l generalizing r with
  | nil => simp
  | cons a l ih => rw [List.foldl_cons, ih, List.map_cons, List.sum_cons, add_assoc]

theorem foldl_fin {N : ℕ} (l : List (Fin N)) (g : Fin N → EReal) (r : EReal) : l.foldl (fun r n => r + g n) r = r + (l.map g).sum := by
  induction l generalizing r with
  | nil => simp
  | cons a l ih => rw [List.foldl_cons, ih, List.map_cons, List.sum_cons, add_assoc]

/-- A window of the whole height, padded below, sums a column from each row on. -/
theorem window_tail (x : (⟨2, ![2048, 8]⟩ : Shape).Idx → EReal)
    (h : (⟨2, ![2048, 8]⟩ : Shape).ReduceWindows (![2048, 1] : Fin 2 → Nat) ![1, 1] ![0, 0] ![2047, 0] ⟨2, ![2048, 8]⟩) (z : EReal) (hz : z = 0) (j : Fin 2048) (c : Fin 8) :
    Ideal.hostReduceWindowAdd ![2048, 1] ![1, 1] ![0, 0] ![2047, 0] h x z (ix2 j c) = tail (fun i => x (ix2 i c)) j := by
  subst hz
  have hN : (⟨2, ![2048, 1]⟩ : Shape).numel = 2048 := by decide +kernel
  unfold Ideal.hostReduceWindowAdd Host.reduceWindow
  refine (foldl_fin _ _ _).trans ?_
  rw [zero_add, ← Fin.sum_univ_def]
  unfold tail
  let g : ℕ → EReal := fun n => if h : j.val + n < 2048 then x (ix2 ⟨j.val + n, h⟩ c) else 0
  trans ∑ n : Fin (⟨2, ![2048, 1]⟩ : Shape).numel, g n.val
  · refine Finset.sum_congr rfl fun n _ => ?_
    have hn : n.val < 2048 := lt_of_lt_of_eq n.isLt hN
    have hw : (⟨2, ![2048, 1]⟩ : Shape).rowMajor.symm n = ix2 (⟨n.val, hn⟩ : Fin 2048) (0 : Fin 1) := by
      rw [Equiv.symm_apply_eq]
      apply Fin.ext
      rw [Shape.rowMajor_val_two]
      show n.val = n.val * 1 + 0
      omega
    have h0 : ((⟨2, ![2048, 1]⟩ : Shape).rowMajor.symm n 0).val = n.val := by rw [hw]; rfl
    have h1 : ((⟨2, ![2048, 1]⟩ : Shape).rowMajor.symm n 1).val = 0 := by rw [hw]; rfl
    dsimp only [g]
    by_cases hj : j.val + n.val < 2048
    · rw [dif_pos hj]
      have hc := c.isLt
      rw [dif_pos (by
        intro a
        match a with
        | ⟨0, _⟩ =>
          show 0 ≤ j.val * 1 + ((⟨2, ![2048, 1]⟩ : Shape).rowMajor.symm n 0).val ∧ j.val * 1 + ((⟨2, ![2048, 1]⟩ : Shape).rowMajor.symm n 0).val - 0 < 2048
          rw [h0]; omega
        | ⟨1, _⟩ =>
          show 0 ≤ c.val * 1 + ((⟨2, ![2048, 1]⟩ : Shape).rowMajor.symm n 1).val ∧ c.val * 1 + ((⟨2, ![2048, 1]⟩ : Shape).rowMajor.symm n 1).val - 0 < 8
          rw [h1]; omega)]
      refine congrArg x (funext fun a => Fin.ext ?_)
      match a with
      | ⟨0, _⟩ =>
        show j.val * 1 + ((⟨2, ![2048, 1]⟩ : Shape).rowMajor.symm n 0).val - 0 = j.val + n.val
        rw [h0]; omega
      | ⟨1, _⟩ =>
        show c.val * 1 + ((⟨2, ![2048, 1]⟩ : Shape).rowMajor.symm n 1).val - 0 = c.val
        rw [h1]; omega
    · rw [dif_neg hj, dif_neg]
      intro hin
      have h2 := hin 0
      change 0 ≤ j.val * 1 + ((⟨2, ![2048, 1]⟩ : Shape).rowMajor.symm n 0).val ∧ j.val * 1 + ((⟨2, ![2048, 1]⟩ : Shape).rowMajor.symm n 0).val - 0 < 2048 at h2
      rw [h0] at h2; omega
  rw [Fin.sum_univ_eq_sum_range g, hN]
  let k : ℕ → EReal := fun n => if j.val ≤ n then (if h : n < 2048 then x (ix2 ⟨n, h⟩ c) else 0) else 0
  trans ∑ n ∈ Finset.range 2048, k n
  · rw [← Finset.sum_filter_add_sum_filter_not (Finset.range 2048) (fun n => j.val + n < 2048) g]
    rw [Finset.sum_eq_zero (s := (Finset.range 2048).filter fun n => ¬j.val + n < 2048) (fun n hn => dif_neg (Finset.mem_filter.1 hn).2), add_zero]
    rw [← Finset.sum_filter_add_sum_filter_not (Finset.range 2048) (fun n => j.val ≤ n) k]
    rw [Finset.sum_eq_zero (s := (Finset.range 2048).filter fun n => ¬j.val ≤ n) (fun n hn => if_neg (Finset.mem_filter.1 hn).2), add_zero]
    refine Finset.sum_bij (fun n _ => j.val + n) (fun n hn => ?_) (fun a _ b _ e => by simpa using e) (fun n hn => ?_) (fun n hn => ?_)
    · have := Finset.mem_filter.1 hn
      exact Finset.mem_filter.2 ⟨Finset.mem_range.2 this.2, by omega⟩
    · have := Finset.mem_filter.1 hn
      have := Finset.mem_range.1 this.1
      exact ⟨n - j.val, Finset.mem_filter.2 ⟨Finset.mem_range.2 (by omega), by omega⟩, by omega⟩
    · dsimp only [g, k]
      rw [if_pos (by omega)]
  rw [← Fin.sum_univ_eq_sum_range k]
  refine Finset.sum_congr rfl fun i _ => ?_
  dsimp only [k]
  rw [dif_pos i.isLt]

end Cert.Gates

end
-- ==== Proof.Products.GateRef.lean ====
/- The reference's gradient of the gates, read element by element. -/
module

public import proofs.«01_k».proof.Proof.Products.GateMath
public import proofs.«01_k».proof.Proof.Gen.Reference16Ideal.Read

@[expose] public section

set_option maxRecDepth 16384

noncomputable section

namespace Cert.Gates

open Idealize.ShloMosaic Idealize.ShloMosaic.TcCoe
open Cert.Reals Cert.Reference16Ideal Cert.Reference16Ideal.Read

variable (x0 : FVec Ideal S2048x3840 .f32) (x1 : FVec Ideal S1x8 .f32) (x2 x3 : FVec Ideal S1x4 .f32) (x4 x5 : FVec Ideal S2048x128 .f32)
  (x6 : FVec Ideal S2048x3840 .bf16)

/-- The gradient sent to a lane of the gates. -/
def ct (r : Fin 2048) (l : Fin 128) : EReal := x4 (ix2 r l) + x5 (ix2 r l)

/-- The arguments of the forget gates, of the write strengths and of the decays. -/
def zf (r : Fin 2048) (l : Fin 8) : EReal := x0 (ix2 r ⟨3584 + l, by omega⟩) + x1 (ix2 0 l)
def zb (r : Fin 2048) (l : Fin 4) : EReal := x0 (ix2 r ⟨3592 + l, by omega⟩)
def za (r : Fin 2048) (l : Fin 4) : EReal := x0 (ix2 r ⟨3596 + l, by omega⟩) + x3 (ix2 0 l)

/-- A decay's factor. -/
def gs (l : Fin 4) : EReal := -Ideal.exp (x2 (ix2 0 l))

/-- The gradients with respect to the three, and what a row gives the decay's logarithm. -/
def df (r : Fin 2048) (l : Fin 8) : EReal := tail (fun i => ct x4 x5 i ⟨l, by omega⟩) r * (1 - logis (zf x0 x1 r l))
def db (r : Fin 2048) (l : Fin 4) : EReal := ct x4 x5 r ⟨8 + l, by omega⟩ * logis (zb x0 r l) * (1 - logis (zb x0 r l))
def da (r : Fin 2048) (l : Fin 4) : EReal := ct x4 x5 r ⟨12 + l, by omega⟩ * gs x2 l * logis (za x0 x3 r l)
def dlog (r : Fin 2048) (l : Fin 4) : EReal := ct x4 x5 r ⟨12 + l, by omega⟩ * gs x2 l * soft (za x0 x3 r l)

/-- The gradient of a row's sixteen lanes, with nothing in the others. -/
def ds (r : Fin 2048) (l : ℕ) : EReal :=
  if h : l < 8 then df x0 x1 x4 x5 r ⟨l, h⟩ else if h : l - 8 < 4 then db x0 x4 x5 r ⟨l - 8, h⟩ else if h : l - 8 - 4 < 4 then da x0 x2 x3 x4 x5 r ⟨l - 8 - 4, h⟩ else 0

theorem absf_eq (z : EReal) : (FloatOps.absf (F := Ideal) (φ := .f32) z : EReal) = max z (-z) := rfl

theorem reference40 (r : Fin 2048) (l : Fin 8) : (val_main_v40 (F := Ideal) x0 x1 x4 x5 : FVec Ideal S2048x8 .f32) (ix2 r l) = df x0 x1 x4 x5 r l := by
  have h7 : (val_main_v7_1 (F := Ideal) x0 x1 : FVec Ideal S2048x8 .f32) (ix2 r l) = slope (-zf x0 x1 r l) := by
    pointwise [val_main_v0, val_main_v1, val_main_v2, val_main_v3, val_main_v4, val_main_v5, val_main_v6, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_v7_1]
    simp only [ne_eq, not_true_eq_false, if_false, absf_eq, soft_host, inf_eq]
    rfl
  have h39 : (val_main_v39 (F := Ideal) x4 x5 : FVec Ideal S2048x8 .f32) (ix2 r l) = tail (fun i => ct x4 x5 i ⟨l, by omega⟩) r := by
    have e1 : (fun i => (val_main_v25 (F := Ideal) x4 x5 : FVec Ideal S2048x8 .f32) (ix2 i l)) = fun i => ct x4 x5 i ⟨l, by omega⟩ := by
      funext i
      pointwise [val_main_v1, val_main_v25]
      rfl
    unfold val_main_v39 Host.reduceWindowAdd
    rw [Ideal.hostReduceWindowAdd_def]
    refine (window_tail _ _ _ ?_ r l).trans (congrArg (tail · r) e1)
    pointwise [val_main_call4_call0_v0, val_main_call4_call0_cst]
  pointwise [val_main_v40, val_main_call5_v1, val_main_call5_v0]
  rw [h7, h39, slope_eq, ← one_sub_logis, neg_mul, neg_neg]
  rfl

theorem reference38 (r : Fin 2048) (l : Fin 4) : (val_main_v38 (F := Ideal) x0 x4 x5 : FVec Ideal S2048x4 .f32) (ix2 r l) = db x0 x4 x5 r l := by
  unfold db
  rw [mul_assoc]
  pointwise [val_main_v0, val_main_v3, val_main_v1, val_main_v26, val_main_v9, val_main_v10, val_main_cst, val_main_v11, val_main_v12, val_main_cst_0, val_main_v13, val_main_v14, val_main_cst_1, val_main_v15, val_main_v16, val_main_v17, val_main_v38]
  unfold logis
  rw [zero_sub]
  exact congrArg₂ (· * ·) rfl (congrArg (fun y => Ideal.div 1 (1 + Ideal.exp (-y)) * (1 - Ideal.div 1 (1 + Ideal.exp (-y)))) (congrArg x0 (congrArg (ix2 r) (Fin.ext (by simp only; omega)))))

theorem reference22 (r : Fin 2048) (l : Fin 4) : (val_main_v22_0 (F := Ideal) x0 x3 : FVec Ideal S2048x4 .f32) (ix2 r l) = soft (za x0 x3 r l) := by
  pointwise [val_main_v0, val_main_v4, val_main_v18, val_main_v19, val_main_v20, val_main_v21, val_main_call2_cst, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_v22_0]
  simp only [ne_eq, not_true_eq_false, if_false, absf_eq, soft_host]
  exact congrArg (fun y => soft (y + x3 (ix2 0 l))) (congrArg x0 (congrArg (ix2 r) (Fin.ext (by simp only; omega))))

theorem reference33 (r : Fin 2048) (l : Fin 4) : (val_main_v33 (F := Ideal) x0 x2 x3 x4 x5 : FVec Ideal S2048x4 .f32) (ix2 r l) = da x0 x2 x3 x4 x5 r l := by
  have h : (val_main_v22_1 (F := Ideal) x0 x3 : FVec Ideal S2048x4 .f32) (ix2 r l) = logis (za x0 x3 r l) := by
    rw [← slope_eq]
    unfold slope
    rw [← reference22]
    pointwise [val_main_v0, val_main_v4, val_main_v18, val_main_v19, val_main_v20, val_main_v21, val_main_call2_cst_0, val_main_call2_v13, val_main_call2_v14, val_main_call2_cst_1, val_main_call2_v15, val_main_call2_v16, val_main_call2_cst_2, val_main_call2_v17, val_main_call2_v18, val_main_call2_cst_3, val_main_call2_v19, val_main_call2_v20, val_main_call2_v21, val_main_v22_1]
    simp only [inf_eq]
    rw [show za x0 x3 r l = x0 (ix2 r ⟨3584 + (12 + l), by omega⟩) + x3 (ix2 0 l) from
      congrArg (· + x3 (ix2 0 l)) (congrArg x0 (congrArg (ix2 r) (Fin.ext (by simp only; omega))))]
  pointwise [val_main_v33, h, val_main_v29, val_main_v28, val_main_v27, val_main_v1, val_main_v19, val_main_v18]
  unfold da
  rw [mul_comm (ct x4 x5 r _)]
  rfl

theorem reference51 (hx : ∀ r (l : Fin 4), ∃ y : ℝ, x0 (ix2 r ⟨3596 + l, by omega⟩) = (y : EReal)) (h2 : ∀ l, ∃ y : ℝ, x2 (ix2 0 l) = (y : EReal))
    (h3 : ∀ l, ∃ y : ℝ, x3 (ix2 0 l) = (y : EReal)) (h4 : ∀ r (l : Fin 4), ∃ y : ℝ, x4 (ix2 r ⟨12 + l, by omega⟩) = (y : EReal))
    (h5 : ∀ r (l : Fin 4), ∃ y : ℝ, x5 (ix2 r ⟨12 + l, by omega⟩) = (y : EReal)) (l : Fin 4) :
    (val_main_v37 (F := Ideal) x0 x2 x3 x4 x5 : FVec Ideal S1x4 .f32) (ix2 0 l) = ∑ r, dlog x0 x2 x3 x4 x5 r l := by
  pointwise [val_main_v37, val_main_v36, val_main_v32, val_main_v31, val_main_v30, val_main_cst_2, reference22, val_main_v27, val_main_v1, val_main_v18]
  choose X hX using fun r => hx r l
  obtain ⟨a, ha⟩ := h2 l
  obtain ⟨b, hb⟩ := h3 l
  choose G hG using fun r => h4 r l
  choose D hD using fun r => h5 r l
  unfold dlog gs ct za
  simp only [hX, ha, hb, hG, hD, Ideal.exp_coe, ← EReal.coe_add, soft_coe, ← EReal.coe_neg, ← EReal.coe_mul, sum_coe]
  congr 1
  rw [← Finset.sum_neg_distrib, Finset.sum_mul]
  exact Finset.sum_congr rfl fun r _ => by ring

/-- The gradient of the projection, with the gates' columns put in their place. -/
theorem reference55 (r : Fin 2048) (k : Fin 3840) : (val_main_v55 (F := Ideal) x0 x1 x2 x3 x4 x5 x6 : FVec Ideal S2048x3840 .bf16) (ix2 r k)
    = if (k : ℕ) < 3584 then x6 (ix2 r k) else ds x0 x1 x2 x3 x4 x5 r (k - 3584) := by
  pointwise [val_main_v55, val_main_v54, val_main_v45, val_main_v44, val_main_v43, val_main_cst_5, reference40, reference38, reference33]
  rfl

/-- The sums over the rows: the forget gates' biases, the decays' biases and the decays' logarithms. -/
def sums (i l : ℕ) : EReal :=
  if i < 1 then (if h : l < 8 then ∑ r, df x0 x1 x4 x5 r ⟨l, h⟩ else 0)
  else if i - 1 < 1 then (if h : l < 4 then ∑ r, da x0 x2 x3 x4 x5 r ⟨l, h⟩ else 0)
  else if i - 1 - 1 < 1 then (if h : l < 4 then ∑ r, dlog x0 x2 x3 x4 x5 r ⟨l, h⟩ else 0) else 0

theorem reference53 (hx : ∀ r (l : Fin 4), ∃ y : ℝ, x0 (ix2 r ⟨3596 + l, by omega⟩) = (y : EReal)) (h2 : ∀ l, ∃ y : ℝ, x2 (ix2 0 l) = (y : EReal))
    (h3 : ∀ l, ∃ y : ℝ, x3 (ix2 0 l) = (y : EReal)) (h4 : ∀ r (l : Fin 4), ∃ y : ℝ, x4 (ix2 r ⟨12 + l, by omega⟩) = (y : EReal))
    (h5 : ∀ r (l : Fin 4), ∃ y : ℝ, x5 (ix2 r ⟨12 + l, by omega⟩) = (y : EReal)) (i : Fin 8) (l : Fin 128) :
    (val_main_v53 (F := Ideal) x0 x1 x2 x3 x4 x5 : FVec Ideal S8x128 .f32) (ix2 i l) = sums x0 x1 x2 x3 x4 x5 i l := by
  pointwise [val_main_v53, val_main_v52, val_main_cst_9, val_main_v51, val_main_v50, val_main_cst_8, val_main_v49, val_main_v48, val_main_cst_7, val_main_v47, val_main_v46, val_main_cst_6,
    val_main_v42, val_main_v41, val_main_cst_4, val_main_v35, val_main_v34, val_main_cst_3, reference40, reference33]
  have e : ∀ (q : Fin 1) (j : Fin 4), (val_main_v37 (F := Ideal) x0 x2 x3 x4 x5 : FVec Ideal S1x4 .f32) (ix2 q j) = ∑ r, dlog x0 x2 x3 x4 x5 r j := fun q j => by
    obtain rfl : q = 0 := Subsingleton.elim _ _
    exact reference51 x0 x2 x3 x4 x5 hx h2 h3 h4 h5 j
  simp only [e]
  rfl

end Cert.Gates

end
-- ==== Proof.Products.Gates.lean ====
/- The backward of the gates: the kernel's four blocks of rows, walked from the last to the first, against the host's. -/
module

public import proofs.«01_k».proof.Defs
public import proofs.«01_k».proof.Proof.Products.GateRef
public import proofs.«01_k».proof.Proof.Gen.Kernel16Ideal.Value
public import proofs.«01_k».proof.Proof.Gen.Reference16Ideal
public import proofs.«01_k».proof.Proof.Gen.Reference16Ideal.Run
public import proofs.«01_k».proof.Proof.Gen.Pre_finite16
public import Idealize.ShloMosaic.Adequacy
public import Idealize.ShloMosaic.Init
public import Idealize.ShloMosaic.Lib.WritesUnit
public import Idealize.ShloMosaic.Lib.Pipeline.ReadBack

@[expose] public section

set_option maxRecDepth 16384

noncomputable section

namespace Cert.Gates

open Idealize.ShloMosaic Idealize.ShloMosaic.TcCoe Idealize.SL.Sem
open Idealize.ShloMosaic.Pipeline (Dat)
open Cert.Reals Cert.Kernel16Ideal Cert.Kernel16Ideal.Gen

/-! ## The body -/

theorem mask13 (i : Fin 512) (l : Fin 128) : k0_pay13 (ix2 i l) = BitVec.ofBool (decide ((l : ℕ) < 8)) := by
  pointwise [k0_pay13]
  revert l; decide +kernel

theorem mask14 (i : Fin 512) (l : Fin 128) : k0_pay14 (ix2 i l) = BitVec.ofBool (decide (12 ≤ (l : ℕ) ∧ (l : ℕ) < 16)) := by
  pointwise [k0_pay14]
  revert l; decide +kernel

theorem maskMid (l : Fin 128) : IntOp.andi (IntOp.cmpi .sge (BitVec.ofNat 32 (l : ℕ)) 8#32) (IntOp.cmpi .slt (BitVec.ofNat 32 (l : ℕ)) 12#32)
    = BitVec.ofBool (decide (8 ≤ (l : ℕ) ∧ (l : ℕ) < 12)) := by
  revert l; decide +kernel

section Body

variable (s : FVec Ideal S512x128 .f32) (b a : FVec Ideal S1x128 .f32) (g d : FVec Ideal S512x128 .f32) (w : FVec Ideal S1x128 .f32)

/-- A block's lane: the argument of its gate, its decay's factor, and what came to it from the rows from its own on. -/
def bz (i : Fin 512) (l : Fin 128) : EReal := s (ix2 i l) + b (ix2 0 l)
def bs (l : Fin 128) : EReal := -Ideal.exp (a (ix2 0 l))
def bt (i : Fin 512) (l : Fin 128) : EReal := (∑ q : Fin 512, (if i ≤ q then (1 : EReal) else 0) * (g (ix2 q l) + d (ix2 q l))) + w (ix2 0 l)

/-- The block's gradient. -/
def bd (i : Fin 512) (l : Fin 128) : EReal :=
  if (l : ℕ) < 8 then bt g d w i l * (1 - logis (bz s b i l))
  else if 8 ≤ (l : ℕ) ∧ (l : ℕ) < 12 then (g (ix2 i l) + d (ix2 i l)) * logis (bz s b i l) * (1 - logis (bz s b i l))
  else if 12 ≤ (l : ℕ) ∧ (l : ℕ) < 16 then (g (ix2 i l) + d (ix2 i l)) * bs a l * logis (bz s b i l) else 0

theorem sge_eq (x i : Fin 512) : IntOp.cmpi .sge (BitVec.ofNat 32 (x : ℕ)) (BitVec.ofNat 32 (i : ℕ)) = BitVec.ofBool (decide (i ≤ x)) := by
  have hx : (BitVec.ofNat 32 (x : ℕ)).toNat = x := by rw [BitVec.toNat_ofNat]; omega
  have hi : (BitVec.ofNat 32 (i : ℕ)).toNat = i := by rw [BitVec.toNat_ofNat]; omega
  rw [WordCmp.cmpi_sge_of_lt (by rw [hx]; omega) (by rw [hi]; omega), hx, hi]
  exact congrArg BitVec.ofBool (decide_eq_decide.2 Fin.le_def.symm)

/-- The triangle of ones. -/
theorem ones (x i : Fin 512) : (FloatOps.sitofp (F := Ideal) .f32 (BitVec.setWidth 32 (IntOp.cmpi .sge (BitVec.ofNat 32 (x : ℕ)) (BitVec.ofNat 32 (i : ℕ)))) : EReal)
    = if i ≤ x then 1 else 0 := by
  rw [sge_eq]
  by_cases h : i ≤ x
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

theorem pay9 (i : Fin 512) (l : Fin 128) : (k0_pay9 g d w : FVec Ideal S512x128 .f32) (ix2 i l) = bt g d w i l := by
  pointwise [k0_pay9, k0_pay8]
  simp only [ones]
  rfl

theorem pay10 (l : Fin 128) : (k0_pay10 g d w : FVec Ideal S1x128 .f32) (ix2 0 l) = bt g d w 0 l := by
  pointwise [k0_pay10, pay9]

theorem pay15 (i : Fin 512) (l : Fin 128) :
    (k0_pay15 (k0_pay8 g d) (k0_pay9 g d w) (k0_pay11 s b) (k0_pay12 a) : FVec Ideal S512x128 .f32) (ix2 i l) = bd s b a g d w i l := by
  pointwise [k0_pay15, pay9, k0_pay11, k0_pay12, k0_pay8, k0_pay7, mask13, mask14, maskMid]
  rw [zero_sub (Ideal.exp (a (ix2 0 l)))]
  rfl

theorem pay16 (i : Fin 512) (l : Fin 128) :
    (k0_pay16 (k0_pay8 g d) (k0_pay9 g d w) (k0_pay11 s b) (k0_pay12 a) : FVec Ideal S512x128 .bf16) (ix2 i l) = bd s b a g d w i l := by
  rw [← pay15]
  pointwise [k0_pay16]

theorem pay17 (i : Fin 512) (l : Fin 128) : (k0_pay17 (F := Ideal) : FVec Ideal S512x128 .bf16) (ix2 i l) = 0 := by
  pointwise [k0_pay17]

theorem roll (v : FVec Ideal S1x128 .f32) (l : Fin 128) :
    (dynamicRotate 1 116#32 none v rotates_S1x128_d1 : FVec Ideal S1x128 .f32) (ix2 0 l) = v (ix2 0 ⟨(l + 12) % 128, by omega⟩) := by
  pointwise
  refine congrArg v (congrArg (ix2 0) (Fin.ext ?_))
  simp

/-- Rolled by twelve lanes, four lanes come to the front and the others bring nothing. -/
theorem roll_if (f : Fin 128 → EReal) (l : Fin 128) :
    (if 12 ≤ (l + 12 : ℕ) % 128 ∧ (l + 12 : ℕ) % 128 < 16 then f ⟨(l + 12) % 128, by omega⟩ else 0) = if h : (l : ℕ) < 4 then f ⟨12 + l, by omega⟩ else 0 := by
  by_cases h : (l : ℕ) < 4
  · rw [dif_pos h, if_pos (by omega)]
    exact congrArg f (Fin.ext (by simp only; omega))
  · rw [dif_neg h, if_neg (by omega)]

theorem pay5 (l : Fin 128) : (k0_pay5 (F := Ideal) : FVec Ideal S1x128 .f32) (ix2 0 l) = 0 := by
  pointwise [k0_pay5]

theorem pay6 (i : Fin 8) (l : Fin 128) : (k0_pay6 (F := Ideal) : FVec Ideal S8x128 .f32) (ix2 i l) = 0 := by
  pointwise [k0_pay6]

variable (o : FVec Ideal S1x128 .f32)

theorem pay2 (l : Fin 128) :
    (k0_pay2 k0_pay13 (k0_pay15 (k0_pay8 g d) (k0_pay9 g d w) (k0_pay11 s b) (k0_pay12 a)) o : FVec Ideal S1x128 .f32) (ix2 0 l)
      = o (ix2 0 l) + if (l : ℕ) < 8 then ∑ i, bd s b a g d w i l else 0 := by
  pointwise [k0_pay2, k0_pay1, pay15, mask13]

theorem pay3 (l : Fin 128) :
    (k0_pay3 k0_pay14 (k0_pay15 (k0_pay8 g d) (k0_pay9 g d w) (k0_pay11 s b) (k0_pay12 a)) o : FVec Ideal S1x128 .f32) (ix2 0 l)
      = o (ix2 0 l) + if h : (l : ℕ) < 4 then ∑ i, bd s b a g d w i ⟨12 + l, by omega⟩ else 0 := by
  unfold k0_pay3
  change (_ : EReal) + (dynamicRotate 1 116#32 none _ rotates_S1x128_d1 : FVec Ideal S1x128 .f32) (ix2 0 l) = _
  rw [roll, ← roll_if fun j => ∑ i, bd s b a g d w i j]
  pointwise [k0_pay1, pay15, mask14]

theorem pay4 (l : Fin 128) :
    (k0_pay4 k0_pay14 (k0_pay18 (k0_pay8 g d) (k0_pay12 a)) (k0_pay19 (k0_pay7 s b)) (k0_pay20 (k0_pay7 s b)) o : FVec Ideal S1x128 .f32) (ix2 0 l)
      = o (ix2 0 l) + if h : (l : ℕ) < 4 then ∑ i, (g (ix2 i ⟨12 + l, by omega⟩) + d (ix2 i ⟨12 + l, by omega⟩)) * bs a ⟨12 + l, by omega⟩ * soft (bz s b i ⟨12 + l, by omega⟩) else 0 := by
  unfold k0_pay4
  change (_ : EReal) + (dynamicRotate 1 116#32 none _ rotates_S1x128_d1 : FVec Ideal S1x128 .f32) (ix2 0 l) = _
  rw [roll, ← roll_if fun j => ∑ i, (g (ix2 i j) + d (ix2 i j)) * bs a j * soft (bz s b i j)]
  pointwise [k0_pay18, k0_pay19, k0_pay20, k0_pay12, k0_pay8, k0_pay7, mask14]
  refine congrArg (_ + ·) ?_
  split
  · simp only [zero_sub (Ideal.exp _)]; rfl
  · exact Finset.sum_const_zero

end Body

/-! ## The blocks -/

variable (m : (ℓ : Loc nD τ sig) → Buf (Elt Ideal) ℓ) (c : Dev nD)

theorem idx : ∀ t : Fin cfg0.N, (win0_0.index t = ![3 - t.val, 28] ∧ win0_1.index t = ![0, 0] ∧ win0_2.index t = ![0, 0] ∧ win0_3.index t = ![3 - t.val, 0] ∧ win0_4.index t = ![3 - t.val, 0])
    ∧ win0_5.index t = ![3 - t.val, 14] ∧ win0_6.index t = ![0, 0] ∧ t.val < 4 :=
  (by decide +kernel : ∀ t : Fin grid0.N, _)

/-- The arguments on a device. -/
abbrev a0 : FVec Ideal S2048x3840 .f32 := m ((c : Thread nD τ).loc main_arg0)
abbrev a1 : FVec Ideal S1x8 .f32 := m ((c : Thread nD τ).loc main_arg1)
abbrev a2 : FVec Ideal S1x4 .f32 := m ((c : Thread nD τ).loc main_arg2)
abbrev a3 : FVec Ideal S1x4 .f32 := m ((c : Thread nD τ).loc main_arg3)
abbrev a4 : FVec Ideal S2048x128 .f32 := m ((c : Thread nD τ).loc main_arg4)
abbrev a5 : FVec Ideal S2048x128 .f32 := m ((c : Thread nD τ).loc main_arg5)
abbrev a6 : FVec Ideal S2048x3840 .bf16 := m ((c : Thread nD τ).loc main_arg6)

/-- The row of biases made on the host. -/
theorem entry_bias (l : Fin 128) : (V m c main_v2 : FVec Ideal S1x128 .f32) (ix2 0 l)
    = if h : (l : ℕ) < 8 then a1 m c (ix2 0 ⟨l, h⟩) else if (l : ℕ) - 8 < 4 then 0 else if h : (l : ℕ) - 8 - 4 < 4 then a3 m c (ix2 0 ⟨l - 8 - 4, h⟩) else 0 := by
  unfold V; after_results
  change concatenate S1x128 1 [⟨S1x8, a1 m c⟩, ⟨S1x4, (broadcastInDim S1x4 ![] bcast_S_S1x4 (constant S_ .f32 0x00000000#32) : FVec Ideal S1x4 .f32)⟩, ⟨S1x4, a3 m c⟩, ⟨S1x112, (broadcastInDim S1x112 ![] bcast_S_S1x112 (constant S_ .f32 0x00000000#32) : FVec Ideal S1x112 .f32)⟩] _ (ix2 0 l) = _
  pointwise
  simp only [dite_eq_ite]

/-- The row of the decays' logarithms made on the host. -/
theorem entry_log (l : Fin 128) : (V m c main_v5 : FVec Ideal S1x128 .f32) (ix2 0 l)
    = if (l : ℕ) < 12 then 0 else if h : (l : ℕ) - 12 < 4 then a2 m c (ix2 0 ⟨l - 12, h⟩) else 0 := by
  unfold V; after_results
  change concatenate S1x128 1 [⟨S1x12, (broadcastInDim S1x12 ![] bcast_S_S1x12 (constant S_ .f32 0x00000000#32) : FVec Ideal S1x12 .f32)⟩, ⟨S1x4, a2 m c⟩, ⟨S1x112, (broadcastInDim S1x112 ![] bcast_S_S1x112 (constant S_ .f32 0x00000000#32) : FVec Ideal S1x112 .f32)⟩] _ (ix2 0 l) = _
  pointwise
  simp only [dite_eq_ite]

theorem exists_mid (l : Fin 128) (h0 : ¬(l : ℕ) < 8) (h1 : (l : ℕ) - 8 < 4) : ∃ j : Fin 4, l = ⟨8 + j, Nat.lt_of_lt_of_le (Nat.add_lt_add_left j.isLt 8) (by decide)⟩ :=
  ⟨⟨l - 8, h1⟩, Fin.ext (by simp only; omega)⟩

theorem exists_last (l : Fin 128) (h1 : ¬(l : ℕ) - 8 < 4) (h2 : (l : ℕ) - 8 - 4 < 4) : ∃ j : Fin 4, l = ⟨12 + j, Nat.lt_of_lt_of_le (Nat.add_lt_add_left j.isLt 12) (by decide)⟩ :=
  ⟨⟨l - 8 - 4, h2⟩, Fin.ext (by simp only; omega)⟩

section Points

variable (t : Fin cfg0.N) (ht : t.val < 4) (i : Fin 512)

theorem blk0 (l : Fin 128) : (show FVec Ideal S512x128 .f32 from iblk m c 0 t) (ix2 i l) = a0 m c (ix2 ⟨512 * (3 - t.val) + i, by omega⟩ ⟨3584 + l, by omega⟩) := by
  blk_ext [iblk, V, (idx t).1.1]

theorem blk1 (l : Fin 128) : (show FVec Ideal S1x128 .f32 from iblk m c 1 t) (ix2 0 l) = (V m c main_v2 : FVec Ideal S1x128 .f32) (ix2 0 l) := by
  blk_ext [iblk, (idx t).1.2.1]

theorem blk2 (l : Fin 128) : (show FVec Ideal S1x128 .f32 from iblk m c 2 t) (ix2 0 l) = (V m c main_v5 : FVec Ideal S1x128 .f32) (ix2 0 l) := by
  blk_ext [iblk, (idx t).1.2.2.1]

theorem blk34 (l : Fin 128) : (show FVec Ideal S512x128 .f32 from iblk m c 3 t) (ix2 i l) + (show FVec Ideal S512x128 .f32 from iblk m c 4 t) (ix2 i l)
    = ct (a4 m c) (a5 m c) ⟨512 * (3 - t.val) + i, by omega⟩ l := by
  refine congrArg₂ (· + ·) (x' := a4 m c (ix2 ⟨512 * (3 - t.val) + i, by omega⟩ l)) (y' := a5 m c (ix2 ⟨512 * (3 - t.val) + i, by omega⟩ l)) ?_ ?_
  · blk_ext [iblk, V, (idx t).1.2.2.2.1]
  · blk_ext [iblk, V, (idx t).1.2.2.2.2]

/-- A block's arguments, factors and gradients are the whole arrays'. -/
theorem bz_f (l : Fin 8) : bz (iblk m c 0 t) (iblk m c 1 t) i ⟨l, by omega⟩ = zf (a0 m c) (a1 m c) ⟨512 * (3 - t.val) + i, by omega⟩ l := by
  unfold bz zf
  refine congrArg₂ (· + ·) (blk0 m c t ht i _) ((blk1 m c t _).trans ((entry_bias m c _).trans ?_))
  rw [dif_pos l.isLt]

theorem bz_b (l : Fin 4) : bz (iblk m c 0 t) (iblk m c 1 t) i ⟨8 + l, by omega⟩ = zb (a0 m c) ⟨512 * (3 - t.val) + i, by omega⟩ l := by
  unfold bz zb
  refine (congrArg₂ (· + ·) (blk0 m c t ht i _) ((blk1 m c t _).trans ((entry_bias m c _).trans ?_))).trans ((add_zero _).trans ?_)
  · rw [dif_neg (by simp), if_pos (by simp)]
  · exact congrArg (a0 m c) (congrArg (ix2 _) (Fin.ext (by simp only; omega)))

theorem bz_a (l : Fin 4) : bz (iblk m c 0 t) (iblk m c 1 t) i ⟨12 + l, by omega⟩ = za (a0 m c) (a3 m c) ⟨512 * (3 - t.val) + i, by omega⟩ l := by
  unfold bz za
  refine congrArg₂ (· + ·) ((blk0 m c t ht i _).trans ?_) ((blk1 m c t _).trans ((entry_bias m c _).trans ?_))
  · exact congrArg (a0 m c) (congrArg (ix2 _) (Fin.ext (by simp only; omega)))
  · rw [dif_neg (by simp only; omega), if_neg (by simp only; omega), dif_pos (by simp only; omega)]
    exact congrArg (a3 m c) (congrArg (ix2 0) (Fin.ext (by simp only; omega)))

theorem bs_a (l : Fin 4) : bs (iblk m c 2 t) ⟨12 + l, by omega⟩ = gs (a2 m c) l := by
  unfold bs gs
  refine congrArg (fun y => -Ideal.exp y) ((blk2 m c t _).trans ((entry_log m c _).trans ?_))
  rw [if_neg (by simp), dif_pos (by simp)]
  exact congrArg (a2 m c) (congrArg (ix2 0) (Fin.ext (by simp)))

include ht in
theorem bt_tail (w : FVec Ideal S1x128 .f32) (l : Fin 128) (hw : w (ix2 0 l) = tail (fun r => ct (a4 m c) (a5 m c) r l) (512 * (3 - t.val + 1))) :
    bt (iblk m c 3 t) (iblk m c 4 t) w i l = tail (fun r => ct (a4 m c) (a5 m c) r l) (512 * (3 - t.val) + i) := by
  unfold bt
  rw [hw]
  refine Eq.trans ?_ (tail_block (fun r => ct (a4 m c) (a5 m c) r l) ⟨3 - t.val, by omega⟩ i)
  exact congrArg (· + _) (Finset.sum_congr rfl fun q _ => congrArg (_ * ·) (blk34 m c t ht q l))

/-- A block's gradient is the whole array's, over the sum of the later blocks. -/
theorem bd_eq (w : FVec Ideal S1x128 .f32) (hw : ∀ l, w (ix2 0 l) = tail (fun r => ct (a4 m c) (a5 m c) r l) (512 * (3 - t.val + 1))) (l : Fin 128) :
    bd (iblk m c 0 t) (iblk m c 1 t) (iblk m c 2 t) (iblk m c 3 t) (iblk m c 4 t) w i l
      = ds (a0 m c) (a1 m c) (a2 m c) (a3 m c) (a4 m c) (a5 m c) ⟨512 * (3 - t.val) + i, by omega⟩ l := by
  unfold bd ds
  by_cases h0 : (l : ℕ) < 8
  · rw [if_pos h0, dif_pos h0]
    unfold df
    rw [← bz_f m c t ht i ⟨l, h0⟩, bt_tail m c t ht i w l (hw l)]
  rw [if_neg h0, dif_neg h0]
  by_cases h1 : (l : ℕ) - 8 < 4
  · rw [if_pos (by omega), dif_pos h1]
    obtain ⟨j, rfl⟩ := exists_mid l h0 h1
    rw [show (⟨((⟨8 + (j : ℕ), by omega⟩ : Fin 128) : ℕ) - 8, h1⟩ : Fin 4) = j from Fin.ext (by simp)]
    unfold db
    rw [← bz_b m c t ht i j, ← blk34 m c t ht i]
  rw [if_neg (by omega), dif_neg h1]
  by_cases h2 : (l : ℕ) - 8 - 4 < 4
  · rw [if_pos (by omega), dif_pos h2]
    obtain ⟨j, rfl⟩ := exists_last l h1 h2
    rw [show (⟨((⟨12 + (j : ℕ), by omega⟩ : Fin 128) : ℕ) - 8 - 4, h2⟩ : Fin 4) = j from Fin.ext (by simp only; omega)]
    unfold da
    rw [← bz_a m c t ht i j, ← blk34 m c t ht i, ← bs_a m c t j]
  · rw [if_neg (by omega), dif_neg h2]

theorem dlog_eq (l : Fin 4) :
    ((show FVec Ideal S512x128 .f32 from iblk m c 3 t) (ix2 i ⟨12 + l, by omega⟩) + (show FVec Ideal S512x128 .f32 from iblk m c 4 t) (ix2 i ⟨12 + l, by omega⟩))
      * bs (iblk m c 2 t) ⟨12 + l, by omega⟩ * soft (bz (iblk m c 0 t) (iblk m c 1 t) i ⟨12 + l, by omega⟩)
      = dlog (a0 m c) (a2 m c) (a3 m c) (a4 m c) (a5 m c) ⟨512 * (3 - t.val) + i, by omega⟩ l := by
  unfold dlog
  rw [← bz_a m c t ht i l, ← blk34 m c t ht i, ← bs_a m c t l]

end Points

/-- The later blocks' sum, carried from point to point. -/
theorem carry (l : Fin 128) : ∀ (n : ℕ) (hn : n < 4) (h : n < cfg0.N),
    (show FVec Ideal S1x128 .f32 from (outsAt0 m c n h).2.2) (ix2 0 l) = tail (fun r => ct (a4 m c) (a5 m c) r l) (512 * (3 - n))
  | 0, hn, h => by
    have hA := outsAt0_A m c ⟨0, h⟩ (by show 0 % 4 = 0; omega)
    dsimp only at hA
    rw [hA]; frame_out
    refine (pay10 _ _ _ l).trans ((bt_tail m c ⟨0, h⟩ hn 0 _ l ?_).trans (congrArg (tail _) (by simp)))
    exact (pay5 l).trans (tail_end _).symm
  | n + 1, hn, h => by
    have hB := outsAt0_B m c ⟨n + 1, h⟩ (by show ¬(n + 1) % 4 = 0; omega)
    dsimp only at hB
    rw [hB]; frame_out
    refine (pay10 _ _ _ l).trans ((bt_tail m c ⟨n + 1, h⟩ hn 0 _ l ?_).trans (congrArg (tail _) (by simp)))
    refine (congrFun (Memref.IsWhole.read_unread (Memref.isWhole_whole cc0_scratch0) _) (ix2 0 l)).trans ?_
    refine (carry l n (by omega) (by omega)).trans (congrArg (tail _) ?_)
    simp only; omega

theorem exists_tile (y : S512x256.Idx) : ∃ (i : Fin 512) (k : Fin 256), y = ix2 i k := ⟨y 0, y 1, by funext a; fin_cases a <;> rfl⟩

theorem ds_end (r : Fin 2048) (l : ℕ) (h : 16 ≤ l) : ds (a0 m c) (a1 m c) (a2 m c) (a3 m c) (a4 m c) (a5 m c) r l = 0 := by
  unfold ds
  rw [dif_neg (by omega), dif_neg (by omega), dif_neg (by omega)]

/-- A point's block of the projection's gradient. -/
theorem point5 (t : Fin cfg0.N) (ht : t.val < 4) (i : Fin 512) (k : Fin 256) :
    (show FVec Ideal S512x256 .bf16 from (outsAt0 m c t.val t.isLt).1) (ix2 i k)
      = ds (a0 m c) (a1 m c) (a2 m c) (a3 m c) (a4 m c) (a5 m c) ⟨512 * (3 - t.val) + i, by omega⟩ k := by
  by_cases h : t.val = 0
  · rw [outsAt0_A m c t (by omega)]; frame_out
    canon_tiles x hx
    case piece0 =>
      have hk : (k : ℕ) = 128 + (x 1 : Fin 128) := hx1
      have e : x = ix2 i (x 1) := by funext a; fin_cases a <;> [exact Fin.ext hx0.symm; rfl]
      rw [e, ds_end m c _ _ (by omega)]
      exact pay17 _ _
    case piece1 =>
      have hk : (k : ℕ) < 128 := by simp_all
      have e : x = ix2 i ⟨k, hk⟩ := by funext a; fin_cases a <;> apply Fin.ext <;> simp_all
      rw [e]
      refine (pay16 _ _ _ _ _ _ i ⟨k, hk⟩).trans (bd_eq m c t ht i _ (fun l => ?_) ⟨k, hk⟩)
      refine (pay5 l).trans ((tail_end _).symm.trans (congrArg (tail _) ?_))
      rw [h]
  · rw [outsAt0_B m c t (by omega)]; frame_out
    canon_tiles x hx
    case piece0 =>
      have hk : (k : ℕ) = 128 + (x 1 : Fin 128) := hx1
      have e : x = ix2 i (x 1) := by funext a; fin_cases a <;> [exact Fin.ext hx0.symm; rfl]
      rw [e, ds_end m c _ _ (by omega)]
      exact pay17 _ _
    case piece1 =>
      have hk : (k : ℕ) < 128 := by simp_all
      have e : x = ix2 i ⟨k, hk⟩ := by funext a; fin_cases a <;> apply Fin.ext <;> simp_all
      rw [e]
      refine (pay16 _ _ _ _ _ _ i ⟨k, hk⟩).trans (bd_eq m c t ht i _ (fun l => ?_) ⟨k, hk⟩)
      refine (congrFun (Memref.IsWhole.read_unread (Memref.isWhole_whole cc0_scratch0) _) (ix2 0 l)).trans ?_
      exact (carry m c l (t.val - 1) (by omega) (by omega)).trans (congrArg (tail _) (by omega))

/-- One row of the projection in the three running sums: the forget gates' biases, the decays' biases, the decays' logarithms. -/
def rp (r : Fin 2048) (i l : ℕ) : EReal :=
  if i < 1 then (if h : l < 8 then df (a0 m c) (a1 m c) (a4 m c) (a5 m c) r ⟨l, h⟩ else 0)
  else if i - 1 < 1 then (if h : l < 4 then da (a0 m c) (a2 m c) (a3 m c) (a4 m c) (a5 m c) r ⟨l, h⟩ else 0)
  else if i - 1 - 1 < 1 then (if h : l < 4 then dlog (a0 m c) (a2 m c) (a3 m c) (a4 m c) (a5 m c) r ⟨l, h⟩ else 0) else 0

theorem sums_eq (i l : ℕ) : sums (a0 m c) (a1 m c) (a2 m c) (a3 m c) (a4 m c) (a5 m c) i l = ∑ r, rp m c r i l := by
  unfold sums rp
  split_ifs <;> simp only [Finset.sum_const_zero]

section Rows

variable (t : Fin cfg0.N) (ht : t.val < 4) (w o : FVec Ideal S1x128 .f32)
  (hw : ∀ l, w (ix2 0 l) = tail (fun r => ct (a4 m c) (a5 m c) r l) (512 * (3 - t.val + 1))) (l : Fin 128)
include hw

theorem row0 : (k0_pay2 k0_pay13 (k0_pay15 (k0_pay8 (iblk m c 3 t) (iblk m c 4 t)) (k0_pay9 (iblk m c 3 t) (iblk m c 4 t) w)
      (k0_pay11 (iblk m c 0 t) (iblk m c 1 t)) (k0_pay12 (iblk m c 2 t))) o : FVec Ideal S1x128 .f32) (ix2 0 l)
    = o (ix2 0 l) + ∑ q : Fin 512, rp m c ⟨512 * (3 - t.val) + q, by omega⟩ 0 l := by
  refine (pay2 _ _ _ _ _ _ _ l).trans (congrArg (_ + ·) ?_)
  unfold rp
  simp only [Nat.lt_one_iff, if_true]
  by_cases h : (l : ℕ) < 8
  · rw [if_pos h]
    refine Finset.sum_congr rfl fun q _ => (bd_eq m c t ht q w hw l).trans ?_
    unfold ds
    rw [dif_pos h, dif_pos h]
  · rw [if_neg h]
    simp only [dif_neg h, Finset.sum_const_zero]

theorem row1 : (k0_pay3 k0_pay14 (k0_pay15 (k0_pay8 (iblk m c 3 t) (iblk m c 4 t)) (k0_pay9 (iblk m c 3 t) (iblk m c 4 t) w)
      (k0_pay11 (iblk m c 0 t) (iblk m c 1 t)) (k0_pay12 (iblk m c 2 t))) o : FVec Ideal S1x128 .f32) (ix2 0 l)
    = o (ix2 0 l) + ∑ q : Fin 512, rp m c ⟨512 * (3 - t.val) + q, by omega⟩ 1 l := by
  refine (pay3 _ _ _ _ _ _ _ l).trans (congrArg (_ + ·) ?_)
  unfold rp
  by_cases h : (l : ℕ) < 4
  · rw [dif_pos h]
    refine Finset.sum_congr rfl fun q _ => (bd_eq m c t ht q w hw _).trans ?_
    unfold ds
    rw [dif_neg (by simp only; omega), dif_neg (by simp only; omega), dif_pos (by simp only; omega), if_neg (by omega), if_pos (by omega), dif_pos h]
    exact congrArg (da _ _ _ _ _ _) (Fin.ext (by simp only; omega))
  · rw [dif_neg h]
    simp [dif_neg h]

omit hw in
theorem row2 : (k0_pay4 k0_pay14 (k0_pay18 (k0_pay8 (iblk m c 3 t) (iblk m c 4 t)) (k0_pay12 (iblk m c 2 t))) (k0_pay19 (k0_pay7 (iblk m c 0 t) (iblk m c 1 t)))
      (k0_pay20 (k0_pay7 (iblk m c 0 t) (iblk m c 1 t))) o : FVec Ideal S1x128 .f32) (ix2 0 l)
    = o (ix2 0 l) + ∑ q : Fin 512, rp m c ⟨512 * (3 - t.val) + q, by omega⟩ 2 l := by
  refine (pay4 _ _ _ _ _ _ l).trans (congrArg (_ + ·) ?_)
  unfold rp
  by_cases h : (l : ℕ) < 4
  · rw [dif_pos h]
    refine Finset.sum_congr rfl fun q _ => (dlog_eq m c t ht q ⟨l, h⟩).trans ?_
    rw [if_neg (by omega), if_neg (by omega), if_pos (by omega), dif_pos h]
  · rw [dif_neg h]
    simp [dif_neg h]

end Rows

theorem rp_out (r : Fin 2048) (i l : ℕ) (h : 3 ≤ i) : rp m c r i l = 0 := by
  unfold rp
  rw [if_neg (by omega), if_neg (by omega), if_neg (by omega)]

theorem pay6_all (y : S8x128.Idx) : (k0_pay6 (F := Ideal) : FVec Ideal S8x128 .f32) y = 0 := by
  rw [show y = ix2 (y 0) (y 1) by funext a; fin_cases a <;> rfl]
  exact pay6 _ _

theorem row_emb (o : ℕ) (i : Fin 8) (k : Fin 128) (inb : ∀ a, (![o, 0] : Fin 2 → ℕ) a + (![1, 128] : Fin 2 → ℕ) a ≤ S8x128.size a) (h : (i : ℕ) = o := by rfl) :
    (Rect.unit (s := S8x128) ![o, 0] ![1, 128] inb).emb (ix2 (0 : Fin 1) k) = ix2 i k := by
  subst h
  funext a; fin_cases a
  · exact Fin.ext (show (i : ℕ) + 1 * 0 = (i : ℕ) by omega)
  · exact Fin.ext (show 0 + 1 * (k : ℕ) = (k : ℕ) by omega)

theorem fill_emb (i : Fin 8) (k : Fin 128) (inb : ∀ a, (![0, 0] : Fin 2 → ℕ) a + (![8, 128] : Fin 2 → ℕ) a ≤ S8x128.size a) :
    (Rect.unit (s := S8x128) ![0, 0] ![8, 128] inb).emb (ix2 i k) = ix2 i k := by
  funext a; fin_cases a
  · exact Fin.ext (show 0 + 1 * (i : ℕ) = (i : ℕ) by omega)
  · exact Fin.ext (show 0 + 1 * (k : ℕ) = (k : ℕ) by omega)

/-- The first point's three running sums. -/
theorem point6A (t : Fin cfg0.N) (ht : t.val = 0) (i : Fin 8) (k : Fin 128) :
    (show FVec Ideal S8x128 .f32 from (outsAt0 m c t.val t.isLt).2.1) (ix2 i k) = ∑ q : Fin 512, rp m c ⟨512 * (3 - t.val) + q, by omega⟩ i k := by
  have hw : ∀ l, (k0_pay5 (F := Ideal) : FVec Ideal S1x128 .f32) (ix2 0 l) = tail (fun r => ct (a4 m c) (a5 m c) r l) (512 * (3 - t.val + 1)) := fun l => by
    refine (pay5 l).trans ((tail_end _).symm.trans (congrArg (tail _) ?_))
    rw [ht]
  rw [outsAt0_A m c t (by omega)]; frame_out
  by_cases h0 : (i : ℕ) = 0
  · obtain rfl : i = 0 := Fin.ext h0
    refine (View.canon_cons_of_not_mem _ _ (by rw [Rect.mem_set_unit]; intro h; have := h 0; simp at this)).trans ?_
    refine (View.canon_cons_of_not_mem _ _ (by rw [Rect.mem_set_unit]; intro h; have := h 0; simp at this)).trans ?_
    refine (congrArg (View.canon _) (row_emb 0 0 k _).symm).trans ((View.canon_cons_emb _ _ _ _).trans ?_)
    refine (row0 m c t (by omega) _ _ hw k).trans ?_
    rw [View.readCov_fill _ _ _ _ _ (by decide)]
    exact (congrArg (· + _) (pay6_all _)).trans (zero_add _)
  by_cases h1 : (i : ℕ) = 1
  · obtain rfl : i = 1 := Fin.ext h1
    refine (View.canon_cons_of_not_mem _ _ (by rw [Rect.mem_set_unit]; intro h; have := h 0; simp at this)).trans ?_
    refine (congrArg (View.canon _) (row_emb 1 1 k _).symm).trans ((View.canon_cons_emb _ _ _ _).trans ?_)
    refine (row1 m c t (by omega) _ _ hw k).trans ?_
    rw [View.readCov_skip _ _ _ _ _ (by decide), View.readCov_fill _ _ _ _ _ (by decide)]
    exact (congrArg (· + _) (pay6_all _)).trans (zero_add _)
  by_cases h2 : (i : ℕ) = 2
  · obtain rfl : i = 2 := Fin.ext h2
    refine (congrArg (View.canon _) (row_emb 2 2 k _).symm).trans ((View.canon_cons_emb _ _ _ _).trans ?_)
    refine (row2 m c t (by omega) _ k).trans ?_
    rw [View.readCov_skip _ _ _ _ _ (by decide), View.readCov_skip _ _ _ _ _ (by decide), View.readCov_fill _ _ _ _ _ (by decide)]
    exact (congrArg (· + _) (pay6_all _)).trans (zero_add _)
  refine (View.canon_cons_of_not_mem _ _ (by rw [Rect.mem_set_unit]; intro h; have := h 0; simp at this; omega)).trans ?_
  refine (View.canon_cons_of_not_mem _ _ (by rw [Rect.mem_set_unit]; intro h; have := h 0; simp at this; omega)).trans ?_
  refine (View.canon_cons_of_not_mem _ _ (by rw [Rect.mem_set_unit]; intro h; have := h 0; simp at this; omega)).trans ?_
  refine (congrArg (View.canon _) (fill_emb i k _).symm).trans ((View.canon_cons_emb _ _ _ _).trans ?_)
  refine (pay6_all _).trans ?_
  simp only [rp_out m c _ _ _ (show 3 ≤ (i : ℕ) by omega), Finset.sum_const_zero]

/-- A later point adds its rows to the three running sums. -/
theorem point6B (t : Fin cfg0.N) (ht : t.val ≠ 0) (h4 : t.val < 4) (i : Fin 8) (k : Fin 128) :
    (show FVec Ideal S8x128 .f32 from (outsAt0 m c t.val t.isLt).2.1) (ix2 i k)
      = (show FVec Ideal S8x128 .f32 from (outsAt0 m c (t.val - 1) (by omega)).2.1) (ix2 i k) + ∑ q : Fin 512, rp m c ⟨512 * (3 - t.val) + q, by omega⟩ i k := by
  have hw : ∀ l, (show FVec Ideal S1x128 .f32 from View.read (Elt Ideal) (View.whole cc0_scratch0)
      ((Memref.isWhole_whole cc0_scratch0).unread (outsAt0 m c (t.val - 1) (by omega)).2.2)) (ix2 0 l)
      = tail (fun r => ct (a4 m c) (a5 m c) r l) (512 * (3 - t.val + 1)) := fun l => by
    refine (congrFun (Memref.IsWhole.read_unread (Memref.isWhole_whole cc0_scratch0) _) (ix2 0 l)).trans ?_
    exact (carry m c l (t.val - 1) (by omega) (by omega)).trans (congrArg (tail _) (by omega))
  rw [outsAt0_B m c t (by omega)]; frame_out
  by_cases h0 : (i : ℕ) = 0
  · obtain rfl : i = 0 := Fin.ext h0
    refine (View.read_writes_cons_rows_of_not_mem (o := 2) (W := 1) _ _ _ _ _ _ rfl rfl (Or.inl (Nat.lt_of_sub_pos (by exact Nat.succ_pos _)))).trans ?_
    refine (View.read_writes_cons_rows_of_not_mem (o := 1) (W := 1) _ _ _ _ _ _ rfl rfl (Or.inl (Nat.lt_of_sub_pos (by exact Nat.succ_pos _)))).trans ?_
    refine Eq.trans (View.read_writes_cons_rows_of_mem (o := 0) _ _ _ _ _ (ix2 0 k) (ix2 (0 : Fin 1) k) rfl rfl rfl) ?_
    refine (row0 m c t h4 _ _ hw k).trans (congrArg (· + _) ?_)
    exact congrArg (outsAt0 m c (t.val - 1) _).2.1 (row_emb _ _ k _)
  by_cases h1 : (i : ℕ) = 1
  · obtain rfl : i = 1 := Fin.ext h1
    refine (View.read_writes_cons_rows_of_not_mem (o := 2) (W := 1) _ _ _ _ _ _ rfl rfl (Or.inl (Nat.lt_of_sub_pos (by exact Nat.succ_pos _)))).trans ?_
    refine Eq.trans (View.read_writes_cons_rows_of_mem (o := 1) _ _ _ _ _ (ix2 1 k) (ix2 (0 : Fin 1) k) rfl rfl rfl) ?_
    refine (row1 m c t h4 _ _ hw k).trans (congrArg (· + _) ?_)
    exact congrArg (outsAt0 m c (t.val - 1) _).2.1 (row_emb _ _ k _)
  by_cases h2 : (i : ℕ) = 2
  · obtain rfl : i = 2 := Fin.ext h2
    refine Eq.trans (View.read_writes_cons_rows_of_mem (o := 2) _ _ _ _ _ (ix2 2 k) (ix2 (0 : Fin 1) k) rfl rfl rfl) ?_
    refine (row2 m c t h4 _ k).trans (congrArg (· + _) ?_)
    exact congrArg (outsAt0 m c (t.val - 1) _).2.1 (row_emb _ _ k _)
  refine (View.read_writes_cons_rows_of_not_mem (o := 2) (W := 1) _ _ _ _ _ _ rfl rfl (Or.inr (show 2 + 1 ≤ (i : ℕ) by omega))).trans ?_
  refine (View.read_writes_cons_rows_of_not_mem (o := 1) (W := 1) _ _ _ _ _ _ rfl rfl (Or.inr (show 1 + 1 ≤ (i : ℕ) by omega))).trans ?_
  refine (View.read_writes_cons_rows_of_not_mem (o := 0) (W := 1) _ _ _ _ _ _ rfl rfl (Or.inr (show 0 + 1 ≤ (i : ℕ) by omega))).trans ?_
  simp only [rp_out m c _ _ _ (show 3 ≤ (i : ℕ) by omega), Finset.sum_const_zero, add_zero]
  exact congrFun (Memref.IsWhole.read_unread _ _) (ix2 i k)

/-! ## The arrays -/

theorem entry : V m c main_v6_0 = a6 m c := by
  unfold V; after_results; try rfl

/-- The projection's gradient: the gates' 256 columns replaced, the others kept. -/
theorem final5 (r : Fin 2048) (k : Fin 3840) :
    (show FVec Ideal S2048x3840 .bf16 from (dats m 0 c).arrAt 5 (cfgs 0).N) (ix2 r k)
      = if (k : ℕ) < 3584 then a6 m c (ix2 r k) else ds (a0 m c) (a1 m c) (a2 m c) (a3 m c) (a4 m c) (a5 m c) r (k - 3584) := by
  have e : (dats m 0 c).arrAt 5 (cfgs 0).N = (show FVec Ideal S2048x3840 .bf16 from
      fun i => if 3584 ≤ (i 1 : ℕ) then ds (a0 m c) (a1 m c) (a2 m c) (a3 m c) (a4 m c) (a5 m c) (i 0) ((i 1 : ℕ) - 3584)
        else (show FVec Ideal S2048x3840 .bf16 from V m c main_v6_0) i) := by
    refine (dats m 0 c).arrAt_eq_of_coversWhere 5 _ (fun β => β 1 = 14) (by decide +kernel) (fun t hf y => ?_)
      (fun j => by have hj : (j 1).val < 3840 := (j 1).isLt; blk_simp [Pipeline.Window.cell_apply]; omega)
    have h := (idx t).2
    blk_simp
    obtain ⟨a, b, rfl⟩ := exists_tile y
    rw [after0_5]
    refine (point5 m c t h.2.2 a b).trans ?_
    have e0 : win0_5.index t 0 = 3 - t.val := by rw [h.1]; rfl
    have e1 : win0_5.index t 1 = 14 := by rw [h.1]; rfl
    simp only [e0, e1, ix2_0, ix2_1]
    congr 1
    · apply Fin.ext; blk_simp [h.1]; exact congrArg (· + _) (mul_comm _ _)
    · omega
  refine (congrFun e (ix2 r k)).trans ?_
  by_cases h : (k : ℕ) < 3584
  · rw [if_pos h]
    exact (if_neg (by exact Nat.not_le.mpr h)).trans (congrFun (entry m c) (ix2 r k))
  · rw [if_neg h]
    exact if_pos (Nat.not_lt.mp h)

/-- The three sums over all the rows. -/
theorem final6 (i : Fin 8) (k : Fin 128) :
    (show FVec Ideal S8x128 .f32 from (dats m 0 c).arrAt 6 (cfgs 0).N) (ix2 i k)
      = sums (a0 m c) (a1 m c) (a2 m c) (a3 m c) (a4 m c) (a5 m c) i k := by
  have e : (dats m 0 c).arrAt 6 (cfgs 0).N = (show FVec Ideal S8x128 .f32 from
      fun y => sums (a0 m c) (a1 m c) (a2 m c) (a3 m c) (a4 m c) (a5 m c) (y 0) (y 1)) := by
    refine (dats m 0 c).arrAt_eq_of_after_last 6 t0_3 (by decide +kernel) _ fun y => ?_
    blk_simp
    obtain ⟨i, k, rfl⟩ : ∃ (i : Fin 8) (k : Fin 128), y = ix2 i k := ⟨y 0, y 1, by funext a; fin_cases a <;> rfl⟩
    rw [after0_6, Pipeline.eq_sum_fin_of_reset_step_apply_last (fun n h => (outsAt0 m c n h).2.1) 4 (fun _ => 0)
      (fun p y => ∑ q : Fin 512, rp m c ⟨512 * (3 - p.val) + q, by omega⟩ (y 0) (y 1))
      (fun t h j => by
        have := (idx t).2.2.2
        obtain ⟨i, k, rfl⟩ : ∃ (i : Fin 8) (k : Fin 128), j = ix2 i k := ⟨j 0, j 1, by funext a; fin_cases a <;> rfl⟩
        exact (point6A m c t (by omega) i k).trans (zero_add _).symm)
      (fun t h j => by
        have := (idx t).2.2.2
        obtain ⟨i, k, rfl⟩ : ∃ (i : Fin 8) (k : Fin 128), j = ix2 i k := ⟨j 0, j 1, by funext a; fin_cases a <;> rfl⟩
        exact point6B m c t (by omega) this i k)
      (le_of_eq N_0) t0_3 rfl _]
    refine (zero_add (M := EReal) _).trans ?_
    refine Eq.trans ?_ (sums_eq m c i k).symm
    refine (Fin.sum_univ_four (fun p : Fin 4 => ∑ q : Fin 512, rp m c ⟨512 * (3 - p.val) + q, by omega⟩ i k)).trans ?_
    rw [Fin.sum_univ_tiles 4 512 rfl (f := fun r : Fin 2048 => rp m c r i k), Fin.sum_univ_four]
    have e4 : ∀ A B C D A' B' C' D' : EReal, A = D' → B = C' → C = B' → D = A' → A + B + C + D = A' + B' + C' + D' := fun A B C D A' B' C' D' h1 h2 h3 h4 => by
      rw [h1, h2, h3, h4, add_comm, add_comm _ B', add_comm _ C', ← add_assoc, ← add_assoc, add_assoc, add_assoc]
    refine e4 _ _ _ _ _ _ _ _ ?_ ?_ ?_ ?_ <;> rfl
  exact congrFun e (ix2 i k)

/-! ## The claim -/

theorem reads (h : Cert.Pre_Kernel16Ideal_finite16 m) :
    (∀ r (l : Fin 4), ∃ y : ℝ, a0 m c (ix2 r ⟨3596 + l, by omega⟩) = (y : EReal)) ∧ (∀ l, ∃ y : ℝ, a2 m c (ix2 0 l) = (y : EReal))
    ∧ (∀ l, ∃ y : ℝ, a3 m c (ix2 0 l) = (y : EReal)) ∧ (∀ r (l : Fin 4), ∃ y : ℝ, a4 m c (ix2 r ⟨12 + l, by omega⟩) = (y : EReal))
    ∧ (∀ r (l : Fin 4), ∃ y : ℝ, a5 m c (ix2 r ⟨12 + l, by omega⟩) = (y : EReal)) := by
  obtain ⟨h0, h1, h2, h3, h4⟩ := h c
  refine ⟨fun r l => ?_, fun l => ?_, fun l => ?_, fun r l => ?_, fun r l => ?_⟩
  · have e := congrFun h0 (ix2 r l)
    pointwise [Cert.Pre_finite16.fn] at e
    exact real_of_cmp e
  · have e := congrFun h1 (ix2 0 l)
    pointwise [Cert.Pre_finite16.fn] at e
    exact real_of_cmp e
  · have e := congrFun h2 (ix2 0 l)
    pointwise [Cert.Pre_finite16.fn] at e
    exact real_of_cmp e
  · have e := congrFun h3 (ix2 r l)
    pointwise [Cert.Pre_finite16.fn] at e
    exact real_of_cmp e
  · have e := congrFun h4 (ix2 r l)
    pointwise [Cert.Pre_finite16.fn] at e
    exact real_of_cmp e

section Same

variable (x0 : FVec Ideal S2048x3840 .f32) (x1 : FVec Ideal S1x8 .f32) (x2 x3 : FVec Ideal S1x4 .f32) (x4 x5 : FVec Ideal S2048x128 .f32)
  (x6 : FVec Ideal S2048x3840 .bf16) (e0 : x0 = a0 m c) (e1 : x1 = a1 m c) (e2 : x2 = a2 m c) (e3 : x3 = a3 m c) (e4 : x4 = a4 m c)
  (e5 : x5 = a5 m c) (e6 : x6 = a6 m c)

include e0 e1 e2 e3 e4 e5

theorem same6 (h : Cert.Pre_Kernel16Ideal_finite16 m) :
    Cert.Reference16Ideal.Read.val_main_v53 (F := Ideal) x0 x1 x2 x3 x4 x5 = (dats m 0 c).arrAt 6 cfg0.N := by
  subst e0 e1 e2 e3 e4 e5
  obtain ⟨h0, h2, h3, h4, h5⟩ := reads m c h
  exact ext2 (a := 8) (b := 128) fun i j => (reference53 _ _ _ _ _ _ h0 h2 h3 h4 h5 i j).trans (final6 m c i j).symm

include e6

theorem same5 : Cert.Reference16Ideal.Read.val_main_v55 (F := Ideal) x0 x1 x2 x3 x4 x5 x6 = (dats m 0 c).arrAt 5 cfg0.N := by
  subst e0 e1 e2 e3 e4 e5 e6
  exact ext2 (a := 2048) (b := 3840) fun i j => (reference55 _ _ _ _ _ _ _ i j).trans (final5 m c i j).symm

end Same

theorem algebraic : Cert.algebraic_Kernel16Ideal_Reference16Ideal_pre_finite16 := by
  intro m g m' g' hm hargs
  refine ⟨fun c => (dats m 0 c).arrAt 5 cfg0.N, fun c => (dats m 0 c).arrAt 6 cfg0.N,
    Cert.Kernel16Ideal.Value.run_blocks m g, (θ_run _ _ _).mono (fun r h c => ?_) (Cert.Reference16Ideal.Value.run m' g')⟩
  obtain ⟨h1, h2, ha⟩ := h c
  obtain ⟨e0, e1, e2, e3, e4, e5, e6⟩ := hargs c
  exact ⟨(h1.trans (Cert.Reference16Ideal.Read.val_main_v55_eq _ _)).trans (same5 m c _ _ _ _ _ _ _ e0 e1 e2 e3 e4 e5 e6),
    (h2.trans (Cert.Reference16Ideal.Read.val_main_v53_eq _ _)).trans (same6 m c _ _ _ _ _ _ e0 e1 e2 e3 e4 e5 hm), ha⟩

theorem frame_reference : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run m ρ)

end Cert.Gates

end
-- ==== Proof.Products.FwdNorm.lean ====
/- The rms norm before the mixer: the kernel's four row blocks are the norm of the whole array. -/
module

public import proofs.«01_k».proof.Defs
public import proofs.«01_k».proof.Proof.Reals
public import proofs.«01_k».proof.Proof.Products.Norm
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pointwise
public import Idealize.ShloMosaic.Lib.WordCmp
public import Idealize.ShloMosaic.Lib.Pipeline.ValueKit
public import Idealize.ShloMosaic.Adequacy
public import Idealize.ShloMosaic.Init

@[expose] public section

set_option maxRecDepth 16384

noncomputable section

namespace Cert.FwdNorm

open Idealize.ShloMosaic Idealize.ShloMosaic.TcCoe Idealize.SL.Sem
open Idealize.ShloMosaic.Pipeline (Dat)
open Cert.Reals Cert.Norm Cert.Kernel17Ideal Cert.Kernel17Ideal.Gen

/-- The norm of a row, at a column. -/
def val (x : FVec Ideal S2048x1024 .f32) (p : FVec Ideal S1x1024 .f32) (i : Fin 2048) (j : Fin 1024) : EReal :=
  x (ix2 i j) * scale (fun k => x (ix2 i k)) * p (ix2 0 j)

/-- What the body stores, at an index of the block. -/
theorem pay (x : FVec Ideal S512x1024 .f32) (p : FVec Ideal S1x1024 .f32) (i : Fin 512) (j : Fin 1024) :
    (k0_pay1 x p : FVec Ideal S512x1024 .bf16) (ix2 i j) = x (ix2 i j) * scale (fun k => x (ix2 i k)) * p (ix2 0 j) := by
  pointwise [k0_pay1, scale, square]

/-- The reference's result at an index. -/
theorem reference (x : FVec Ideal S2048x1024 .f32) (p : FVec Ideal S1x1024 .f32) (i : Fin 2048) (j : Fin 1024) :
    (Cert.Reference17Ideal.Read.val_main_v12 (F := Ideal) x p : FVec Ideal S2048x1024 .bf16) (ix2 i j) = val x p i j := by
  unfold val
  pointwise [Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_cst, Cert.Reference17Ideal.Read.val_main_cst_0, Cert.Reference17Ideal.Read.val_main_cst_1, scale, square]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 4 :=
  (by decide +kernel : ∀ t : Fin grid0.N, _)

/-- A block's rows are the whole arrays'. -/
theorem row0 (c : Dev nD) (t : Fin cfg0.N) (a : Fin 512) (b : Fin 1024) (ht : t.val < 4) :
    (show FVec Ideal S512x1024 .f32 from iblk m c 0 t) (ix2 a b) = (show FVec Ideal S2048x1024 .f32 from m ((c : Thread nD τ).loc main_arg0)) (ix2 ⟨512 * t.val + a, by omega⟩ b) := by
  blk_ext [iblk, V, (idx t).1]

theorem row1 (c : Dev nD) (t : Fin cfg0.N) (b : Fin 1024) :
    (show FVec Ideal S1x1024 .f32 from iblk m c 1 t) (ix2 0 b) = (show FVec Ideal S1x1024 .f32 from m ((c : Thread nD τ).loc main_arg1)) (ix2 0 b) := by
  blk_ext [iblk, V, (idx t).2.1]

/-- The array the kernel leaves: each block is the norm's block, and the blocks cover the array. -/
theorem final (c : Dev nD) (i : Fin 2048) (j : Fin 1024) :
    (show FVec Ideal S2048x1024 .bf16 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S2048x1024 .bf16 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    have ht := h.2.2.2
    blk_simp
    obtain ⟨a, b, rfl⟩ : ∃ (a : Fin 512) (b : Fin 1024), y = ix2 a b := ⟨y 0, y 1, by funext a; fin_cases a <;> rfl⟩
    rw [after0_2]; frame_out
    refine (pay _ _ a b).trans (Eq.trans (b := val (m ((c : Thread nD τ).loc main_arg0)) (m ((c : Thread nD τ).loc main_arg1)) ⟨512 * t.val + a, by omega⟩ b) ?_ ?_)
    · exact congrArg₂ (· * ·) (congrArg₂ (· * ·) (row0 m c t a b ht) (congrArg scale (funext fun k => row0 m c t a k ht))) (row1 m c t b)
    · congr 1
      · apply Fin.ext; blk_simp [h.2.2.1]; exact congrArg (· + _) (mul_comm _ _)
      · apply Fin.ext; blk_simp [h.2.2.1]
  exact congrFun e (ix2 i j)

theorem same (c : Dev nD) (x0 : FVec Ideal S2048x1024 .f32) (x1 : FVec Ideal S1x1024 .f32)
    (e0 : x0 = m ((c : Thread nD τ).loc main_arg0)) (e1 : x1 = m ((c : Thread nD τ).loc main_arg1)) :
    Cert.Reference17Ideal.Read.val_main_v12 (F := Ideal) x0 x1 = (dats m 0 c).arrAt 2 cfg0.N := by
  subst e0 e1
  exact ext2 (a := 2048) (b := 1024) fun i j => (reference _ _ i j).trans (final m c i j).symm

theorem algebraic : Cert.algebraic_Kernel17Ideal_Reference17Ideal := by
  intro m g m' g' _ hargs
  refine ⟨fun c => (dats m 0 c).arrAt 2 cfg0.N, Cert.Kernel17Ideal.Value.run_blocks m g,
    (θ_run _ _ _).mono (fun r h c => ?_) (Cert.Reference17Ideal.Value.run m' g')⟩
  obtain ⟨hd, ha⟩ := h c
  obtain ⟨e0, e1⟩ := hargs c
  exact ⟨(hd.trans (Cert.Reference17Ideal.Read.val_main_v12_eq _ _)).trans (same m c _ _ e0 e1), ha⟩

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

end Cert.FwdNorm

end
-- ==== Proof.Products.FwdConv.lean ====
/- The short convolution of the gated DeltaNet, its silu and its l2 norms: the kernel's twelve column blocks are the heads of queries, keys and values. -/
module

public import proofs.«01_k».proof.Defs
public import proofs.«01_k».proof.Proof.Reals
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pointwise
public import Idealize.ShloMosaic.Lib.WordCmp
public import Idealize.ShloMosaic.Lib.Pipeline.ValueKit
public import Idealize.ShloMosaic.Adequacy
public import Idealize.ShloMosaic.Init

@[expose] public section

set_option maxRecDepth 16384

noncomputable section

namespace Cert.FwdConv

open Idealize.ShloMosaic Idealize.ShloMosaic.TcCoe Idealize.SL.Sem
open Idealize.ShloMosaic.Pipeline (Dat)
open Cert.Reals Cert.Kernel18Ideal Cert.Kernel18Ideal.Gen

/-- A column's rows moved down by `s`, zeros coming in. -/
def tap (x : Fin 2048 → EReal) (s : ℕ) (r : Fin 2048) : EReal := if s ≤ (r : ℕ) then x ⟨r - s, by omega⟩ else 0

/-- The convolution of a column with its four taps. -/
def pre (x : Fin 2048 → EReal) (w : Fin 4 → EReal) (r : Fin 2048) : EReal :=
  x r * w 3 + tap x 3 r * w 0 + tap x 2 r * w 1 + tap x 1 r * w 2

/-- A number times the logistic function of it. -/
def silu (p : EReal) : EReal := p * Ideal.div 1 (1 + Ideal.exp (0 - p))

/-- The silu of the convolution, at a row and a column. -/
def act (x : Fin 2048 → EReal) (w : Fin 4 → EReal) (r : Fin 2048) : EReal := silu (pre x w r)

/-- One over the norm of a row of 128. -/
def norm (c : Fin 128 → EReal) : EReal := Ideal.rsqrt ((∑ k, c k * c k) + Ideal.ofBits .f32 0x358637BD#32)

/-- A head's row: divided by its norm in the queries and the keys, and scaled in the queries. -/
def head (b : ℕ) (c : Fin 128 → EReal) (l : Fin 128) : EReal :=
  c l * (if b < 8 then norm c else 1) * (if b < 4 then Ideal.ofBits .f32 0x3DB504F3#32 else 1)

section Body

variable (x : FVec Ideal S2048x128 .f32) (w : FVec Ideal S4x128 .f32)

theorem pay2 (r : Fin 2048) (l : Fin 128) :
    (k0_pay2 x w : FVec Ideal S2048x128 .f32) (ix2 r l) = act (fun r => x (ix2 r l)) (fun j => w (ix2 j l)) r := by
  obtain ⟨X, hx⟩ : ∃ X : ℕ → Fin 128 → EReal, ∀ (r : Fin 2048) (l : Fin 128), x (ix2 r l) = X r l :=
    ⟨fun n l => if h : n < 2048 then x (ix2 ⟨n, h⟩ l) else 0, fun r l => by beta_reduce; rw [dif_pos r.isLt]⟩
  unfold act silu pre tap
  pointwise [k0_pay2, hx]
  simp (disch := word_cmp_side) only [hlo_ix]
  have e : ∀ s : ℕ, 0 < s → s < 4 → ∀ y : EReal, (if s ≤ (r : ℕ) then X (((r : ℕ) + 2048 - s) % 2048) l * y else 0) = (if s ≤ (r : ℕ) then X ((r : ℕ) - s) l else 0) * y := by
    intro s h0 h4 y
    by_cases hs : s ≤ (r : ℕ)
    · rw [if_pos hs, if_pos hs, show ((r : ℕ) + 2048 - s) % 2048 = (r : ℕ) - s by omega]
    · rw [if_neg hs, if_neg hs, zero_mul]
  rw [e 3 (by omega) (by omega), e 2 (by omega) (by omega), e 1 (by omega) (by omega)]

theorem pay1 (b : ℕ) (hb : b < 12) (v : FVec Ideal S2048x128 .f32) (r : Fin 2048) (l : Fin 128) :
    (k0_pay1 (BitVec.ofNat 32 b) v : FVec Ideal S2048x128 .f32) (ix2 r l) = head b (fun k => v (ix2 r k)) l := by
  unfold head norm
  pointwise [k0_pay1]
  simp (disch := word_cmp_side) only [hlo_ix]

end Body

section Reference

variable (x0 : FVec Ideal S2048x3840 .f32) (x1 : FVec Ideal S4x1536 .f32)

/-- The columns and the taps of the whole arrays. -/
def cx (k : Fin 1536) (r : Fin 2048) : EReal := x0 (ix2 r ⟨1536 + k, by omega⟩)
def cw (k : Fin 1536) (j : Fin 4) : EReal := x1 (ix2 j k)

/-- The silu of the whole convolution. -/
def ca (r : Fin 2048) (k : Fin 1536) : EReal := act (cx x0 k) (cw x1 k) r

/-- The result: the heads side by side. -/
def val (r : Fin 2048) (k : Fin 1536) : EReal :=
  head (k / 128) (fun l => ca x0 x1 r ⟨128 * (k / 128) + l, by omega⟩) ⟨k % 128, by omega⟩

open Cert.Reference18Ideal.Read

theorem tap3 (r : Fin 2048) (k : Fin 1536) : val_main_v3 (F := Ideal) x0 (ix2 r k) = tap (cx x0 k) 3 r := by
  pointwise [val_main_v3, val_main_v2, val_main_v1, val_main_v0, val_main_cst]
  unfold tap cx
  by_cases h : 3 ≤ (r : ℕ)
  · rw [dif_neg (by omega), if_pos h]
  · rw [dif_pos (by omega), if_neg h]

theorem tap2 (r : Fin 2048) (k : Fin 1536) : val_main_v11 (F := Ideal) x0 (ix2 r k) = tap (cx x0 k) 2 r := by
  pointwise [val_main_v11, val_main_v2, val_main_v1, val_main_v0, val_main_cst]
  unfold tap cx
  by_cases h : 2 ≤ (r : ℕ)
  · rw [dif_neg (by omega), if_pos h]
    exact congrArg x0 (congrArg (ix2 · _) (Fin.ext (by simp only; omega)))
  · rw [dif_pos (by omega), if_neg h]

theorem tap1 (r : Fin 2048) (k : Fin 1536) : val_main_v18 (F := Ideal) x0 (ix2 r k) = tap (cx x0 k) 1 r := by
  pointwise [val_main_v18, val_main_v2, val_main_v1, val_main_v0, val_main_cst]
  unfold tap cx
  by_cases h : 1 ≤ (r : ℕ)
  · rw [dif_neg (by omega), if_pos h]
    exact congrArg x0 (congrArg (ix2 · _) (Fin.ext (by simp only; omega)))
  · rw [dif_pos (by omega), if_neg h]

theorem tap0 (r : Fin 2048) (k : Fin 1536) : val_main_v25 (F := Ideal) x0 (ix2 r k) = cx x0 k r := by
  pointwise [val_main_v25, val_main_v2, val_main_v1, val_main_v0, val_main_cst]
  rfl

theorem act_eq (r : Fin 2048) (k : Fin 1536) : val_main_v32 (F := Ideal) x0 x1 (ix2 r k) = ca x0 x1 r k := by
  have e : val_main_v31 (F := Ideal) x0 x1 (ix2 r k) = pre (cx x0 k) (cw x1 k) r := by
    pointwise [val_main_v4, val_main_v5, val_main_v6, val_main_v7, val_main_v8, val_main_v9, val_main_v10, val_main_v12, val_main_v13, val_main_v14, val_main_v15, val_main_v16, val_main_v17, val_main_v19, val_main_v20, val_main_v21, val_main_v22, val_main_v23, val_main_v24, val_main_v26, val_main_v27, val_main_v28, val_main_v29, val_main_v30, val_main_v31, val_main_cst_0, tap3 x0, tap2 x0, tap1 x0, tap0 x0]
    unfold pre cw
    rw [add_comm _ (cx x0 k r * _), ← add_assoc, ← add_assoc]
  pointwise [val_main_v32, val_main_call0_v5, val_main_call0_v4, val_main_call0_v3, val_main_call0_v2, val_main_call0_v1, val_main_call0_v0, val_main_call0_cst, val_main_call0_cst_0, e]
  unfold ca act silu
  rw [zero_sub]

theorem query (r : Fin 2048) (k : Fin 512) :
    val_main_v56 (F := Ideal) x0 x1 (ix2 r k) = val x0 x1 r ⟨k, by omega⟩ := by
  have h1 : (k : ℕ) / 128 < 8 := by omega
  have h2 : (k : ℕ) / 128 < 4 := by omega
  have e : ∀ l : Fin 128, val_main_v36 (F := Ideal) x0 x1 (ix3 r ⟨k / 128, h2⟩ l) = ca x0 x1 r ⟨128 * (k / 128) + l, by omega⟩ := by
    intro l
    pointwise [val_main_v36, val_main_v33]
    rw [act_eq]
    exact congrArg (ca x0 x1 r) (Fin.ext (by simp only; omega))
  unfold val head norm
  simp only [if_pos h1, if_pos h2]
  pointwise [val_main_v56, val_main_v47, val_main_v46, val_main_v45, val_main_v44, val_main_v43, val_main_v42, val_main_v41, val_main_v40, val_main_v39, val_main_v38, val_main_cst_1, val_main_cst_2, val_main_cst_3, e]

theorem key (r : Fin 2048) (k : Fin 512) :
    val_main_v57 (F := Ideal) x0 x1 (ix2 r k) = val x0 x1 r ⟨512 + k, by omega⟩ := by
  have h0 : (512 + (k : ℕ)) / 128 = 4 + (k : ℕ) / 128 := by omega
  have h3 : (512 + (k : ℕ)) % 128 = (k : ℕ) % 128 := by omega
  have h1 : 4 + (k : ℕ) / 128 < 8 := by omega
  have h2 : ¬4 + (k : ℕ) / 128 < 4 := by omega
  have e : ∀ l : Fin 128, val_main_v37 (F := Ideal) x0 x1 (ix3 r ⟨k / 128, by omega⟩ l) = ca x0 x1 r ⟨128 * (4 + k / 128) + l, by omega⟩ := by
    intro l
    pointwise [val_main_v37, val_main_v34]
    rw [act_eq]
    exact congrArg (ca x0 x1 r) (Fin.ext (by simp only; omega))
  unfold val head norm
  simp only [h0, h3, if_pos h1, if_neg h2, mul_one]
  pointwise [val_main_v57, val_main_v55, val_main_v54, val_main_v53, val_main_v52, val_main_v51, val_main_v50, val_main_v49, val_main_v48, val_main_cst_4, val_main_cst_5, e]

theorem value (r : Fin 2048) (k : Fin 512) :
    val_main_v35 (F := Ideal) x0 x1 (ix2 r k) = val x0 x1 r ⟨1024 + k, by omega⟩ := by
  have h1 : ¬(1024 + (k : ℕ)) / 128 < 8 := by omega
  have h2 : ¬(1024 + (k : ℕ)) / 128 < 4 := by omega
  unfold val head
  simp only [if_neg h1, if_neg h2, mul_one]
  pointwise [val_main_v35]
  rw [act_eq]
  exact congrArg (ca x0 x1 r) (Fin.ext (by simp only; omega))

theorem reference (r : Fin 2048) (k : Fin 1536) : val_main_v68 (F := Ideal) x0 x1 (ix2 r k) = val x0 x1 r k := by
  have e1 : ∀ k : Fin 512, val_main_v63 (F := Ideal) x0 x1 (ix2 r k) = val x0 x1 r ⟨k, by omega⟩ := by
    intro k
    pointwise [val_main_v63, val_main_v62, val_main_v61, val_main_v58, query]
  have e2 : ∀ k : Fin 512, val_main_v65 (F := Ideal) x0 x1 (ix2 r k) = val x0 x1 r ⟨512 + k, by omega⟩ := by
    intro k
    pointwise [val_main_v65, val_main_v64, val_main_v61, val_main_v59, key]
  have e3 : ∀ k : Fin 512, val_main_v67 (F := Ideal) x0 x1 (ix2 r k) = val x0 x1 r ⟨1024 + k, by omega⟩ := by
    intro k
    pointwise [val_main_v67, val_main_v66, val_main_v61, val_main_v60, value]
  pointwise [val_main_v68, e1, e2, e3]
  by_cases h1 : (k : ℕ) < 512
  · rw [dif_pos h1]
  by_cases h2 : (k : ℕ) - 512 < 512
  · rw [dif_neg h1, dif_pos h2]
    exact congrArg (val x0 x1 r) (Fin.ext (by simp only; omega))
  · rw [dif_neg h1, dif_neg h2]
    exact congrArg (val x0 x1 r) (Fin.ext (by simp only; omega))

end Reference

variable (m : (ℓ : Loc nD τ sig) → Buf (Elt Ideal) ℓ)

theorem idx : ∀ t : Fin cfg0.N, win0_0.index t = ![0, 12 + t.val] ∧ win0_1.index t = ![0, t.val] ∧ win0_2.index t = ![0, t.val] ∧ t.val < 12 ∧ (grid0.coords t 0).val = t.val :=
  (by decide +kernel : ∀ t : Fin grid0.N, _)

/-- A block's columns and taps are the whole arrays'. -/
theorem blk0 (c : Dev nD) (t : Fin cfg0.N) (ht : t.val < 12) (r : Fin 2048) (l : Fin 128) :
    (show FVec Ideal S2048x128 .f32 from iblk m c 0 t) (ix2 r l) = cx (m ((c : Thread nD τ).loc main_arg0)) ⟨128 * t.val + l, by omega⟩ r := by
  unfold cx
  blk_ext [iblk, V, (idx t).1]

theorem blk1 (c : Dev nD) (t : Fin cfg0.N) (ht : t.val < 12) (j : Fin 4) (l : Fin 128) :
    (show FVec Ideal S4x128 .f32 from iblk m c 1 t) (ix2 j l) = cw (m ((c : Thread nD τ).loc main_arg1)) ⟨128 * t.val + l, by omega⟩ j := by
  unfold cw
  blk_ext [iblk, V, (idx t).2.1]

/-- The array the kernel leaves: each block is one head, and the blocks cover the array. -/
theorem final (c : Dev nD) (i : Fin 2048) (j : Fin 1536) :
    (show FVec Ideal S2048x1536 .f32 from (dats m 0 c).arrAt 2 (cfgs 0).N) (ix2 i j)
      = val (m ((c : Thread nD τ).loc main_arg0)) (m ((c : Thread nD τ).loc main_arg1)) i j := by
  have e : (dats m 0 c).arrAt 2 (cfgs 0).N = (show FVec Ideal S2048x1536 .f32 from
      fun i => val (m ((c : Thread nD τ).loc main_arg0)) (m ((c : Thread nD τ).loc main_arg1)) (i 0) (i 1)) := by
    refine (dats m 0 c).arrAt_eq_of_covers 2 _ (by decide +kernel) fun t _ y => ?_
    have h := idx t
    have ht := h.2.2.2.1
    blk_simp
    obtain ⟨a, b, rfl⟩ : ∃ (a : Fin 2048) (b : Fin 128), y = ix2 a b := ⟨y 0, y 1, by funext a; fin_cases a <;> rfl⟩
    rw [after0_2]; frame_out
    rw [h.2.2.2.2]
    refine (pay1 t.val ht _ a b).trans (Eq.trans (b := val (m ((c : Thread nD τ).loc main_arg0)) (m ((c : Thread nD τ).loc main_arg1)) a ⟨128 * t.val + b, by omega⟩) ?_ ?_)
    · have e1 : (128 * t.val + (b : ℕ)) / 128 = t.val := by omega
      have e2 : (128 * t.val + (b : ℕ)) % 128 = b := by omega
      unfold val
      simp only [e1, e2]
      refine congrArg (head t.val · b) (funext fun k => (pay2 _ _ a k).trans ?_)
      exact congrArg₂ (act · · a) (funext fun r => blk0 m c t ht r k) (funext fun j => blk1 m c t ht j k)
    · congr 1
      · apply Fin.ext; blk_simp [h.2.2.1]
      · apply Fin.ext; blk_simp [h.2.2.1]; exact congrArg (· + _) (mul_comm _ _)
  exact congrFun e (ix2 i j)

theorem same (c : Dev nD) (x0 : FVec Ideal S2048x3840 .f32) (x1 : FVec Ideal S4x1536 .f32)
    (e0 : x0 = m ((c : Thread nD τ).loc main_arg0)) (e1 : x1 = m ((c : Thread nD τ).loc main_arg1)) :
    Cert.Reference18Ideal.Read.val_main_v68 (F := Ideal) x0 x1 = (dats m 0 c).arrAt 2 cfg0.N := by
  subst e0 e1
  exact ext2 (a := 2048) (b := 1536) fun i j => (reference _ _ i j).trans (final m c i j).symm

theorem algebraic : Cert.algebraic_Kernel18Ideal_Reference18Ideal := by
  intro m g m' g' _ hargs
  refine ⟨fun c => (dats m 0 c).arrAt 2 cfg0.N, Cert.Kernel18Ideal.Value.run_blocks m g,
    (θ_run _ _ _).mono (fun r h c => ?_) (Cert.Reference18Ideal.Value.run m' g')⟩
  obtain ⟨hd, ha⟩ := h c
  obtain ⟨e0, e1⟩ := hargs c
  exact ⟨(hd.trans (Cert.Reference18Ideal.Read.val_main_v68_eq _)).trans (same m c _ _ e0 e1), ha⟩

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

end Cert.FwdConv

end
-- ==== Proof.Products.FwdGates.lean ====
/- The forward gates: the kernel's four blocks of rows, each adding its own running sums to those of the blocks before it, against the host's. -/
module

public import proofs.«01_k».proof.Defs
public import proofs.«01_k».proof.Proof.Products.GateMath
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Adequacy
public import Idealize.ShloMosaic.Init
public import Idealize.ShloMosaic.Lib.WordCmp
public import Idealize.ShloMosaic.Lib.WritesUnit
public import Idealize.ShloMosaic.Lib.Pipeline.ReadBack

@[expose] public section

set_option maxRecDepth 16384

noncomputable section

namespace Cert.FwdGates

open Idealize.ShloMosaic Idealize.ShloMosaic.TcCoe Idealize.SL.Sem
open Idealize.ShloMosaic.Pipeline (Dat)
open Cert.Reals Cert.Gates Cert.Kernel19Ideal Cert.Kernel19Ideal.Gen

/-! ## The logarithm of the logistic function -/

theorem absf_eq (z : EReal) : (FloatOps.absf (F := Ideal) (φ := .f32) z : EReal) = max z (-z) := rfl

/-- What the kernel writes for the logarithm of a forget gate is softplus turned round, at the infinities too. -/
theorem lsig_eq (z : EReal) : min z 0 - Ideal.log (1 + Ideal.exp (0 - max z (-z))) = -soft (-z) := by
  induction z with
  | bot =>
    have e : Ideal.exp ⊥ = 0 := rfl
    have l : Ideal.log 1 = 0 := log_one
    rw [EReal.neg_bot, soft_top]
    simp [e, l]
  | top =>
    have e : Ideal.exp ⊥ = 0 := rfl
    have l : Ideal.log 1 = 0 := log_one
    rw [EReal.neg_top, soft_bot]
    simp [e, l]
  | coe x =>
    have h : ¬ 1 + Real.exp (-max x (-x)) ≤ 0 := by have := Real.exp_pos (-max x (-x)); linarith
    rw [← EReal.coe_neg, soft_coe, ← coe_max, zero_sub_coe, Ideal.exp_coe, one_add_coe, Ideal.log_coe, if_neg h,
      show min (x : EReal) 0 = ((min x 0 : ℝ) : EReal) from (EReal.coe_strictMono.monotone.map_min (a := x) (b := 0)).symm, ← EReal.coe_sub, ← EReal.coe_neg]
    congr 1
    rw [neg_neg, max_comm (-x) x]
    rcases le_total x 0 with k | k
    · rw [min_eq_left k, max_eq_left (by linarith : (0 : ℝ) ≤ -x)]; ring
    · rw [min_eq_right k, max_eq_right (by linarith : -x ≤ (0 : ℝ))]; ring

/-! ## Sums of the rows before one -/

/-- The sum of a column's first `n` rows. -/
def below (f : Fin 2048 → EReal) (n : ℕ) : EReal := ∑ i : Fin 2048, if (i : ℕ) < n then f i else 0

theorem below_zero (f : Fin 2048 → EReal) : below f 0 = 0 :=
  Finset.sum_eq_zero fun i _ => if_neg (by omega)

/-- A block's own sums up to a row, plus the sum of the earlier blocks. -/
theorem below_block (f : Fin 2048 → EReal) (b : Fin 4) (p : Fin 512) :
    (∑ q : Fin 512, (if q ≤ p then (1 : EReal) else 0) * f ⟨512 * b + q, by omega⟩) + below f (512 * b) = below f (512 * b + p + 1) := by
  unfold below
  rw [Fin.sum_univ_tiles 4 512 rfl (f := fun i : Fin 2048 => if (i : ℕ) < 512 * (b : ℕ) then f i else 0),
    Fin.sum_univ_tiles 4 512 rfl (f := fun i : Fin 2048 => if (i : ℕ) < 512 * (b : ℕ) + p + 1 then f i else 0)]
  rw [show (∑ q : Fin 512, (if q ≤ p then (1 : EReal) else 0) * f ⟨512 * b + q, by omega⟩)
      = ∑ a : Fin 4, if a = b then (∑ q : Fin 512, (if q ≤ p then (1 : EReal) else 0) * f ⟨512 * b + q, by omega⟩) else 0 from by
        rw [Finset.sum_ite_eq' Finset.univ b, if_pos (Finset.mem_univ b)], ← Finset.sum_add_distrib]
  refine Finset.sum_congr rfl fun a _ => ?_
  by_cases h : a = b
  · subst h
    rw [if_pos rfl, ← Finset.sum_add_distrib]
    refine Finset.sum_congr rfl fun q _ => ?_
    have h0 : ¬(a : ℕ) * 512 + q < 512 * (a : ℕ) := by omega
    have e : f ⟨512 * a + q, by omega⟩ = f ⟨a * 512 + q, by omega⟩ := congrArg f (Fin.ext (by simp only; omega))
    simp only [h0, if_false, add_zero, e]
    by_cases hq : q ≤ p
    · rw [if_pos hq, if_pos (by have := Fin.le_def.1 hq; omega), one_mul]
    · rw [if_neg hq, if_neg (by have := fun h => hq (Fin.le_def.2 h); omega), zero_mul]
  · rw [if_neg h, zero_add]
    refine Finset.sum_congr rfl fun q _ => ?_
    have hb : (a : ℕ) ≠ b := fun e => h (Fin.ext e)
    refine if_congr ?_ rfl rfl
    simp only
    omega

/-- A window of the whole height, padded above, sums a column up to each row. -/
theorem window_head (x : (⟨2, ![2048, 8]⟩ : Shape).Idx → EReal)
    (h : (⟨2, ![2048, 8]⟩ : Shape).ReduceWindows (![2048, 1] : Fin 2 → Nat) ![1, 1] ![2047, 0] ![0, 0] ⟨2, ![2048, 8]⟩) (z : EReal) (hz : z = 0) (j : Fin 2048) (c : Fin 8) :
    Ideal.hostReduceWindowAdd ![2048, 1] ![1, 1] ![2047, 0] ![0, 0] h x z (ix2 j c) = below (fun i => x (ix2 i c)) (j + 1) := by
  subst hz
  have hN : (⟨2, ![2048, 1]⟩ : Shape).numel = 2048 := by decide +kernel
  unfold Ideal.hostReduceWindowAdd Host.reduceWindow
  refine (foldl_fin _ _ _).trans ?_
  rw [zero_add, ← Fin.sum_univ_def]
  unfold below
  let g : ℕ → EReal := fun n => if h : 2047 ≤ j.val + n ∧ j.val + n - 2047 < 2048 then x (ix2 ⟨j.val + n - 2047, h.2⟩ c) else 0
  trans ∑ n : Fin (⟨2, ![2048, 1]⟩ : Shape).numel, g n.val
  · refine Finset.sum_congr rfl fun n _ => ?_
    have hn : n.val < 2048 := lt_of_lt_of_eq n.isLt hN
    have hw : (⟨2, ![2048, 1]⟩ : Shape).rowMajor.symm n = ix2 (⟨n.val, hn⟩ : Fin 2048) (0 : Fin 1) := by
      rw [Equiv.symm_apply_eq]
      apply Fin.ext
      rw [Shape.rowMajor_val_two]
      show n.val = n.val * 1 + 0
      omega
    have h0 : ((⟨2, ![2048, 1]⟩ : Shape).rowMajor.symm n 0).val = n.val := by rw [hw]; rfl
    have h1 : ((⟨2, ![2048, 1]⟩ : Shape).rowMajor.symm n 1).val = 0 := by rw [hw]; rfl
    dsimp only [g]
    by_cases hj : 2047 ≤ j.val + n.val ∧ j.val + n.val - 2047 < 2048
    · rw [dif_pos hj]
      have hc := c.isLt
      rw [dif_pos (by
        intro a
        match a with
        | ⟨0, _⟩ =>
          show 2047 ≤ j.val * 1 + ((⟨2, ![2048, 1]⟩ : Shape).rowMajor.symm n 0).val ∧ j.val * 1 + ((⟨2, ![2048, 1]⟩ : Shape).rowMajor.symm n 0).val - 2047 < 2048
          rw [h0]; omega
        | ⟨1, _⟩ =>
          show 0 ≤ c.val * 1 + ((⟨2, ![2048, 1]⟩ : Shape).rowMajor.symm n 1).val ∧ c.val * 1 + ((⟨2, ![2048, 1]⟩ : Shape).rowMajor.symm n 1).val - 0 < 8
          rw [h1]; omega)]
      refine congrArg x (funext fun a => Fin.ext ?_)
      match a with
      | ⟨0, _⟩ =>
        show j.val * 1 + ((⟨2, ![2048, 1]⟩ : Shape).rowMajor.symm n 0).val - 2047 = j.val + n.val - 2047
        rw [h0]; omega
      | ⟨1, _⟩ =>
        show c.val * 1 + ((⟨2, ![2048, 1]⟩ : Shape).rowMajor.symm n 1).val - 0 = c.val
        rw [h1]; omega
    · rw [dif_neg hj, dif_neg]
      intro hin
      have h2 := hin 0
      change 2047 ≤ j.val * 1 + ((⟨2, ![2048, 1]⟩ : Shape).rowMajor.symm n 0).val ∧ j.val * 1 + ((⟨2, ![2048, 1]⟩ : Shape).rowMajor.symm n 0).val - 2047 < 2048 at h2
      rw [h0] at h2; omega
  rw [Fin.sum_univ_eq_sum_range g, hN]
  let k : ℕ → EReal := fun n => if n < j.val + 1 then (if h : n < 2048 then x (ix2 ⟨n, h⟩ c) else 0) else 0
  trans ∑ n ∈ Finset.range 2048, k n
  · rw [← Finset.sum_filter_add_sum_filter_not (Finset.range 2048) (fun n => 2047 ≤ j.val + n ∧ j.val + n - 2047 < 2048) g]
    rw [Finset.sum_eq_zero (s := (Finset.range 2048).filter fun n => ¬(2047 ≤ j.val + n ∧ j.val + n - 2047 < 2048)) (fun n hn => dif_neg (Finset.mem_filter.1 hn).2), add_zero]
    rw [← Finset.sum_filter_add_sum_filter_not (Finset.range 2048) (fun n => n < j.val + 1) k]
    rw [Finset.sum_eq_zero (s := (Finset.range 2048).filter fun n => ¬n < j.val + 1) (fun n hn => if_neg (Finset.mem_filter.1 hn).2), add_zero]
    refine Finset.sum_bij (fun n _ => j.val + n - 2047) (fun n hn => ?_) (fun a ha b hb e => ?_) (fun n hn => ?_) (fun n hn => ?_)
    · have := Finset.mem_filter.1 hn
      have := Finset.mem_range.1 this.1
      exact Finset.mem_filter.2 ⟨Finset.mem_range.2 (by omega), by omega⟩
    · have := (Finset.mem_filter.1 ha).2
      have := (Finset.mem_filter.1 hb).2
      omega
    · have := Finset.mem_filter.1 hn
      have := Finset.mem_range.1 this.1
      have := j.isLt
      exact ⟨n + 2047 - j.val, Finset.mem_filter.2 ⟨Finset.mem_range.2 (by omega), by omega⟩, by omega⟩
    · have h1 := Finset.mem_filter.1 hn
      have h2 := Finset.mem_range.1 h1.1
      dsimp only [g, k]
      rw [dif_pos h1.2, if_pos (by omega), dif_pos h1.2.2]
  rw [← Fin.sum_univ_eq_sum_range k]
  refine Finset.sum_congr rfl fun i _ => ?_
  dsimp only [k]
  rw [dif_pos i.isLt]

/-! ## The host's gates -/

section Host

open Cert.Reference19Ideal.Read

variable (x0 : FVec Ideal S2048x3840 .f32) (x1 : FVec Ideal S1x8 .f32) (x2 x3 : FVec Ideal S1x4 .f32)

/-- The arguments of the forget gates, of the write strengths and of the decays, and a decay's factor. -/
def zf (r : Fin 2048) (l : Fin 8) : EReal := x0 (ix2 r ⟨3584 + l, by omega⟩) + x1 (ix2 0 l)
def zb (r : Fin 2048) (l : Fin 4) : EReal := x0 (ix2 r ⟨3592 + l, by omega⟩)
def za (r : Fin 2048) (l : Fin 4) : EReal := x0 (ix2 r ⟨3596 + l, by omega⟩) + x3 (ix2 0 l)
def gs (l : Fin 4) : EReal := -Ideal.exp (x2 (ix2 0 l))

/-- A row's gates: the forget gates' logarithms summed up to the row, the write strengths, the decays, and nothing in the other lanes. -/
def val (r : Fin 2048) (l : ℕ) : EReal :=
  if h : l < 8 then below (fun i => -soft (-zf x0 x1 i ⟨l, h⟩)) (r + 1) else if h : l - 8 < 4 then logis (zb x0 r ⟨l - 8, h⟩)
  else if h : l - 8 - 4 < 4 then gs x2 ⟨l - 8 - 4, h⟩ * soft (za x0 x3 r ⟨l - 8 - 4, h⟩) else 0

theorem reference6 (r : Fin 2048) (l : Fin 8) : (val_main_v6 (F := Ideal) x0 x1 : FVec Ideal Cert.Reference19Ideal.S2048x8 .f32) (ix2 r l) = -soft (-zf x0 x1 r l) := by
  pointwise [val_main_v0, val_main_v1, val_main_v4, val_main_v5, val_main_v6, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1]
  simp only [ne_eq, not_true_eq_false, if_false, absf_eq, soft_host]
  rfl

theorem reference7 (r : Fin 2048) (l : Fin 8) : (val_main_v7 (F := Ideal) x0 x1 : FVec Ideal Cert.Reference19Ideal.S2048x8 .f32) (ix2 r l) = below (fun i => -soft (-zf x0 x1 i l)) (r + 1) := by
  unfold val_main_v7 Host.reduceWindowAdd
  rw [Ideal.hostReduceWindowAdd_def]
  refine (window_head _ _ _ ?_ r l).trans (congrArg (below · _) (funext fun i => reference6 x0 x1 i l))
  pointwise [val_main_call1_call0_v0, val_main_call1_call0_cst]

theorem reference13 (r : Fin 2048) (l : Fin 4) : (val_main_v13 (F := Ideal) x0 : FVec Ideal Cert.Reference19Ideal.S2048x4 .f32) (ix2 r l) = logis (zb x0 r l) := by
  pointwise [val_main_v0, val_main_v2, val_main_v8, val_main_v9, val_main_cst, val_main_v10, val_main_v11, val_main_cst_0, val_main_v12, val_main_v13]
  unfold logis
  rw [zero_sub]
  exact congrArg (fun y => Ideal.div 1 (1 + Ideal.exp (-y))) (congrArg x0 (congrArg (ix2 r) (Fin.ext (by simp only; omega))))

theorem reference18 (r : Fin 2048) (l : Fin 4) : (val_main_v18 (F := Ideal) x0 x3 : FVec Ideal Cert.Reference19Ideal.S2048x4 .f32) (ix2 r l) = soft (za x0 x3 r l) := by
  pointwise [val_main_v0, val_main_v3, val_main_v16, val_main_v17, val_main_call2_cst, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_v18]
  simp only [ne_eq, not_true_eq_false, if_false, absf_eq, soft_host]
  exact congrArg (fun y => soft (y + x3 (ix2 0 l))) (congrArg x0 (congrArg (ix2 r) (Fin.ext (by simp only; omega))))

theorem reference20 (r : Fin 2048) (l : Fin 4) : (val_main_v20 (F := Ideal) x0 x2 x3 : FVec Ideal Cert.Reference19Ideal.S2048x4 .f32) (ix2 r l) = gs x2 l * soft (za x0 x3 r l) := by
  pointwise [val_main_v20, val_main_v19, val_main_v15, val_main_v14, reference18]
  rfl

theorem reference (r : Fin 2048) (l : Fin 128) : (val_main_v22 (F := Ideal) x0 x1 x2 x3 : FVec Ideal S2048x128 .f32) (ix2 r l) = val x0 x1 x2 x3 r l := by
  pointwise [val_main_v22, val_main_v21, val_main_cst_1, reference7, reference13, reference20]
  rfl

end Host

/-! ## The body -/

theorem mask8 (i : Fin 512) (l : Fin 128) : k0_pay8 (ix2 i l) = BitVec.ofBool (decide ((l : ℕ) < 8)) := by
  pointwise [k0_pay8]
  revert l; decide +kernel

theorem mask9 (i : Fin 512) (l : Fin 128) : k0_pay9 (ix2 i l) = BitVec.ofBool (decide (8 ≤ (l : ℕ))) := by
  pointwise [k0_pay9]
  revert l; decide +kernel

theorem maskMid (l : Fin 128) : IntOp.andi (BitVec.ofBool (decide (8 ≤ (l : ℕ)))) (IntOp.cmpi .slt (BitVec.ofNat 32 (l : ℕ)) 12#32)
    = BitVec.ofBool (decide (8 ≤ (l : ℕ) ∧ (l : ℕ) < 12)) := by
  revert l; decide +kernel

theorem maskLast (l : Fin 128) : IntOp.andi (IntOp.cmpi .sge (BitVec.ofNat 32 (l : ℕ)) 12#32) (IntOp.cmpi .slt (BitVec.ofNat 32 (l : ℕ)) 16#32)
    = BitVec.ofBool (decide (12 ≤ (l : ℕ) ∧ (l : ℕ) < 16)) := by
  revert l; decide +kernel

section Body

variable (s : FVec Ideal S512x128 .f32) (b a w : FVec Ideal S1x128 .f32)

/-- A block's lane: the argument of its gate, its decay's factor, and its own running sum over what the earlier blocks left. -/
def bz (i : Fin 512) (l : Fin 128) : EReal := s (ix2 i l) + b (ix2 0 l)
def bs (l : Fin 128) : EReal := -Ideal.exp (a (ix2 0 l))
def bt (i : Fin 512) (l : Fin 128) : EReal := (∑ q : Fin 512, (if q ≤ i then (1 : EReal) else 0) * -soft (-bz s b q l)) + w (ix2 0 l)

/-- The block's gates. -/
def bd (i : Fin 512) (l : Fin 128) : EReal :=
  if (l : ℕ) < 8 then bt s b w i l else if 8 ≤ (l : ℕ) ∧ (l : ℕ) < 12 then logis (bz s b i l)
  else if 12 ≤ (l : ℕ) ∧ (l : ℕ) < 16 then bs a l * soft (bz s b i l) else 0

theorem sle_eq (x i : Fin 512) : IntOp.cmpi .sle (BitVec.ofNat 32 (x : ℕ)) (BitVec.ofNat 32 (i : ℕ)) = BitVec.ofBool (decide (x ≤ i)) := by
  have hx : (BitVec.ofNat 32 (x : ℕ)).toNat = x := by rw [BitVec.toNat_ofNat]; omega
  have hi : (BitVec.ofNat 32 (i : ℕ)).toNat = i := by rw [BitVec.toNat_ofNat]; omega
  rw [WordCmp.cmpi_sle_of_lt (by rw [hx]; omega) (by rw [hi]; omega), hx, hi]
  exact congrArg BitVec.ofBool (decide_eq_decide.2 Fin.le_def.symm)

/-- The triangle of ones. -/
theorem ones (x i : Fin 512) : (FloatOps.sitofp (F := Ideal) .f32 (BitVec.setWidth 32 (IntOp.cmpi .sle (BitVec.ofNat 32 (x : ℕ)) (BitVec.ofNat 32 (i : ℕ)))) : EReal)
    = if x ≤ i then 1 else 0 := by
  rw [sle_eq]
  by_cases h : x ≤ i
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

theorem pay3 (i : Fin 512) (l : Fin 128) : (k0_pay3 s b : FVec Ideal S512x128 .f32) (ix2 i l) = bz s b i l := by
  pointwise [k0_pay3]
  rfl

theorem pay5 (i : Fin 512) (l : Fin 128) : (k0_pay5 s b : FVec Ideal S512x128 .f32) (ix2 i l) = soft (bz s b i l) := by
  pointwise [k0_pay5, k0_pay4, pay3]
  rfl

theorem pay6 (i : Fin 512) (l : Fin 128) : (k0_pay6 s b w : FVec Ideal S512x128 .f32) (ix2 i l) = bt s b w i l := by
  pointwise [k0_pay6, k0_pay4, pay3]
  simp only [ones, absf_eq, lsig_eq]
  rfl

theorem pay7 (l : Fin 128) : (k0_pay7 s b w : FVec Ideal S1x128 .f32) (ix2 0 l) = bt s b w ⟨511, by omega⟩ l := by
  pointwise [k0_pay7, pay6]

theorem pay2 (l : Fin 128) : (k0_pay2 (F := Ideal) : FVec Ideal S1x128 .f32) (ix2 0 l) = 0 := by
  pointwise [k0_pay2]

theorem pay1 (i : Fin 512) (l : Fin 128) :
    (k0_pay1 (k0_pay3 s b) (k0_pay5 s b) (k0_pay6 s b w) (iota .tc S512x128 32 [1] iota_S512x128_d1_w32) k0_pay8 k0_pay9 12#32 a : FVec Ideal S512x128 .f32) (ix2 i l) = bd s b a w i l := by
  pointwise [k0_pay1, pay3, pay5, pay6, mask8, mask9, maskMid, maskLast]
  rw [zero_sub (Ideal.exp (a (ix2 0 l)))]
  rfl

end Body

/-! ## The blocks -/

variable (m : (ℓ : Loc nD τ sig) → Buf (Elt Ideal) ℓ) (c : Dev nD)

theorem idx : ∀ t : Fin cfg0.N, win0_0.index t = ![t.val, 28] ∧ win0_1.index t = ![0, 0] ∧ win0_2.index t = ![0, 0] ∧ win0_3.index t = ![t.val, 0] ∧ t.val < 4 :=
  (by decide +kernel : ∀ t : Fin grid0.N, _)

/-- The arguments on a device. -/
abbrev a0 : FVec Ideal S2048x3840 .f32 := m ((c : Thread nD τ).loc main_arg0)
abbrev a1 : FVec Ideal S1x8 .f32 := m ((c : Thread nD τ).loc main_arg1)
abbrev a2 : FVec Ideal S1x4 .f32 := m ((c : Thread nD τ).loc main_arg2)
abbrev a3 : FVec Ideal S1x4 .f32 := m ((c : Thread nD τ).loc main_arg3)

/-- The row of biases made on the host. -/
theorem entry_bias (l : Fin 128) : (V m c main_v2 : FVec Ideal S1x128 .f32) (ix2 0 l)
    = if h : (l : ℕ) < 8 then a1 m c (ix2 0 ⟨l, h⟩) else if (l : ℕ) - 8 < 4 then 0 else if h : (l : ℕ) - 8 - 4 < 4 then a3 m c (ix2 0 ⟨l - 8 - 4, h⟩) else 0 := by
  unfold V; after_results
  change concatenate S1x128 1 [⟨S1x8, a1 m c⟩, ⟨S1x4, (broadcastInDim S1x4 ![] bcast_S_S1x4 (constant S_ .f32 0x00000000#32) : FVec Ideal S1x4 .f32)⟩, ⟨S1x4, a3 m c⟩, ⟨S1x112, (broadcastInDim S1x112 ![] bcast_S_S1x112 (constant S_ .f32 0x00000000#32) : FVec Ideal S1x112 .f32)⟩] _ (ix2 0 l) = _
  pointwise
  simp only [dite_eq_ite]

/-- The row of the decays' logarithms made on the host. -/
theorem entry_log (l : Fin 128) : (V m c main_v5 : FVec Ideal S1x128 .f32) (ix2 0 l)
    = if (l : ℕ) < 12 then 0 else if h : (l : ℕ) - 12 < 4 then a2 m c (ix2 0 ⟨l - 12, h⟩) else 0 := by
  unfold V; after_results
  change concatenate S1x128 1 [⟨S1x12, (broadcastInDim S1x12 ![] bcast_S_S1x12 (constant S_ .f32 0x00000000#32) : FVec Ideal S1x12 .f32)⟩, ⟨S1x4, a2 m c⟩, ⟨S1x112, (broadcastInDim S1x112 ![] bcast_S_S1x112 (constant S_ .f32 0x00000000#32) : FVec Ideal S1x112 .f32)⟩] _ (ix2 0 l) = _
  pointwise
  simp only [dite_eq_ite]

theorem exists_mid (l : Fin 128) (h0 : ¬(l : ℕ) < 8) (h1 : (l : ℕ) - 8 < 4) : ∃ j : Fin 4, l = ⟨8 + j, Nat.lt_of_lt_of_le (Nat.add_lt_add_left j.isLt 8) (by decide)⟩ :=
  ⟨⟨l - 8, h1⟩, Fin.ext (by simp only; omega)⟩

theorem exists_last (l : Fin 128) (h1 : ¬(l : ℕ) - 8 < 4) (h2 : (l : ℕ) - 8 - 4 < 4) : ∃ j : Fin 4, l = ⟨12 + j, Nat.lt_of_lt_of_le (Nat.add_lt_add_left j.isLt 12) (by decide)⟩ :=
  ⟨⟨l - 8 - 4, h2⟩, Fin.ext (by simp only; omega)⟩

/-- The gate's argument in any lane of a row of the whole array. -/
def zz (r : Fin 2048) (l : Fin 128) : EReal := a0 m c (ix2 r ⟨3584 + l, by omega⟩) + (V m c main_v2 : FVec Ideal S1x128 .f32) (ix2 0 l)

theorem zz_f (r : Fin 2048) (l : Fin 8) : zz m c r ⟨l, by omega⟩ = zf (a0 m c) (a1 m c) r l := by
  unfold zz zf
  refine congrArg (_ + ·) ((entry_bias m c _).trans ?_)
  rw [dif_pos l.isLt]

section Points

variable (t : Fin cfg0.N) (ht : t.val < 4) (i : Fin 512)

theorem blk0 (l : Fin 128) : (show FVec Ideal S512x128 .f32 from iblk m c 0 t) (ix2 i l) = a0 m c (ix2 ⟨512 * t.val + i, by omega⟩ ⟨3584 + l, by omega⟩) := by
  blk_ext [iblk, V, (idx t).1]

theorem blk1 (l : Fin 128) : (show FVec Ideal S1x128 .f32 from iblk m c 1 t) (ix2 0 l) = (V m c main_v2 : FVec Ideal S1x128 .f32) (ix2 0 l) := by
  blk_ext [iblk, (idx t).2.1]

theorem blk2 (l : Fin 128) : (show FVec Ideal S1x128 .f32 from iblk m c 2 t) (ix2 0 l) = (V m c main_v5 : FVec Ideal S1x128 .f32) (ix2 0 l) := by
  blk_ext [iblk, (idx t).2.2.1]

/-- A block's arguments and factors are the whole arrays'. -/
theorem bz_f (l : Fin 8) : bz (iblk m c 0 t) (iblk m c 1 t) i ⟨l, by omega⟩ = zf (a0 m c) (a1 m c) ⟨512 * t.val + i, by omega⟩ l := by
  unfold bz zf
  refine congrArg₂ (· + ·) (blk0 m c t ht i _) ((blk1 m c t _).trans ((entry_bias m c _).trans ?_))
  rw [dif_pos l.isLt]

theorem bz_b (l : Fin 4) : bz (iblk m c 0 t) (iblk m c 1 t) i ⟨8 + l, by omega⟩ = zb (a0 m c) ⟨512 * t.val + i, by omega⟩ l := by
  unfold bz zb
  refine (congrArg₂ (· + ·) (blk0 m c t ht i _) ((blk1 m c t _).trans ((entry_bias m c _).trans ?_))).trans ((add_zero _).trans ?_)
  · rw [dif_neg (by simp), if_pos (by simp)]
  · exact congrArg (a0 m c) (congrArg (ix2 _) (Fin.ext (by simp only; omega)))

theorem bz_a (l : Fin 4) : bz (iblk m c 0 t) (iblk m c 1 t) i ⟨12 + l, by omega⟩ = za (a0 m c) (a3 m c) ⟨512 * t.val + i, by omega⟩ l := by
  unfold bz za
  refine congrArg₂ (· + ·) ((blk0 m c t ht i _).trans ?_) ((blk1 m c t _).trans ((entry_bias m c _).trans ?_))
  · exact congrArg (a0 m c) (congrArg (ix2 _) (Fin.ext (by simp only; omega)))
  · rw [dif_neg (by simp only; omega), if_neg (by simp only; omega), dif_pos (by simp only; omega)]
    exact congrArg (a3 m c) (congrArg (ix2 0) (Fin.ext (by simp only; omega)))

theorem bs_a (l : Fin 4) : bs (iblk m c 2 t) ⟨12 + l, by omega⟩ = gs (a2 m c) l := by
  unfold bs gs
  refine congrArg (fun y => -Ideal.exp y) ((blk2 m c t _).trans ((entry_log m c _).trans ?_))
  rw [if_neg (by simp), dif_pos (by simp)]
  exact congrArg (a2 m c) (congrArg (ix2 0) (Fin.ext (by simp)))

include ht in
theorem bt_below (w : FVec Ideal S1x128 .f32) (l : Fin 128) (hw : w (ix2 0 l) = below (fun r => -soft (-zz m c r l)) (512 * t.val)) :
    bt (iblk m c 0 t) (iblk m c 1 t) w i l = below (fun r => -soft (-zz m c r l)) (512 * t.val + i + 1) := by
  unfold bt
  rw [hw]
  refine Eq.trans ?_ (below_block (fun r => -soft (-zz m c r l)) ⟨t.val, ht⟩ i)
  exact congrArg (· + _) (Finset.sum_congr rfl fun q _ => congrArg (fun y => _ * -soft (-y)) (congrArg₂ (· + ·) (blk0 m c t ht q l) (blk1 m c t l)))

/-- A block's gates are the whole array's, over the sum of the earlier blocks. -/
theorem bd_eq (w : FVec Ideal S1x128 .f32) (hw : ∀ l, w (ix2 0 l) = below (fun r => -soft (-zz m c r l)) (512 * t.val)) (l : Fin 128) :
    bd (iblk m c 0 t) (iblk m c 1 t) (iblk m c 2 t) w i l = val (a0 m c) (a1 m c) (a2 m c) (a3 m c) ⟨512 * t.val + i, by omega⟩ l := by
  unfold bd val
  by_cases h0 : (l : ℕ) < 8
  · rw [if_pos h0, dif_pos h0, bt_below m c t ht i w l (hw l)]
    exact congrArg (below · _) (funext fun r => congrArg (fun y => -soft (-y)) (zz_f m c r ⟨l, h0⟩))
  rw [if_neg h0, dif_neg h0]
  by_cases h1 : (l : ℕ) - 8 < 4
  · rw [if_pos (by omega), dif_pos h1]
    obtain ⟨j, rfl⟩ := exists_mid l h0 h1
    rw [show (⟨((⟨8 + (j : ℕ), by omega⟩ : Fin 128) : ℕ) - 8, h1⟩ : Fin 4) = j from Fin.ext (by simp)]
    rw [← bz_b m c t ht i j]
  rw [if_neg (by omega), dif_neg h1]
  by_cases h2 : (l : ℕ) - 8 - 4 < 4
  · rw [if_pos (by omega), dif_pos h2]
    obtain ⟨j, rfl⟩ := exists_last l h1 h2
    rw [show (⟨((⟨12 + (j : ℕ), by omega⟩ : Fin 128) : ℕ) - 8 - 4, h2⟩ : Fin 4) = j from Fin.ext (by simp only; omega)]
    rw [← bz_a m c t ht i j, ← bs_a m c t j]
  · rw [if_neg (by omega), dif_neg h2]

end Points

/-- The earlier blocks' sum, carried from point to point. -/
theorem carry (l : Fin 128) : ∀ (n : ℕ) (hn : n < 4) (h : n < cfg0.N),
    (show FVec Ideal S1x128 .f32 from (outsAt0 m c n h).2) (ix2 0 l) = below (fun r => -soft (-zz m c r l)) (512 * (n + 1))
  | 0, hn, h => by
    have hA := outsAt0_A m c ⟨0, h⟩ (by show 0 % 4 = 0; omega)
    dsimp only at hA
    rw [hA]; frame_out
    refine (pay7 _ _ _ l).trans ((bt_below m c ⟨0, h⟩ hn _ _ l ?_).trans (congrArg (below _) (by simp)))
    exact (pay2 l).trans (below_zero _).symm
  | n + 1, hn, h => by
    have hB := outsAt0_B m c ⟨n + 1, h⟩ (by show ¬(n + 1) % 4 = 0; omega)
    dsimp only at hB
    rw [hB]; frame_out
    refine (pay7 _ _ _ l).trans ((bt_below m c ⟨n + 1, h⟩ hn _ _ l ?_).trans (congrArg (below _) (by simp only; omega)))
    refine (congrFun (Memref.IsWhole.read_unread (Memref.isWhole_whole cc0_scratch0) _) (ix2 0 l)).trans ?_
    exact carry l n (by omega) (by omega)

/-- A point's block of the gates. -/
theorem point (t : Fin cfg0.N) (ht : t.val < 4) (i : Fin 512) (l : Fin 128) :
    (show FVec Ideal S512x128 .f32 from (outsAt0 m c t.val t.isLt).1) (ix2 i l)
      = val (a0 m c) (a1 m c) (a2 m c) (a3 m c) ⟨512 * t.val + i, by omega⟩ l := by
  by_cases h : t.val = 0
  · rw [outsAt0_A m c t (by omega)]; frame_out
    refine (pay1 _ _ _ _ i l).trans (bd_eq m c t ht i _ (fun l => ?_) l)
    refine (pay2 l).trans ((below_zero _).symm.trans (congrArg (below _) ?_))
    omega
  · rw [outsAt0_B m c t (by omega)]; frame_out
    refine (pay1 _ _ _ _ i l).trans (bd_eq m c t ht i _ (fun l => ?_) l)
    refine (congrFun (Memref.IsWhole.read_unread (Memref.isWhole_whole cc0_scratch0) _) (ix2 0 l)).trans ?_
    exact (carry m c l (t.val - 1) (by omega) (by omega)).trans (congrArg (below _) (by omega))

/-- The array the kernel leaves: each block is the gates' block, and the blocks cover the array. -/
theorem final (i : Fin 2048) (j : Fin 128) :
    (show FVec Ideal S2048x128 .f32 from (dats m 0 c).arrAt 3 (cfgs 0).N) (ix2 i j) = val (a0 m c) (a1 m c) (a2 m c) (a3 m c) i j := by
  have e : (dats m 0 c).arrAt 3 (cfgs 0).N = (show FVec Ideal S2048x128 .f32 from
      fun i => val (a0 m c) (a1 m c) (a2 m c) (a3 m c) (i 0) (i 1 : Fin 128)) := by
    refine (dats m 0 c).arrAt_eq_of_covers 3 _ (by decide +kernel) fun t _ y => ?_
    have h := idx t
    have ht := h.2.2.2.2
    blk_simp
    obtain ⟨a, b, rfl⟩ : ∃ (a : Fin 512) (b : Fin 128), y = ix2 a b := ⟨y 0, y 1, by funext a; fin_cases a <;> rfl⟩
    rw [after0_3]
    refine (point m c t ht a b).trans ?_
    congr 1
    · apply Fin.ext; blk_simp [h.2.2.2.1]; exact congrArg (· + _) (mul_comm _ _)
    · blk_simp [h.2.2.2.1]
  exact congrFun e (ix2 i j)

theorem same (x0 : FVec Ideal S2048x3840 .f32) (x1 : FVec Ideal S1x8 .f32) (x2 x3 : FVec Ideal S1x4 .f32)
    (e0 : x0 = a0 m c) (e1 : x1 = a1 m c) (e2 : x2 = a2 m c) (e3 : x3 = a3 m c) :
    Cert.Reference19Ideal.Read.val_main_v22 (F := Ideal) x0 x1 x2 x3 = (dats m 0 c).arrAt 3 cfg0.N := by
  subst e0 e1 e2 e3
  exact ext2 (a := 2048) (b := 128) fun i j => (reference _ _ _ _ i j).trans (final m c i j).symm

theorem algebraic : Cert.algebraic_Kernel19Ideal_Reference19Ideal := by
  intro m g m' g' _ hargs
  refine ⟨fun c => (dats m 0 c).arrAt 3 cfg0.N, Cert.Kernel19Ideal.Value.run_blocks m g,
    (θ_run _ _ _).mono (fun r h c => ?_) (Cert.Reference19Ideal.Value.run m' g')⟩
  obtain ⟨hd, ha⟩ := h c
  obtain ⟨e0, e1, e2, e3⟩ := hargs c
  exact ⟨(hd.trans (Cert.Reference19Ideal.Read.val_main_v22_eq _ _)).trans (same m c _ _ _ _ e0 e1 e2 e3), ha⟩

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

end Cert.FwdGates

end
-- ==== Proof.Products.Input.lean ====
/- The optimiser's step for the input projection: each block of columns gets the step of its own gradient, and the two
   halves of the gradient are put together in the order of the rows. -/
module

public import proofs.«01_k».proof.Defs
public import proofs.«01_k».proof.Proof.Reals
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.Pointwise
public import Idealize.ShloMosaic.Lib.WordCmp
public import Idealize.ShloMosaic.Lib.WritesUnit
public import Idealize.ShloMosaic.Lib.Pipeline.ValueKit
public import Idealize.ShloMosaic.Adequacy
public import Idealize.ShloMosaic.Init

@[expose] public section

set_option maxRecDepth 16384

noncomputable section

namespace Cert.Input

open Idealize.ShloMosaic Idealize.ShloMosaic.TcCoe Idealize.SL.Sem
open Idealize.ShloMosaic.Pipeline (Dat)
open Cert.Reals Cert.Kernel20Ideal Cert.Kernel20Ideal.Gen

/-- The first moment after the step. -/
def mean (g m : EReal) : EReal := Ideal.ofBits .f32 0x3F666666#32 * m + Ideal.ofBits .f32 0x3DCCCCCD#32 * g

/-- The second moment after the step. -/
def spread (g v : EReal) : EReal := Ideal.ofBits .f32 0x3F7FBE77#32 * v + Ideal.ofBits .f32 0x3A83126F#32 * (g * g)

/-- The gradient at a row and a column: the first half's rows, then the second's. -/
def grad (x1 x2 : FVec Ideal S512x1024 .f32) (i : Fin 900) (j : Fin 1024) : EReal :=
  if h : i.val < 512 then x1 (ix2 ⟨i.val, h⟩ j) else x2 (ix2 ⟨i.val - 512, by omega⟩ j)

theorem pay4 (g m : FVec Ideal S900x256 .f32) (i : Fin 900) (j : Fin 256) :
    (k0_pay4 g m : FVec Ideal S900x256 .f32) (ix2 i j) = mean (g (ix2 i j)) (m (ix2 i j)) := by
  pointwise [k0_pay4, mean]

theorem pay5 (g v : FVec Ideal S900x256 .f32) (i : Fin 900) (j : Fin 256) :
    (k0_pay5 g v : FVec Ideal S900x256 .f32) (ix2 i j) = spread (g (ix2 i j)) (v (ix2 i j)) := by
  pointwise [k0_pay5, spread]

/-- The first half of the scratch holds the one block, the second half the other. -/
theorem pay2 (x y : FVec Ideal S512x256 .f32) (i : Fin 512) (j : Fin 256) : (k0_pay2 x y : FVec Ideal S512x256 .f32) (ix2 i j) = x (ix2 i j) := by
  pointwise [k0_pay2]

theorem pay3 (x y : FVec Ideal S512x256 .f32) (i : Fin 512) (j : Fin 256) : (k0_pay3 x y : FVec Ideal S512x256 .f32) (ix2 i j) = x (ix2 i j) := by
  pointwise [k0_pay3]

/-- The weight's change. -/
def change (w g m v : EReal) : EReal :=
  Ideal.ofBits .f32 0xBA83126F#32 * (Ideal.div (Ideal.div (mean g m) (Ideal.ofBits .f32 0x3F26BD02#32))
    (Ideal.sqrt (Ideal.div (spread g v) (Ideal.ofBits .f32 0x3C231ACC#32)) + Ideal.ofBits .f32 0x322BCC77#32) + Ideal.ofBits .f32 0x3C23D70A#32 * w)

theorem pay1 (w : FVec Ideal S900x256 .f32) (p q : FVec Ideal S900x256 .f32) (g m v : EReal) (i : Fin 900) (j : Fin 256)
    (hp : p (ix2 i j) = spread g v) (hq : q (ix2 i j) = Ideal.div (mean g m) (Ideal.ofBits .f32 0x3F26BD02#32)) :
    (k0_pay1 w p q (Scalar.ofBits .f32 0x3C231ACC#32) : FVec Ideal S900x256 .f32) (ix2 i j) = change (w (ix2 i j)) g m v := by
  pointwise [k0_pay1, change, hp, hq]

theorem pay6 (g m : FVec Ideal S900x256 .f32) (i : Fin 900) (j : Fin 256) :
    (k0_pay6 g m : FVec Ideal S900x256 .f32) (ix2 i j) = Ideal.div (mean (g (ix2 i j)) (m (ix2 i j))) (Ideal.ofBits .f32 0x3F26BD02#32) := by
  pointwise [k0_pay6, pay4]

/-- The four results at a row and a column, in terms of the five arrays. -/
def val6 (x0 x3 x4 : FVec Ideal S900x1024 .f32) (x1 x2 : FVec Ideal S512x1024 .f32) (i : Fin 900) (j : Fin 1024) : EReal :=
  change (x0 (ix2 i j)) (grad x1 x2 i j) (x3 (ix2 i j)) (x4 (ix2 i j))

def val7 (x3 : FVec Ideal S900x1024 .f32) (x1 x2 : FVec Ideal S512x1024 .f32) (i : Fin 900) (j : Fin 1024) : EReal :=
  mean (grad x1 x2 i j) (x3 (ix2 i j))

def val8 (x4 : FVec Ideal S900x1024 .f32) (x1 x2 : FVec Ideal S512x1024 .f32) (i : Fin 900) (j : Fin 1024) : EReal :=
  spread (grad x1 x2 i j) (x4 (ix2 i j))

theorem refG (x1 x2 : FVec Ideal S512x1024 .f32) (i : Fin 900) (j : Fin 1024) :
    (Cert.Reference20Ideal.Read.val_main_v1 (F := Ideal) x1 x2 : FVec Ideal S900x1024 .f32) (ix2 i j) = grad x1 x2 i j := by
  unfold grad Cert.Reference20Ideal.Read.val_main_v1 Cert.Reference20Ideal.Read.val_main_v0
  pointwise []

theorem refM (x1 x2 : FVec Ideal S512x1024 .f32) (x3 : FVec Ideal S900x1024 .f32) (i : Fin 900) (j : Fin 1024) :
    (Cert.Reference20Ideal.Read.val_main_v6 (F := Ideal) x1 x2 x3 : FVec Ideal S900x1024 .f32) (ix2 i j) = mean (grad x1 x2 i j) (x3 (ix2 i j)) := by
  pointwise [Cert.Reference20Ideal.Read.val_main_v2, Cert.Reference20Ideal.Read.val_main_v3, Cert.Reference20Ideal.Read.val_main_v4, Cert.Reference20Ideal.Read.val_main_v5, Cert.Reference20Ideal.Read.val_main_v6, Cert.Reference20Ideal.Read.val_main_cst, Cert.Reference20Ideal.Read.val_main_cst_0, refG, mean]

theorem refV (x1 x2 : FVec Ideal S512x1024 .f32) (x4 : FVec Ideal S900x1024 .f32) (i : Fin 900) (j : Fin 1024) :
    (Cert.Reference20Ideal.Read.val_main_v12 (F := Ideal) x1 x2 x4 : FVec Ideal S900x1024 .f32) (ix2 i j) = spread (grad x1 x2 i j) (x4 (ix2 i j)) := by
  pointwise [Cert.Reference20Ideal.Read.val_main_v7, Cert.Reference20Ideal.Read.val_main_v8, Cert.Reference20Ideal.Read.val_main_v9, Cert.Reference20Ideal.Read.val_main_v10, Cert.Reference20Ideal.Read.val_main_v11, Cert.Reference20Ideal.Read.val_main_v12, Cert.Reference20Ideal.Read.val_main_cst_1, Cert.Reference20Ideal.Read.val_main_cst_2, refG, spread]

theorem refD (x0 : FVec Ideal S900x1024 .f32) (x1 x2 : FVec Ideal S512x1024 .f32) (x3 x4 : FVec Ideal S900x1024 .f32) (i : Fin 900) (j : Fin 1024) :
    (Cert.Reference20Ideal.Read.val_main_v25 (F := Ideal) x0 x1 x2 x3 x4 : FVec Ideal S900x1024 .f32) (ix2 i j) = change (x0 (ix2 i j)) (grad x1 x2 i j) (x3 (ix2 i j)) (x4 (ix2 i j)) := by
  pointwise [Cert.Reference20Ideal.Read.val_main_v13, Cert.Reference20Ideal.Read.val_main_v14, Cert.Reference20Ideal.Read.val_main_v15, Cert.Reference20Ideal.Read.val_main_v16, Cert.Reference20Ideal.Read.val_main_v17, Cert.Reference20Ideal.Read.val_main_v18, Cert.Reference20Ideal.Read.val_main_v19, Cert.Reference20Ideal.Read.val_main_v20, Cert.Reference20Ideal.Read.val_main_v21, Cert.Reference20Ideal.Read.val_main_v22, Cert.Reference20Ideal.Read.val_main_v23, Cert.Reference20Ideal.Read.val_main_v24, Cert.Reference20Ideal.Read.val_main_v25, Cert.Reference20Ideal.Read.val_main_cst_3, Cert.Reference20Ideal.Read.val_main_cst_4, Cert.Reference20Ideal.Read.val_main_cst_5, Cert.Reference20Ideal.Read.val_main_cst_6, Cert.Reference20Ideal.Read.val_main_cst_7, refM, refV, change]

variable (m : (ℓ : Loc nD τ sig) → Buf (Elt Ideal) ℓ)

theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ win0_8.index t = ![0, t.val] ∧ t.val < 4 :=
  (by decide +kernel : ∀ t : Fin grid0.N, _)

theorem col0 (c : Dev nD) (t : Fin cfg0.N) (a : Fin 900) (b : Fin 256) (ht : t.val < 4) :
    (show FVec Ideal S900x256 .f32 from iblk m c 0 t) (ix2 a b) = (show FVec Ideal S900x1024 .f32 from m ((c : Thread nD τ).loc main_arg0)) (ix2 a ⟨256 * t.val + b, by omega⟩) := by
  blk_ext [iblk, V, (idx t).1]

theorem col1 (c : Dev nD) (t : Fin cfg0.N) (a : Fin 512) (b : Fin 256) (ht : t.val < 4) :
    (show FVec Ideal S512x256 .f32 from iblk m c 1 t) (ix2 a b) = (show FVec Ideal S512x1024 .f32 from m ((c : Thread nD τ).loc main_arg1)) (ix2 a ⟨256 * t.val + b, by omega⟩) := by
  blk_ext [iblk, V, (idx t).2.1]

theorem col2 (c : Dev nD) (t : Fin cfg0.N) (a : Fin 512) (b : Fin 256) (ht : t.val < 4) :
    (show FVec Ideal S512x256 .f32 from iblk m c 2 t) (ix2 a b) = (show FVec Ideal S512x1024 .f32 from m ((c : Thread nD τ).loc main_arg2)) (ix2 a ⟨256 * t.val + b, by omega⟩) := by
  blk_ext [iblk, V, (idx t).2.2.1]

theorem col3 (c : Dev nD) (t : Fin cfg0.N) (a : Fin 900) (b : Fin 256) (ht : t.val < 4) :
    (show FVec Ideal S900x256 .f32 from iblk m c 3 t) (ix2 a b) = (show FVec Ideal S900x1024 .f32 from m ((c : Thread nD τ).loc main_arg3)) (ix2 a ⟨256 * t.val + b, by omega⟩) := by
  blk_ext [iblk, V, (idx t).2.2.2.1]

theorem col4 (c : Dev nD) (t : Fin cfg0.N) (a : Fin 900) (b : Fin 256) (ht : t.val < 4) :
    (show FVec Ideal S900x256 .f32 from iblk m c 4 t) (ix2 a b) = (show FVec Ideal S900x1024 .f32 from m ((c : Thread nD τ).loc main_arg4)) (ix2 a ⟨256 * t.val + b, by omega⟩) := by
  blk_ext [iblk, V, (idx t).2.2.2.2.1]

/-- The gradient of a block of columns: the scratch's first rows, of which the first half is the one block and the rest the other. -/
theorem rows (c : Dev nD) (t : Fin cfg0.N) (ht : t.val < 4) (i : Fin 900) (j : Fin 256) :
    (show FVec Ideal S900x256 .f32 from (View.whole cc0_scratch0).readCov (Val := Elt Ideal)
      [⟨Rect.unit (s := S1024x256) ![512, 0] S512x256.size inb_S1024x256_S512x256_512_0, k0_pay3 (iblk m c 2 t) (iblk m c 1 t)⟩,
        ⟨Rect.unit (s := S1024x256) ![0, 0] S512x256.size inb_S1024x256_S512x256_0_0, k0_pay2 (iblk m c 1 t) (iblk m c 2 t)⟩]
      (Rect.unit (s := S1024x256) ![0, 0] S900x256.size inb_S1024x256_S900x256_0_0).toLoadRect) (ix2 i j)
      = grad (m ((c : Thread nD τ).loc main_arg1)) (m ((c : Thread nD τ).loc main_arg2)) i ⟨256 * t.val + j, by omega⟩ := by
  refine (View.readAt_apply _ _ _).trans ?_
  unfold grad
  by_cases h : i.val < 512
  · rw [dif_pos h]
    refine (View.read_writes_cons_rows_of_not_mem (o := 512) (W := 512) _ _ _ _ _ _ rfl rfl (Or.inl ?_)).trans ?_
    · show 0 + 1 * i.val < 512
      omega
    refine Eq.trans (View.read_writes_cons_rows_of_mem (o := 0) _ _ _ _ _ _ (ix2 (⟨i.val, h⟩ : Fin 512) j) rfl ?_ ?_) ?_
    · show 0 + 1 * i.val = 0 + i.val
      omega
    · show 0 + 1 * j.val = j.val
      omega
    exact (pay2 _ _ _ _).trans (col1 m c t _ j ht)
  · rw [dif_neg h]
    refine Eq.trans (View.read_writes_cons_rows_of_mem (o := 512) _ _ _ _ _ _ (ix2 (⟨i.val - 512, by omega⟩ : Fin 512) j) rfl ?_ ?_) ?_
    · show 0 + 1 * i.val = 512 + (i.val - 512)
      omega
    · show 0 + 1 * j.val = j.val
      omega
    exact (pay3 _ _ _ _).trans (col2 m c t _ j ht)

/-- The gradient, at a point's block. -/
theorem point5 (c : Dev nD) (t : Fin cfg0.N) (ht : t.val < 4) (i : Fin 900) (j : Fin 256) :
    (show FVec Ideal S900x256 .f32 from (outsAt0 m c t).1) (ix2 i j)
      = grad (m ((c : Thread nD τ).loc main_arg1)) (m ((c : Thread nD τ).loc main_arg2)) i ⟨256 * t.val + j, by omega⟩ := by
  frame_out
  exact rows m c t ht i j

/-- The gradient the kernel leaves: the blocks cover the array. -/
theorem final5 (c : Dev nD) (i : Fin 900) (j : Fin 1024) :
    (show FVec Ideal S900x1024 .f32 from (dats m 0 c).arrAt 5 (cfgs 0).N) (ix2 i j)
      = grad (m ((c : Thread nD τ).loc main_arg1)) (m ((c : Thread nD τ).loc main_arg2)) i j := by
  have e : (dats m 0 c).arrAt 5 (cfgs 0).N = (show FVec Ideal S900x1024 .f32 from fun k => grad (m ((c : Thread nD τ).loc main_arg1)) (m ((c : Thread nD τ).loc main_arg2)) (k 0) (k 1)) := by
    refine (dats m 0 c).arrAt_eq_of_covers 5 _ (by decide +kernel) fun t _ y => ?_
    have h := idx t
    have ht := h.2.2.2.2.2.2.2.2.2
    blk_simp
    obtain ⟨a, b, rfl⟩ : ∃ (a : Fin 900) (b : Fin 256), y = ix2 a b := ⟨y 0, y 1, by funext a; fin_cases a <;> rfl⟩
    rw [after0_5]
    refine (point5 m c t ht a b).trans ?_
    refine congrArg₂ (grad (m ((c : Thread nD τ).loc main_arg1)) (m ((c : Thread nD τ).loc main_arg2))) ?_ ?_
    · apply Fin.ext; blk_simp [h.2.2.2.2.2.1]
    · apply Fin.ext; blk_simp [h.2.2.2.2.2.1]; exact congrArg (· + _) (mul_comm _ _)
  exact congrFun e (ix2 i j)

theorem same5 (c : Dev nD) (x0 : FVec Ideal S900x1024 .f32) (x1 x2 : FVec Ideal S512x1024 .f32) (x3 x4 : FVec Ideal S900x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.Reference20Ideal.Read.val_main_v1 (F := Ideal) x1 x2 = (dats m 0 c).arrAt 5 cfg0.N := by
  subst e0 e1 e2 e3 e4
  exact ext2 (a := 900) (b := 1024) fun i j => (refG _ _ i j).trans (final5 m c i j).symm

/-- The weight's change, at a point's block. -/
theorem point6 (c : Dev nD) (t : Fin cfg0.N) (ht : t.val < 4) (i : Fin 900) (j : Fin 256) :
    (show FVec Ideal S900x256 .f32 from (outsAt0 m c t).2.1) (ix2 i j)
      = val6 (m ((c : Thread nD τ).loc main_arg0)) (m ((c : Thread nD τ).loc main_arg3)) (m ((c : Thread nD τ).loc main_arg4)) (m ((c : Thread nD τ).loc main_arg1)) (m ((c : Thread nD τ).loc main_arg2)) i ⟨256 * t.val + j, by omega⟩ := by
  frame_out
  refine (pay1 _ _ _ _ _ _ i j ((pay5 _ _ i j).trans (congrArg₂ spread (rows m c t ht i j) (col4 m c t i j ht)))
    ((pay6 _ _ i j).trans (congrArg (Ideal.div · _) (congrArg₂ mean (rows m c t ht i j) (col3 m c t i j ht))))).trans ?_
  exact congrArg (change · _ _ _) (col0 m c t i j ht)

/-- The weight's change the kernel leaves: the blocks cover the array. -/
theorem final6 (c : Dev nD) (i : Fin 900) (j : Fin 1024) :
    (show FVec Ideal S900x1024 .f32 from (dats m 0 c).arrAt 6 (cfgs 0).N) (ix2 i j)
      = val6 (m ((c : Thread nD τ).loc main_arg0)) (m ((c : Thread nD τ).loc main_arg3)) (m ((c : Thread nD τ).loc main_arg4)) (m ((c : Thread nD τ).loc main_arg1)) (m ((c : Thread nD τ).loc main_arg2)) i j := by
  have e : (dats m 0 c).arrAt 6 (cfgs 0).N = (show FVec Ideal S900x1024 .f32 from fun k => val6 (m ((c : Thread nD τ).loc main_arg0)) (m ((c : Thread nD τ).loc main_arg3)) (m ((c : Thread nD τ).loc main_arg4)) (m ((c : Thread nD τ).loc main_arg1)) (m ((c : Thread nD τ).loc main_arg2)) (k 0) (k 1)) := by
    refine (dats m 0 c).arrAt_eq_of_covers 6 _ (by decide +kernel) fun t _ y => ?_
    have h := idx t
    have ht := h.2.2.2.2.2.2.2.2.2
    blk_simp
    obtain ⟨a, b, rfl⟩ : ∃ (a : Fin 900) (b : Fin 256), y = ix2 a b := ⟨y 0, y 1, by funext a; fin_cases a <;> rfl⟩
    rw [after0_6]
    refine (point6 m c t ht a b).trans ?_
    refine congrArg₂ (val6 (m ((c : Thread nD τ).loc main_arg0)) (m ((c : Thread nD τ).loc main_arg3)) (m ((c : Thread nD τ).loc main_arg4)) (m ((c : Thread nD τ).loc main_arg1)) (m ((c : Thread nD τ).loc main_arg2))) ?_ ?_
    · apply Fin.ext; blk_simp [h.2.2.2.2.2.2.1]
    · apply Fin.ext; blk_simp [h.2.2.2.2.2.2.1]; exact congrArg (· + _) (mul_comm _ _)
  exact congrFun e (ix2 i j)

theorem same6 (c : Dev nD) (x0 : FVec Ideal S900x1024 .f32) (x1 x2 : FVec Ideal S512x1024 .f32) (x3 x4 : FVec Ideal S900x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.Reference20Ideal.Read.val_main_v25 (F := Ideal) x0 x1 x2 x3 x4 = (dats m 0 c).arrAt 6 cfg0.N := by
  subst e0 e1 e2 e3 e4
  exact ext2 (a := 900) (b := 1024) fun i j => (refD _ _ _ _ _ i j).trans (final6 m c i j).symm

/-- The first moment, at a point's block. -/
theorem point7 (c : Dev nD) (t : Fin cfg0.N) (ht : t.val < 4) (i : Fin 900) (j : Fin 256) :
    (show FVec Ideal S900x256 .f32 from (outsAt0 m c t).2.2.1) (ix2 i j)
      = val7 (m ((c : Thread nD τ).loc main_arg3)) (m ((c : Thread nD τ).loc main_arg1)) (m ((c : Thread nD τ).loc main_arg2)) i ⟨256 * t.val + j, by omega⟩ := by
  frame_out
  exact (pay4 _ _ i j).trans (congrArg₂ mean (rows m c t ht i j) (col3 m c t i j ht))

/-- The first moment the kernel leaves: the blocks cover the array. -/
theorem final7 (c : Dev nD) (i : Fin 900) (j : Fin 1024) :
    (show FVec Ideal S900x1024 .f32 from (dats m 0 c).arrAt 7 (cfgs 0).N) (ix2 i j)
      = val7 (m ((c : Thread nD τ).loc main_arg3)) (m ((c : Thread nD τ).loc main_arg1)) (m ((c : Thread nD τ).loc main_arg2)) i j := by
  have e : (dats m 0 c).arrAt 7 (cfgs 0).N = (show FVec Ideal S900x1024 .f32 from fun k => val7 (m ((c : Thread nD τ).loc main_arg3)) (m ((c : Thread nD τ).loc main_arg1)) (m ((c : Thread nD τ).loc main_arg2)) (k 0) (k 1)) := by
    refine (dats m 0 c).arrAt_eq_of_covers 7 _ (by decide +kernel) fun t _ y => ?_
    have h := idx t
    have ht := h.2.2.2.2.2.2.2.2.2
    blk_simp
    obtain ⟨a, b, rfl⟩ : ∃ (a : Fin 900) (b : Fin 256), y = ix2 a b := ⟨y 0, y 1, by funext a; fin_cases a <;> rfl⟩
    rw [after0_7]
    refine (point7 m c t ht a b).trans ?_
    refine congrArg₂ (val7 (m ((c : Thread nD τ).loc main_arg3)) (m ((c : Thread nD τ).loc main_arg1)) (m ((c : Thread nD τ).loc main_arg2))) ?_ ?_
    · apply Fin.ext; blk_simp [h.2.2.2.2.2.2.2.1]
    · apply Fin.ext; blk_simp [h.2.2.2.2.2.2.2.1]; exact congrArg (· + _) (mul_comm _ _)
  exact congrFun e (ix2 i j)

theorem same7 (c : Dev nD) (x0 : FVec Ideal S900x1024 .f32) (x1 x2 : FVec Ideal S512x1024 .f32) (x3 x4 : FVec Ideal S900x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.Reference20Ideal.Read.val_main_v6 (F := Ideal) x1 x2 x3 = (dats m 0 c).arrAt 7 cfg0.N := by
  subst e0 e1 e2 e3 e4
  exact ext2 (a := 900) (b := 1024) fun i j => (refM _ _ _ i j).trans (final7 m c i j).symm

/-- The second moment, at a point's block. -/
theorem point8 (c : Dev nD) (t : Fin cfg0.N) (ht : t.val < 4) (i : Fin 900) (j : Fin 256) :
    (show FVec Ideal S900x256 .f32 from (outsAt0 m c t).2.2.2) (ix2 i j)
      = val8 (m ((c : Thread nD τ).loc main_arg4)) (m ((c : Thread nD τ).loc main_arg1)) (m ((c : Thread nD τ).loc main_arg2)) i ⟨256 * t.val + j, by omega⟩ := by
  frame_out
  exact (pay5 _ _ i j).trans (congrArg₂ spread (rows m c t ht i j) (col4 m c t i j ht))

/-- The second moment the kernel leaves: the blocks cover the array. -/
theorem final8 (c : Dev nD) (i : Fin 900) (j : Fin 1024) :
    (show FVec Ideal S900x1024 .f32 from (dats m 0 c).arrAt 8 (cfgs 0).N) (ix2 i j)
      = val8 (m ((c : Thread nD τ).loc main_arg4)) (m ((c : Thread nD τ).loc main_arg1)) (m ((c : Thread nD τ).loc main_arg2)) i j := by
  have e : (dats m 0 c).arrAt 8 (cfgs 0).N = (show FVec Ideal S900x1024 .f32 from fun k => val8 (m ((c : Thread nD τ).loc main_arg4)) (m ((c : Thread nD τ).loc main_arg1)) (m ((c : Thread nD τ).loc main_arg2)) (k 0) (k 1)) := by
    refine (dats m 0 c).arrAt_eq_of_covers 8 _ (by decide +kernel) fun t _ y => ?_
    have h := idx t
    have ht := h.2.2.2.2.2.2.2.2.2
    blk_simp
    obtain ⟨a, b, rfl⟩ : ∃ (a : Fin 900) (b : Fin 256), y = ix2 a b := ⟨y 0, y 1, by funext a; fin_cases a <;> rfl⟩
    rw [after0_8]
    refine (point8 m c t ht a b).trans ?_
    refine congrArg₂ (val8 (m ((c : Thread nD τ).loc main_arg4)) (m ((c : Thread nD τ).loc main_arg1)) (m ((c : Thread nD τ).loc main_arg2))) ?_ ?_
    · apply Fin.ext; blk_simp [h.2.2.2.2.2.2.2.2.1]
    · apply Fin.ext; blk_simp [h.2.2.2.2.2.2.2.2.1]; exact congrArg (· + _) (mul_comm _ _)
  exact congrFun e (ix2 i j)

theorem same8 (c : Dev nD) (x0 : FVec Ideal S900x1024 .f32) (x1 x2 : FVec Ideal S512x1024 .f32) (x3 x4 : FVec Ideal S900x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.Reference20Ideal.Read.val_main_v12 (F := Ideal) x1 x2 x4 = (dats m 0 c).arrAt 8 cfg0.N := by
  subst e0 e1 e2 e3 e4
  exact ext2 (a := 900) (b := 1024) fun i j => (refV _ _ _ i j).trans (final8 m c i j).symm

theorem algebraic : Cert.algebraic_Kernel20Ideal_Reference20Ideal := by
  intro m g m' g' _ hargs
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel20Ideal.Value.run_blocks m g,
    (θ_run _ _ _).mono (fun r h c => ?_) (Cert.Reference20Ideal.Value.run m' g')⟩
  obtain ⟨hg, hd, hm, hv, ha⟩ := h c
  obtain ⟨e0, e1, e2, e3, e4⟩ := hargs c
  exact ⟨(hg.trans (Cert.Reference20Ideal.Read.val_main_v1_eq _ _)).trans (same5 m c _ _ _ _ _ e0 e1 e2 e3 e4),
    (hd.trans (Cert.Reference20Ideal.Read.val_main_v25_eq _ _ _ _ _)).trans (same6 m c _ _ _ _ _ e0 e1 e2 e3 e4),
    (hm.trans (Cert.Reference20Ideal.Read.val_main_v6_eq _ _ _)).trans (same7 m c _ _ _ _ _ e0 e1 e2 e3 e4),
    (hv.trans (Cert.Reference20Ideal.Read.val_main_v12_eq _ _ _)).trans (same8 m c _ _ _ _ _ e0 e1 e2 e3 e4), ha⟩

theorem frame_reference : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run m ρ)

end Cert.Input

end
-- ==== Proof.Products.Other.lean ====
/- The same step on the chip's other core: its half of the gradient is the last rows, so the halves change places. -/
module

public import proofs.«01_k».proof.Defs
public import proofs.«01_k».proof.Proof.Reals
public import proofs.«01_k».proof.Proof.Products.Input
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.Pointwise
public import Idealize.ShloMosaic.Lib.WordCmp
public import Idealize.ShloMosaic.Lib.WritesUnit
public import Idealize.ShloMosaic.Lib.Pipeline.ValueKit
public import Idealize.ShloMosaic.Adequacy
public import Idealize.ShloMosaic.Init

@[expose] public section

set_option maxRecDepth 16384

noncomputable section

namespace Cert.Other

open Idealize.ShloMosaic Idealize.ShloMosaic.TcCoe Idealize.SL.Sem
open Idealize.ShloMosaic.Pipeline (Dat)
open Cert.Input (mean spread change)
open Cert.Reals Cert.Kernel21Ideal Cert.Kernel21Ideal.Gen

/-- The gradient at a row and a column: the rows of the other core's half, then its own. -/
def grad (x1 x2 : FVec Ideal S512x1024 .f32) (i : Fin 900) (j : Fin 1024) : EReal :=
  if h : i.val < 512 then x2 (ix2 ⟨i.val, h⟩ j) else x1 (ix2 ⟨i.val - 512, by omega⟩ j)

theorem pay4 (g m : FVec Ideal S900x256 .f32) (i : Fin 900) (j : Fin 256) :
    (k0_pay4 g m : FVec Ideal S900x256 .f32) (ix2 i j) = mean (g (ix2 i j)) (m (ix2 i j)) := by
  pointwise [k0_pay4, mean]

theorem pay5 (g v : FVec Ideal S900x256 .f32) (i : Fin 900) (j : Fin 256) :
    (k0_pay5 g v : FVec Ideal S900x256 .f32) (ix2 i j) = spread (g (ix2 i j)) (v (ix2 i j)) := by
  pointwise [k0_pay5, spread]

/-- The first half of the scratch holds the one block, the second half the other. -/
theorem pay2 (x y : FVec Ideal S512x256 .f32) (i : Fin 512) (j : Fin 256) : (k0_pay2 x y : FVec Ideal S512x256 .f32) (ix2 i j) = y (ix2 i j) := by
  pointwise [k0_pay2]

theorem pay3 (x y : FVec Ideal S512x256 .f32) (i : Fin 512) (j : Fin 256) : (k0_pay3 x y : FVec Ideal S512x256 .f32) (ix2 i j) = y (ix2 i j) := by
  pointwise [k0_pay3]

theorem pay1 (w : FVec Ideal S900x256 .f32) (p q : FVec Ideal S900x256 .f32) (g m v : EReal) (i : Fin 900) (j : Fin 256)
    (hp : p (ix2 i j) = spread g v) (hq : q (ix2 i j) = Ideal.div (mean g m) (Ideal.ofBits .f32 0x3F26BD02#32)) :
    (k0_pay1 w p q (Scalar.ofBits .f32 0x3C231ACC#32) : FVec Ideal S900x256 .f32) (ix2 i j) = change (w (ix2 i j)) g m v := by
  pointwise [k0_pay1, change, hp, hq]

theorem pay6 (g m : FVec Ideal S900x256 .f32) (i : Fin 900) (j : Fin 256) :
    (k0_pay6 g m : FVec Ideal S900x256 .f32) (ix2 i j) = Ideal.div (mean (g (ix2 i j)) (m (ix2 i j))) (Ideal.ofBits .f32 0x3F26BD02#32) := by
  pointwise [k0_pay6, pay4]

/-- The four results at a row and a column, in terms of the five arrays. -/
def val6 (x0 x3 x4 : FVec Ideal S900x1024 .f32) (x1 x2 : FVec Ideal S512x1024 .f32) (i : Fin 900) (j : Fin 1024) : EReal :=
  change (x0 (ix2 i j)) (grad x1 x2 i j) (x3 (ix2 i j)) (x4 (ix2 i j))

def val7 (x3 : FVec Ideal S900x1024 .f32) (x1 x2 : FVec Ideal S512x1024 .f32) (i : Fin 900) (j : Fin 1024) : EReal :=
  mean (grad x1 x2 i j) (x3 (ix2 i j))

def val8 (x4 : FVec Ideal S900x1024 .f32) (x1 x2 : FVec Ideal S512x1024 .f32) (i : Fin 900) (j : Fin 1024) : EReal :=
  spread (grad x1 x2 i j) (x4 (ix2 i j))

theorem refG (x1 x2 : FVec Ideal S512x1024 .f32) (i : Fin 900) (j : Fin 1024) :
    (Cert.Reference21Ideal.Read.val_main_v1 (F := Ideal) x1 x2 : FVec Ideal S900x1024 .f32) (ix2 i j) = grad x1 x2 i j := by
  unfold grad Cert.Reference21Ideal.Read.val_main_v1 Cert.Reference21Ideal.Read.val_main_v0
  pointwise []

theorem refM (x1 x2 : FVec Ideal S512x1024 .f32) (x3 : FVec Ideal S900x1024 .f32) (i : Fin 900) (j : Fin 1024) :
    (Cert.Reference21Ideal.Read.val_main_v6 (F := Ideal) x1 x2 x3 : FVec Ideal S900x1024 .f32) (ix2 i j) = mean (grad x1 x2 i j) (x3 (ix2 i j)) := by
  pointwise [Cert.Reference21Ideal.Read.val_main_v2, Cert.Reference21Ideal.Read.val_main_v3, Cert.Reference21Ideal.Read.val_main_v4, Cert.Reference21Ideal.Read.val_main_v5, Cert.Reference21Ideal.Read.val_main_v6, Cert.Reference21Ideal.Read.val_main_cst, Cert.Reference21Ideal.Read.val_main_cst_0, refG, mean]

theorem refV (x1 x2 : FVec Ideal S512x1024 .f32) (x4 : FVec Ideal S900x1024 .f32) (i : Fin 900) (j : Fin 1024) :
    (Cert.Reference21Ideal.Read.val_main_v12 (F := Ideal) x1 x2 x4 : FVec Ideal S900x1024 .f32) (ix2 i j) = spread (grad x1 x2 i j) (x4 (ix2 i j)) := by
  pointwise [Cert.Reference21Ideal.Read.val_main_v7, Cert.Reference21Ideal.Read.val_main_v8, Cert.Reference21Ideal.Read.val_main_v9, Cert.Reference21Ideal.Read.val_main_v10, Cert.Reference21Ideal.Read.val_main_v11, Cert.Reference21Ideal.Read.val_main_v12, Cert.Reference21Ideal.Read.val_main_cst_1, Cert.Reference21Ideal.Read.val_main_cst_2, refG, spread]

theorem refD (x0 : FVec Ideal S900x1024 .f32) (x1 x2 : FVec Ideal S512x1024 .f32) (x3 x4 : FVec Ideal S900x1024 .f32) (i : Fin 900) (j : Fin 1024) :
    (Cert.Reference21Ideal.Read.val_main_v25 (F := Ideal) x0 x1 x2 x3 x4 : FVec Ideal S900x1024 .f32) (ix2 i j) = change (x0 (ix2 i j)) (grad x1 x2 i j) (x3 (ix2 i j)) (x4 (ix2 i j)) := by
  pointwise [Cert.Reference21Ideal.Read.val_main_v13, Cert.Reference21Ideal.Read.val_main_v14, Cert.Reference21Ideal.Read.val_main_v15, Cert.Reference21Ideal.Read.val_main_v16, Cert.Reference21Ideal.Read.val_main_v17, Cert.Reference21Ideal.Read.val_main_v18, Cert.Reference21Ideal.Read.val_main_v19, Cert.Reference21Ideal.Read.val_main_v20, Cert.Reference21Ideal.Read.val_main_v21, Cert.Reference21Ideal.Read.val_main_v22, Cert.Reference21Ideal.Read.val_main_v23, Cert.Reference21Ideal.Read.val_main_v24, Cert.Reference21Ideal.Read.val_main_v25, Cert.Reference21Ideal.Read.val_main_cst_3, Cert.Reference21Ideal.Read.val_main_cst_4, Cert.Reference21Ideal.Read.val_main_cst_5, Cert.Reference21Ideal.Read.val_main_cst_6, Cert.Reference21Ideal.Read.val_main_cst_7, refM, refV, change]

variable (m : (ℓ : Loc nD τ sig) → Buf (Elt Ideal) ℓ)

theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ win0_8.index t = ![0, t.val] ∧ t.val < 4 :=
  (by decide +kernel : ∀ t : Fin grid0.N, _)

theorem col0 (c : Dev nD) (t : Fin cfg0.N) (a : Fin 900) (b : Fin 256) (ht : t.val < 4) :
    (show FVec Ideal S900x256 .f32 from iblk m c 0 t) (ix2 a b) = (show FVec Ideal S900x1024 .f32 from m ((c : Thread nD τ).loc main_arg0)) (ix2 a ⟨256 * t.val + b, by omega⟩) := by
  blk_ext [iblk, V, (idx t).1]

theorem col1 (c : Dev nD) (t : Fin cfg0.N) (a : Fin 512) (b : Fin 256) (ht : t.val < 4) :
    (show FVec Ideal S512x256 .f32 from iblk m c 1 t) (ix2 a b) = (show FVec Ideal S512x1024 .f32 from m ((c : Thread nD τ).loc main_arg1)) (ix2 a ⟨256 * t.val + b, by omega⟩) := by
  blk_ext [iblk, V, (idx t).2.1]

theorem col2 (c : Dev nD) (t : Fin cfg0.N) (a : Fin 512) (b : Fin 256) (ht : t.val < 4) :
    (show FVec Ideal S512x256 .f32 from iblk m c 2 t) (ix2 a b) = (show FVec Ideal S512x1024 .f32 from m ((c : Thread nD τ).loc main_arg2)) (ix2 a ⟨256 * t.val + b, by omega⟩) := by
  blk_ext [iblk, V, (idx t).2.2.1]

theorem col3 (c : Dev nD) (t : Fin cfg0.N) (a : Fin 900) (b : Fin 256) (ht : t.val < 4) :
    (show FVec Ideal S900x256 .f32 from iblk m c 3 t) (ix2 a b) = (show FVec Ideal S900x1024 .f32 from m ((c : Thread nD τ).loc main_arg3)) (ix2 a ⟨256 * t.val + b, by omega⟩) := by
  blk_ext [iblk, V, (idx t).2.2.2.1]

theorem col4 (c : Dev nD) (t : Fin cfg0.N) (a : Fin 900) (b : Fin 256) (ht : t.val < 4) :
    (show FVec Ideal S900x256 .f32 from iblk m c 4 t) (ix2 a b) = (show FVec Ideal S900x1024 .f32 from m ((c : Thread nD τ).loc main_arg4)) (ix2 a ⟨256 * t.val + b, by omega⟩) := by
  blk_ext [iblk, V, (idx t).2.2.2.2.1]

/-- The gradient of a block of columns: the scratch's first rows, of which the first half is the one block and the rest the other. -/
theorem rows (c : Dev nD) (t : Fin cfg0.N) (ht : t.val < 4) (i : Fin 900) (j : Fin 256) :
    (show FVec Ideal S900x256 .f32 from (View.whole cc0_scratch0).readCov (Val := Elt Ideal)
      [⟨Rect.unit (s := S1024x256) ![512, 0] S512x256.size inb_S1024x256_S512x256_512_0, k0_pay3 (iblk m c 2 t) (iblk m c 1 t)⟩,
        ⟨Rect.unit (s := S1024x256) ![0, 0] S512x256.size inb_S1024x256_S512x256_0_0, k0_pay2 (iblk m c 1 t) (iblk m c 2 t)⟩]
      (Rect.unit (s := S1024x256) ![0, 0] S900x256.size inb_S1024x256_S900x256_0_0).toLoadRect) (ix2 i j)
      = grad (m ((c : Thread nD τ).loc main_arg1)) (m ((c : Thread nD τ).loc main_arg2)) i ⟨256 * t.val + j, by omega⟩ := by
  refine (View.readAt_apply _ _ _).trans ?_
  unfold grad
  by_cases h : i.val < 512
  · rw [dif_pos h]
    refine (View.read_writes_cons_rows_of_not_mem (o := 512) (W := 512) _ _ _ _ _ _ rfl rfl (Or.inl ?_)).trans ?_
    · show 0 + 1 * i.val < 512
      omega
    refine Eq.trans (View.read_writes_cons_rows_of_mem (o := 0) _ _ _ _ _ _ (ix2 (⟨i.val, h⟩ : Fin 512) j) rfl ?_ ?_) ?_
    · show 0 + 1 * i.val = 0 + i.val
      omega
    · show 0 + 1 * j.val = j.val
      omega
    exact (pay2 _ _ _ _).trans (col2 m c t _ j ht)
  · rw [dif_neg h]
    refine Eq.trans (View.read_writes_cons_rows_of_mem (o := 512) _ _ _ _ _ _ (ix2 (⟨i.val - 512, by omega⟩ : Fin 512) j) rfl ?_ ?_) ?_
    · show 0 + 1 * i.val = 512 + (i.val - 512)
      omega
    · show 0 + 1 * j.val = j.val
      omega
    exact (pay3 _ _ _ _).trans (col1 m c t _ j ht)

/-- The gradient, at a point's block. -/
theorem point5 (c : Dev nD) (t : Fin cfg0.N) (ht : t.val < 4) (i : Fin 900) (j : Fin 256) :
    (show FVec Ideal S900x256 .f32 from (outsAt0 m c t).1) (ix2 i j)
      = grad (m ((c : Thread nD τ).loc main_arg1)) (m ((c : Thread nD τ).loc main_arg2)) i ⟨256 * t.val + j, by omega⟩ := by
  frame_out
  exact rows m c t ht i j

/-- The gradient the kernel leaves: the blocks cover the array. -/
theorem final5 (c : Dev nD) (i : Fin 900) (j : Fin 1024) :
    (show FVec Ideal S900x1024 .f32 from (dats m 0 c).arrAt 5 (cfgs 0).N) (ix2 i j)
      = grad (m ((c : Thread nD τ).loc main_arg1)) (m ((c : Thread nD τ).loc main_arg2)) i j := by
  have e : (dats m 0 c).arrAt 5 (cfgs 0).N = (show FVec Ideal S900x1024 .f32 from fun k => grad (m ((c : Thread nD τ).loc main_arg1)) (m ((c : Thread nD τ).loc main_arg2)) (k 0) (k 1)) := by
    refine (dats m 0 c).arrAt_eq_of_covers 5 _ (by decide +kernel) fun t _ y => ?_
    have h := idx t
    have ht := h.2.2.2.2.2.2.2.2.2
    blk_simp
    obtain ⟨a, b, rfl⟩ : ∃ (a : Fin 900) (b : Fin 256), y = ix2 a b := ⟨y 0, y 1, by funext a; fin_cases a <;> rfl⟩
    rw [after0_5]
    refine (point5 m c t ht a b).trans ?_
    refine congrArg₂ (grad (m ((c : Thread nD τ).loc main_arg1)) (m ((c : Thread nD τ).loc main_arg2))) ?_ ?_
    · apply Fin.ext; blk_simp [h.2.2.2.2.2.1]
    · apply Fin.ext; blk_simp [h.2.2.2.2.2.1]; exact congrArg (· + _) (mul_comm _ _)
  exact congrFun e (ix2 i j)

theorem same5 (c : Dev nD) (x0 : FVec Ideal S900x1024 .f32) (x1 x2 : FVec Ideal S512x1024 .f32) (x3 x4 : FVec Ideal S900x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.Reference21Ideal.Read.val_main_v1 (F := Ideal) x1 x2 = (dats m 0 c).arrAt 5 cfg0.N := by
  subst e0 e1 e2 e3 e4
  exact ext2 (a := 900) (b := 1024) fun i j => (refG _ _ i j).trans (final5 m c i j).symm

/-- The weight's change, at a point's block. -/
theorem point6 (c : Dev nD) (t : Fin cfg0.N) (ht : t.val < 4) (i : Fin 900) (j : Fin 256) :
    (show FVec Ideal S900x256 .f32 from (outsAt0 m c t).2.1) (ix2 i j)
      = val6 (m ((c : Thread nD τ).loc main_arg0)) (m ((c : Thread nD τ).loc main_arg3)) (m ((c : Thread nD τ).loc main_arg4)) (m ((c : Thread nD τ).loc main_arg1)) (m ((c : Thread nD τ).loc main_arg2)) i ⟨256 * t.val + j, by omega⟩ := by
  frame_out
  refine (pay1 _ _ _ _ _ _ i j ((pay5 _ _ i j).trans (congrArg₂ spread (rows m c t ht i j) (col4 m c t i j ht)))
    ((pay6 _ _ i j).trans (congrArg (Ideal.div · _) (congrArg₂ mean (rows m c t ht i j) (col3 m c t i j ht))))).trans ?_
  exact congrArg (change · _ _ _) (col0 m c t i j ht)

/-- The weight's change the kernel leaves: the blocks cover the array. -/
theorem final6 (c : Dev nD) (i : Fin 900) (j : Fin 1024) :
    (show FVec Ideal S900x1024 .f32 from (dats m 0 c).arrAt 6 (cfgs 0).N) (ix2 i j)
      = val6 (m ((c : Thread nD τ).loc main_arg0)) (m ((c : Thread nD τ).loc main_arg3)) (m ((c : Thread nD τ).loc main_arg4)) (m ((c : Thread nD τ).loc main_arg1)) (m ((c : Thread nD τ).loc main_arg2)) i j := by
  have e : (dats m 0 c).arrAt 6 (cfgs 0).N = (show FVec Ideal S900x1024 .f32 from fun k => val6 (m ((c : Thread nD τ).loc main_arg0)) (m ((c : Thread nD τ).loc main_arg3)) (m ((c : Thread nD τ).loc main_arg4)) (m ((c : Thread nD τ).loc main_arg1)) (m ((c : Thread nD τ).loc main_arg2)) (k 0) (k 1)) := by
    refine (dats m 0 c).arrAt_eq_of_covers 6 _ (by decide +kernel) fun t _ y => ?_
    have h := idx t
    have ht := h.2.2.2.2.2.2.2.2.2
    blk_simp
    obtain ⟨a, b, rfl⟩ : ∃ (a : Fin 900) (b : Fin 256), y = ix2 a b := ⟨y 0, y 1, by funext a; fin_cases a <;> rfl⟩
    rw [after0_6]
    refine (point6 m c t ht a b).trans ?_
    refine congrArg₂ (val6 (m ((c : Thread nD τ).loc main_arg0)) (m ((c : Thread nD τ).loc main_arg3)) (m ((c : Thread nD τ).loc main_arg4)) (m ((c : Thread nD τ).loc main_arg1)) (m ((c : Thread nD τ).loc main_arg2))) ?_ ?_
    · apply Fin.ext; blk_simp [h.2.2.2.2.2.2.1]
    · apply Fin.ext; blk_simp [h.2.2.2.2.2.2.1]; exact congrArg (· + _) (mul_comm _ _)
  exact congrFun e (ix2 i j)

theorem same6 (c : Dev nD) (x0 : FVec Ideal S900x1024 .f32) (x1 x2 : FVec Ideal S512x1024 .f32) (x3 x4 : FVec Ideal S900x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.Reference21Ideal.Read.val_main_v25 (F := Ideal) x0 x1 x2 x3 x4 = (dats m 0 c).arrAt 6 cfg0.N := by
  subst e0 e1 e2 e3 e4
  exact ext2 (a := 900) (b := 1024) fun i j => (refD _ _ _ _ _ i j).trans (final6 m c i j).symm

/-- The first moment, at a point's block. -/
theorem point7 (c : Dev nD) (t : Fin cfg0.N) (ht : t.val < 4) (i : Fin 900) (j : Fin 256) :
    (show FVec Ideal S900x256 .f32 from (outsAt0 m c t).2.2.1) (ix2 i j)
      = val7 (m ((c : Thread nD τ).loc main_arg3)) (m ((c : Thread nD τ).loc main_arg1)) (m ((c : Thread nD τ).loc main_arg2)) i ⟨256 * t.val + j, by omega⟩ := by
  frame_out
  exact (pay4 _ _ i j).trans (congrArg₂ mean (rows m c t ht i j) (col3 m c t i j ht))

/-- The first moment the kernel leaves: the blocks cover the array. -/
theorem final7 (c : Dev nD) (i : Fin 900) (j : Fin 1024) :
    (show FVec Ideal S900x1024 .f32 from (dats m 0 c).arrAt 7 (cfgs 0).N) (ix2 i j)
      = val7 (m ((c : Thread nD τ).loc main_arg3)) (m ((c : Thread nD τ).loc main_arg1)) (m ((c : Thread nD τ).loc main_arg2)) i j := by
  have e : (dats m 0 c).arrAt 7 (cfgs 0).N = (show FVec Ideal S900x1024 .f32 from fun k => val7 (m ((c : Thread nD τ).loc main_arg3)) (m ((c : Thread nD τ).loc main_arg1)) (m ((c : Thread nD τ).loc main_arg2)) (k 0) (k 1)) := by
    refine (dats m 0 c).arrAt_eq_of_covers 7 _ (by decide +kernel) fun t _ y => ?_
    have h := idx t
    have ht := h.2.2.2.2.2.2.2.2.2
    blk_simp
    obtain ⟨a, b, rfl⟩ : ∃ (a : Fin 900) (b : Fin 256), y = ix2 a b := ⟨y 0, y 1, by funext a; fin_cases a <;> rfl⟩
    rw [after0_7]
    refine (point7 m c t ht a b).trans ?_
    refine congrArg₂ (val7 (m ((c : Thread nD τ).loc main_arg3)) (m ((c : Thread nD τ).loc main_arg1)) (m ((c : Thread nD τ).loc main_arg2))) ?_ ?_
    · apply Fin.ext; blk_simp [h.2.2.2.2.2.2.2.1]
    · apply Fin.ext; blk_simp [h.2.2.2.2.2.2.2.1]; exact congrArg (· + _) (mul_comm _ _)
  exact congrFun e (ix2 i j)

theorem same7 (c : Dev nD) (x0 : FVec Ideal S900x1024 .f32) (x1 x2 : FVec Ideal S512x1024 .f32) (x3 x4 : FVec Ideal S900x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.Reference21Ideal.Read.val_main_v6 (F := Ideal) x1 x2 x3 = (dats m 0 c).arrAt 7 cfg0.N := by
  subst e0 e1 e2 e3 e4
  exact ext2 (a := 900) (b := 1024) fun i j => (refM _ _ _ i j).trans (final7 m c i j).symm

/-- The second moment, at a point's block. -/
theorem point8 (c : Dev nD) (t : Fin cfg0.N) (ht : t.val < 4) (i : Fin 900) (j : Fin 256) :
    (show FVec Ideal S900x256 .f32 from (outsAt0 m c t).2.2.2) (ix2 i j)
      = val8 (m ((c : Thread nD τ).loc main_arg4)) (m ((c : Thread nD τ).loc main_arg1)) (m ((c : Thread nD τ).loc main_arg2)) i ⟨256 * t.val + j, by omega⟩ := by
  frame_out
  exact (pay5 _ _ i j).trans (congrArg₂ spread (rows m c t ht i j) (col4 m c t i j ht))

/-- The second moment the kernel leaves: the blocks cover the array. -/
theorem final8 (c : Dev nD) (i : Fin 900) (j : Fin 1024) :
    (show FVec Ideal S900x1024 .f32 from (dats m 0 c).arrAt 8 (cfgs 0).N) (ix2 i j)
      = val8 (m ((c : Thread nD τ).loc main_arg4)) (m ((c : Thread nD τ).loc main_arg1)) (m ((c : Thread nD τ).loc main_arg2)) i j := by
  have e : (dats m 0 c).arrAt 8 (cfgs 0).N = (show FVec Ideal S900x1024 .f32 from fun k => val8 (m ((c : Thread nD τ).loc main_arg4)) (m ((c : Thread nD τ).loc main_arg1)) (m ((c : Thread nD τ).loc main_arg2)) (k 0) (k 1)) := by
    refine (dats m 0 c).arrAt_eq_of_covers 8 _ (by decide +kernel) fun t _ y => ?_
    have h := idx t
    have ht := h.2.2.2.2.2.2.2.2.2
    blk_simp
    obtain ⟨a, b, rfl⟩ : ∃ (a : Fin 900) (b : Fin 256), y = ix2 a b := ⟨y 0, y 1, by funext a; fin_cases a <;> rfl⟩
    rw [after0_8]
    refine (point8 m c t ht a b).trans ?_
    refine congrArg₂ (val8 (m ((c : Thread nD τ).loc main_arg4)) (m ((c : Thread nD τ).loc main_arg1)) (m ((c : Thread nD τ).loc main_arg2))) ?_ ?_
    · apply Fin.ext; blk_simp [h.2.2.2.2.2.2.2.2.1]
    · apply Fin.ext; blk_simp [h.2.2.2.2.2.2.2.2.1]; exact congrArg (· + _) (mul_comm _ _)
  exact congrFun e (ix2 i j)

theorem same8 (c : Dev nD) (x0 : FVec Ideal S900x1024 .f32) (x1 x2 : FVec Ideal S512x1024 .f32) (x3 x4 : FVec Ideal S900x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.Reference21Ideal.Read.val_main_v12 (F := Ideal) x1 x2 x4 = (dats m 0 c).arrAt 8 cfg0.N := by
  subst e0 e1 e2 e3 e4
  exact ext2 (a := 900) (b := 1024) fun i j => (refV _ _ _ i j).trans (final8 m c i j).symm

theorem algebraic : Cert.algebraic_Kernel21Ideal_Reference21Ideal := by
  intro m g m' g' _ hargs
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel21Ideal.Value.run_blocks m g,
    (θ_run _ _ _).mono (fun r h c => ?_) (Cert.Reference21Ideal.Value.run m' g')⟩
  obtain ⟨hg, hd, hm, hv, ha⟩ := h c
  obtain ⟨e0, e1, e2, e3, e4⟩ := hargs c
  exact ⟨(hg.trans (Cert.Reference21Ideal.Read.val_main_v1_eq _ _)).trans (same5 m c _ _ _ _ _ e0 e1 e2 e3 e4),
    (hd.trans (Cert.Reference21Ideal.Read.val_main_v25_eq _ _ _ _ _)).trans (same6 m c _ _ _ _ _ e0 e1 e2 e3 e4),
    (hm.trans (Cert.Reference21Ideal.Read.val_main_v6_eq _ _ _)).trans (same7 m c _ _ _ _ _ e0 e1 e2 e3 e4),
    (hv.trans (Cert.Reference21Ideal.Read.val_main_v12_eq _ _ _)).trans (same8 m c _ _ _ _ _ e0 e1 e2 e3 e4), ha⟩

theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run m ρ)

end Cert.Other

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Pre_finite16
public import proofs.«01_k».proof.Proof.Conv.Claim
public import proofs.«01_k».proof.Proof.Products.Dact
public import proofs.«01_k».proof.Proof.Products.Dwdown
public import proofs.«01_k».proof.Proof.Products.Dwup
public import proofs.«01_k».proof.Proof.Products.Dwout
public import proofs.«01_k».proof.Proof.Products.Dmix
public import proofs.«01_k».proof.Proof.Products.Dwin
public import proofs.«01_k».proof.Proof.Products.Dh
public import proofs.«01_k».proof.Proof.Products.Up
public import proofs.«01_k».proof.Proof.Products.Proj
public import proofs.«01_k».proof.Proof.Products.Out
public import proofs.«01_k».proof.Proof.Products.Dh2
public import proofs.«01_k».proof.Proof.Products.Down
public import proofs.«01_k».proof.Proof.Products.PreNorm
public import proofs.«01_k».proof.Proof.Products.FoxNorm
public import proofs.«01_k».proof.Proof.Products.Gates
public import proofs.«01_k».proof.Proof.Products.FwdNorm
public import proofs.«01_k».proof.Proof.Products.FwdConv
public import proofs.«01_k».proof.Proof.Products.FwdGates
public import proofs.«01_k».proof.Proof.Products.Input
public import proofs.«01_k».proof.Proof.Products.Other
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Pre_finite.Gen.facts, Cert.Pre_finite16.Gen.facts, by
  exact ⟨fun m ρ _ => Cert.Kernel.Gen.frame m ρ,
    fun m ρ _ => Cert.KernelIdeal.Gen.frame m ρ,
    fun m ρ _ => Cert.KernelIdeal.Gen.frame m ρ,
    Cert.Conv.frame_reference,
    fun m ρ _ => Cert.Conv.frame_reference m ρ trivial,
    fun m ρ _ => Cert.Kernel2.Gen.frame m ρ,
    fun m ρ _ => Cert.Kernel2Ideal.Gen.frame m ρ,
    Cert.Dact.frame_reference,
    fun m ρ _ => Cert.Kernel3.Gen.frame m ρ,
    fun m ρ _ => Cert.Kernel3Ideal.Gen.frame m ρ,
    Cert.Dwdown.frame_reference,
    fun m ρ _ => Cert.Kernel4.Gen.frame m ρ,
    fun m ρ _ => Cert.Kernel4Ideal.Gen.frame m ρ,
    Cert.Dwup.frame_reference,
    fun m ρ _ => Cert.Kernel5.Gen.frame m ρ,
    fun m ρ _ => Cert.Kernel5Ideal.Gen.frame m ρ,
    Cert.Dwout.frame_reference,
    fun m ρ _ => Cert.Kernel6.Gen.frame m ρ,
    fun m ρ _ => Cert.Kernel6Ideal.Gen.frame m ρ,
    Cert.Dmix.frame_reference,
    fun m ρ _ => Cert.Kernel7.Gen.frame m ρ,
    fun m ρ _ => Cert.Kernel7Ideal.Gen.frame m ρ,
    Cert.Dwin.frame_reference,
    fun m ρ _ => Cert.Kernel8.Gen.frame m ρ,
    fun m ρ _ => Cert.Kernel8Ideal.Gen.frame m ρ,
    Cert.Dh.frame_reference,
    fun m ρ _ => Cert.Kernel9.Gen.frame m ρ,
    fun m ρ _ => Cert.Kernel9Ideal.Gen.frame m ρ,
    Cert.Up.frame_reference,
    fun m ρ _ => Cert.Kernel10.Gen.frame m ρ,
    fun m ρ _ => Cert.Kernel10Ideal.Gen.frame m ρ,
    Cert.Proj.frame_reference,
    fun m ρ _ => Cert.Kernel11.Gen.frame m ρ,
    fun m ρ _ => Cert.Kernel11Ideal.Gen.frame m ρ,
    Cert.Out.frame_reference,
    fun m ρ _ => Cert.Kernel12.Gen.frame m ρ,
    fun m ρ _ => Cert.Kernel12Ideal.Gen.frame m ρ,
    Cert.Dh2.frame_reference,
    fun m ρ _ => Cert.Kernel13.Gen.frame m ρ,
    fun m ρ _ => Cert.Kernel13Ideal.Gen.frame m ρ,
    Cert.Down.frame_reference,
    fun m ρ _ => Cert.Kernel14.Gen.frame m ρ,
    fun m ρ _ => Cert.Kernel14Ideal.Gen.frame m ρ,
    Cert.PreNorm.frame_reference,
    fun m ρ _ => Cert.Kernel15.Gen.frame m ρ,
    fun m ρ _ => Cert.Kernel15Ideal.Gen.frame m ρ,
    Cert.FoxNorm.frame_reference,
    fun m ρ _ => Cert.Kernel16.Gen.frame m ρ,
    fun m ρ _ => Cert.Kernel16Ideal.Gen.frame m ρ,
    fun m ρ _ => Cert.Kernel16Ideal.Gen.frame m ρ,
    Cert.Gates.frame_reference,
    fun m ρ _ => Cert.Gates.frame_reference m ρ trivial,
    fun m ρ _ => Cert.Kernel17.Gen.frame m ρ,
    fun m ρ _ => Cert.Kernel17Ideal.Gen.frame m ρ,
    Cert.FwdNorm.frame_reference,
    fun m ρ _ => Cert.Kernel18.Gen.frame m ρ,
    fun m ρ _ => Cert.Kernel18Ideal.Gen.frame m ρ,
    Cert.FwdConv.frame_reference,
    fun m ρ _ => Cert.Kernel19.Gen.frame m ρ,
    fun m ρ _ => Cert.Kernel19Ideal.Gen.frame m ρ,
    Cert.FwdGates.frame_reference,
    fun m ρ _ => Cert.Kernel20.Gen.frame m ρ,
    fun m ρ _ => Cert.Kernel20Ideal.Gen.frame m ρ,
    Cert.Input.frame_reference,
    fun m ρ _ => Cert.Kernel21.Gen.frame m ρ,
    fun m ρ _ => Cert.Kernel21Ideal.Gen.frame m ρ,
    Cert.Other.frame_reference,
    trivial,
    Cert.Conv.algebraic,
    trivial,
    Cert.Dact.algebraic,
    trivial,
    Cert.Dwdown.algebraic,
    trivial,
    Cert.Dwup.algebraic,
    trivial,
    Cert.Dwout.algebraic,
    trivial,
    Cert.Dmix.algebraic,
    trivial,
    Cert.Dwin.algebraic,
    trivial,
    Cert.Dh.algebraic,
    trivial,
    Cert.Up.algebraic,
    trivial,
    Cert.Proj.algebraic,
    trivial,
    Cert.Out.algebraic,
    trivial,
    Cert.Dh2.algebraic,
    trivial,
    Cert.Down.algebraic,
    trivial,
    Cert.PreNorm.algebraic,
    trivial,
    Cert.FoxNorm.algebraic,
    trivial,
    Cert.Gates.algebraic,
    trivial,
    Cert.FwdNorm.algebraic,
    trivial,
    Cert.FwdConv.algebraic,
    trivial,
    Cert.FwdGates.algebraic,
    trivial,
    Cert.Input.algebraic,
    trivial,
    Cert.Other.algebraic⟩⟩

end Cert.Proof

end
